-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_finite [hPre_mla_finite : Cert.Pre_mla_finite.Facts] (m : (ℓ : Loc Cert.MlaIdeal.nD Cert.MlaIdeal.τ Cert.MlaIdeal.sig) → Buf (Elt Ideal) ℓ) : Prop :=
  ∀ c : Dev Cert.MlaIdeal.nD,
    (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))).1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))).2 = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_finite [hPre_mla_finite : Cert.Pre_mla_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))).1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))).2 = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_proj_finite [hPre_proj_finite : Cert.Pre_proj_finite.Facts] (m : (ℓ : Loc Cert.ProjIdeal.nD Cert.ProjIdeal.τ Cert.ProjIdeal.sig) → Buf (Elt Ideal) ℓ) : Prop :=
  ∀ c : Dev Cert.ProjIdeal.nD,
    (Cert.Pre_proj_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6))).1 = (fun _ => 1#1)
    ∧ (Cert.Pre_proj_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6))).2.1 = (fun _ => 1#1)
    ∧ (Cert.Pre_proj_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6))).2.2.1 = (fun _ => 1#1)
    ∧ (Cert.Pre_proj_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6))).2.2.2.1 = (fun _ => 1#1)
    ∧ (Cert.Pre_proj_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6))).2.2.2.2 = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_proj_finite [hPre_proj_finite : Cert.Pre_proj_finite.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_proj_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6))).1 = (fun _ => 1#1)
    ∧ (Cert.Pre_proj_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6))).2.1 = (fun _ => 1#1)
    ∧ (Cert.Pre_proj_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6))).2.2.1 = (fun _ => 1#1)
    ∧ (Cert.Pre_proj_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6))).2.2.2.1 = (fun _ => 1#1)
    ∧ (Cert.Pre_proj_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6))).2.2.2.2 = (fun _ => 1#1)

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnIdeal_mem_finite [hPre_mem_finite : Cert.Pre_mem_finite.Facts] (m : (ℓ : Loc Cert.MemAttnIdeal.nD Cert.MemAttnIdeal.τ Cert.MemAttnIdeal.sig) → Buf (Elt Ideal) ℓ) : Prop :=
  ∀ c : Dev Cert.MemAttnIdeal.nD,
    (Cert.Pre_mem_finite.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1)) (m ((c.tc : Thread Cert.MemAttnIdeal.nD Cert.MemAttnIdeal.τ).loc Cert.MemAttnIdeal.main_arg2))).1 = (fun _ => 1#1)
    ∧ (Cert.Pre_mem_finite.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1)) (m ((c.tc : Thread Cert.MemAttnIdeal.nD Cert.MemAttnIdeal.τ).loc Cert.MemAttnIdeal.main_arg2))).2 = (fun _ => 1#1)

def Pre_MemAttnRefIdeal (m : (ℓ : Loc Cert.MemAttnRefIdeal.nD Cert.MemAttnRefIdeal.τ Cert.MemAttnRefIdeal.sig) → Buf (Elt Ideal) ℓ) : Prop :=
  True

def Pre_MemAttnRefIdeal_mem_finite [hPre_mem_finite : Cert.Pre_mem_finite.Facts] (m : (ℓ : Loc Cert.MemAttnRefIdeal.nD Cert.MemAttnRefIdeal.τ Cert.MemAttnRefIdeal.sig) → Buf (Elt Ideal) ℓ) : Prop :=
  ∀ c : Dev Cert.MemAttnRefIdeal.nD,
    (Cert.Pre_mem_finite.fn (F := Ideal) (m ((c.tc : Thread Cert.MemAttnRefIdeal.nD Cert.MemAttnRefIdeal.τ).loc Cert.MemAttnRefIdeal.main_arg0)) (m ((c.tc : Thread Cert.MemAttnRefIdeal.nD Cert.MemAttnRefIdeal.τ).loc Cert.MemAttnRefIdeal.main_arg1)) (m ((c.tc : Thread Cert.MemAttnRefIdeal.nD Cert.MemAttnRefIdeal.τ).loc Cert.MemAttnRefIdeal.main_arg2))).1 = (fun _ => 1#1)
    ∧ (Cert.Pre_mem_finite.fn (F := Ideal) (m ((c.tc : Thread Cert.MemAttnRefIdeal.nD Cert.MemAttnRefIdeal.τ).loc Cert.MemAttnRefIdeal.main_arg0)) (m ((c.tc : Thread Cert.MemAttnRefIdeal.nD Cert.MemAttnRefIdeal.τ).loc Cert.MemAttnRefIdeal.main_arg1)) (m ((c.tc : Thread Cert.MemAttnRefIdeal.nD Cert.MemAttnRefIdeal.τ).loc Cert.MemAttnRefIdeal.main_arg2))).2 = (fun _ => 1#1)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_mla_finite [hMlaIdeal : Cert.MlaIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_MlaRefIdeal_pre_mla_finite [hMlaRefIdeal : Cert.MlaRefIdeal.Facts] [hPre_mla_finite : Cert.Pre_mla_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjIdeal_pre_proj_finite [hProjIdeal : Cert.ProjIdeal.Facts] [hPre_proj_finite : Cert.Pre_proj_finite.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_proj_finite m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def quiescent_ProjRefIdeal_pre_proj_finite [hProjRefIdeal : Cert.ProjRefIdeal.Facts] [hPre_proj_finite : Cert.Pre_proj_finite.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_proj_finite m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1)
      ∧ r.2.mem ((c.tc : Thread Cert.MemAttn.nD Cert.MemAttn.τ).loc Cert.MemAttn.main_arg2) = m ((c.tc : Thread Cert.MemAttn.nD Cert.MemAttn.τ).loc Cert.MemAttn.main_arg2))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2))
      ∧ r.2.sem = fun _ => 0)

def quiescent_MemAttnIdeal_pre_mem_finite [hMemAttnIdeal : Cert.MemAttnIdeal.Facts] [hPre_mem_finite : Cert.Pre_mem_finite.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal_mem_finite m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2))
      ∧ r.2.sem = fun _ => 0)

def quiescent_MemAttnRefIdeal_pre_mem_finite [hMemAttnRefIdeal : Cert.MemAttnRefIdeal.Facts] [hPre_mem_finite : Cert.Pre_mem_finite.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal_mem_finite m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2))
      ∧ r.2.sem = fun _ => 0)

def preserves_Mla_MlaIdeal : Prop :=
  IdealRules.named_const.Statement Cert.MlaIdeal.κ "mask" .f32 0xF149F2CA#32 ⊥

def algebraic_MlaIdeal_MlaRefIdeal_pre_mla_finite [hMlaIdeal : Cert.MlaIdeal.Facts] [hMlaRefIdeal : Cert.MlaRefIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_mla_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v0)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v0) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v32) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v29) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def preserves_Proj_ProjIdeal : Prop :=
  True

def algebraic_ProjIdeal_ProjRefIdeal_pre_proj_finite [hProjIdeal : Cert.ProjIdeal.Facts] [hProjRefIdeal : Cert.ProjRefIdeal.Facts] [hPre_proj_finite : Cert.Pre_proj_finite.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_proj_finite m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v52_0)) (v1 : (c : Dev Cert.ProjIdeal.nD) → Buf (Elt Ideal) ((c.tc : Thread Cert.ProjIdeal.nD Cert.ProjIdeal.τ).loc Cert.ProjIdeal.main_v52_1)) (v2 : (c : Dev Cert.ProjIdeal.nD) → Buf (Elt Ideal) ((c.tc : Thread Cert.ProjIdeal.nD Cert.ProjIdeal.τ).loc Cert.ProjIdeal.main_v52_2)) (v3 : (c : Dev Cert.ProjIdeal.nD) → Buf (Elt Ideal) ((c.tc : Thread Cert.ProjIdeal.nD Cert.ProjIdeal.τ).loc Cert.ProjIdeal.main_v52_3)) (v4 : (c : Dev Cert.ProjIdeal.nD) → Buf (Elt Ideal) ((c.tc : Thread Cert.ProjIdeal.nD Cert.ProjIdeal.τ).loc Cert.ProjIdeal.main_v52_4)) (v5 : (c : Dev Cert.ProjIdeal.nD) → Buf (Elt Ideal) ((c.tc : Thread Cert.ProjIdeal.nD Cert.ProjIdeal.τ).loc Cert.ProjIdeal.main_v52_5)) (v6 : (c : Dev Cert.ProjIdeal.nD) → Buf (Elt Ideal) ((c.tc : Thread Cert.ProjIdeal.nD Cert.ProjIdeal.τ).loc Cert.ProjIdeal.main_v52_6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v52_0) = v0 c
          ∧ r.2.mem ((c.tc : Thread Cert.ProjIdeal.nD Cert.ProjIdeal.τ).loc Cert.ProjIdeal.main_v52_1) = v1 c
          ∧ r.2.mem ((c.tc : Thread Cert.ProjIdeal.nD Cert.ProjIdeal.τ).loc Cert.ProjIdeal.main_v52_2) = v2 c
          ∧ r.2.mem ((c.tc : Thread Cert.ProjIdeal.nD Cert.ProjIdeal.τ).loc Cert.ProjIdeal.main_v52_3) = v3 c
          ∧ r.2.mem ((c.tc : Thread Cert.ProjIdeal.nD Cert.ProjIdeal.τ).loc Cert.ProjIdeal.main_v52_4) = v4 c
          ∧ r.2.mem ((c.tc : Thread Cert.ProjIdeal.nD Cert.ProjIdeal.τ).loc Cert.ProjIdeal.main_v52_5) = v5 c
          ∧ r.2.mem ((c.tc : Thread Cert.ProjIdeal.nD Cert.ProjIdeal.τ).loc Cert.ProjIdeal.main_v52_6) = v6 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v129) = v0 c
          ∧ r.2.mem ((c.tc : Thread Cert.ProjRefIdeal.nD Cert.ProjRefIdeal.τ).loc Cert.ProjRefIdeal.main_v130) = v1 c
          ∧ r.2.mem ((c.tc : Thread Cert.ProjRefIdeal.nD Cert.ProjRefIdeal.τ).loc Cert.ProjRefIdeal.main_v131) = v2 c
          ∧ r.2.mem ((c.tc : Thread Cert.ProjRefIdeal.nD Cert.ProjRefIdeal.τ).loc Cert.ProjRefIdeal.main_v132) = v3 c
          ∧ r.2.mem ((c.tc : Thread Cert.ProjRefIdeal.nD Cert.ProjRefIdeal.τ).loc Cert.ProjRefIdeal.main_v133) = v4 c
          ∧ r.2.mem ((c.tc : Thread Cert.ProjRefIdeal.nD Cert.ProjRefIdeal.τ).loc Cert.ProjRefIdeal.main_v134) = v5 c
          ∧ r.2.mem ((c.tc : Thread Cert.ProjRefIdeal.nD Cert.ProjRefIdeal.τ).loc Cert.ProjRefIdeal.main_v135) = v6 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v2_0)) (v1 : (c : Dev Cert.MemKvIdeal.nD) → Buf (Elt Ideal) ((c.tc : Thread Cert.MemKvIdeal.nD Cert.MemKvIdeal.τ).loc Cert.MemKvIdeal.main_v2_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v2_0) = v0 c
          ∧ r.2.mem ((c.tc : Thread Cert.MemKvIdeal.nD Cert.MemKvIdeal.τ).loc Cert.MemKvIdeal.main_v2_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v17) = v0 c
          ∧ r.2.mem ((c.tc : Thread Cert.MemKvRefIdeal.nD Cert.MemKvRefIdeal.τ).loc Cert.MemKvRefIdeal.main_v19) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_MemAttn_MemAttnIdeal : Prop :=
  True

def algebraic_MemAttnIdeal_MemAttnRefIdeal_pre_mem_finite [hMemAttnIdeal : Cert.MemAttnIdeal.Facts] [hMemAttnRefIdeal : Cert.MemAttnRefIdeal.Facts] [hPre_mem_finite : Cert.Pre_mem_finite.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal_mem_finite m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)
      ∧ m' ((c.tc : Thread Cert.MemAttnRefIdeal.nD Cert.MemAttnRefIdeal.τ).loc Cert.MemAttnRefIdeal.main_arg2) = m ((c.tc : Thread Cert.MemAttnIdeal.nD Cert.MemAttnIdeal.τ).loc Cert.MemAttnIdeal.main_arg2)) →
    ∃ (v0 : (c : Dev Cert.MemAttnIdeal.nD) → Buf (Elt Ideal) ((c.tc : Thread Cert.MemAttnIdeal.nD Cert.MemAttnIdeal.τ).loc Cert.MemAttnIdeal.main_v0)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v0) = v0 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
          ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v24) = v0 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1)
          ∧ r.2.mem ((c.tc : Thread Cert.MemAttnRefIdeal.nD Cert.MemAttnRefIdeal.τ).loc Cert.MemAttnRefIdeal.main_arg2) = m' ((c.tc : Thread Cert.MemAttnRefIdeal.nD Cert.MemAttnRefIdeal.τ).loc Cert.MemAttnRefIdeal.main_arg2))

def Claim : Prop :=
  ∃ (hMla : Cert.Mla.Facts) (hMlaIdeal : Cert.MlaIdeal.Facts) (hMlaRefIdeal : Cert.MlaRefIdeal.Facts) (hOut : Cert.Out.Facts) (hOutIdeal : Cert.OutIdeal.Facts) (hOutRefIdeal : Cert.OutRefIdeal.Facts) (hProj : Cert.Proj.Facts) (hProjIdeal : Cert.ProjIdeal.Facts) (hProjRefIdeal : Cert.ProjRefIdeal.Facts) (hMemKv : Cert.MemKv.Facts) (hMemKvIdeal : Cert.MemKvIdeal.Facts) (hMemKvRefIdeal : Cert.MemKvRefIdeal.Facts) (hMemAttn : Cert.MemAttn.Facts) (hMemAttnIdeal : Cert.MemAttnIdeal.Facts) (hMemAttnRefIdeal : Cert.MemAttnRefIdeal.Facts) (hPre_mla_finite : Cert.Pre_mla_finite.Facts) (hPre_proj_finite : Cert.Pre_proj_finite.Facts) (hPre_mem_finite : Cert.Pre_mem_finite.Facts),
    quiescent_Mla (hMla := hMla)
    ∧ quiescent_MlaIdeal (hMlaIdeal := hMlaIdeal)
    ∧ quiescent_MlaIdeal_pre_mla_finite (hMlaIdeal := hMlaIdeal) (hPre_mla_finite := hPre_mla_finite)
    ∧ quiescent_MlaRefIdeal (hMlaRefIdeal := hMlaRefIdeal)
    ∧ quiescent_MlaRefIdeal_pre_mla_finite (hMlaRefIdeal := hMlaRefIdeal) (hPre_mla_finite := hPre_mla_finite)
    ∧ quiescent_Out (hOut := hOut)
    ∧ quiescent_OutIdeal (hOutIdeal := hOutIdeal)
    ∧ quiescent_OutRefIdeal (hOutRefIdeal := hOutRefIdeal)
    ∧ quiescent_Proj (hProj := hProj)
    ∧ quiescent_ProjIdeal (hProjIdeal := hProjIdeal)
    ∧ quiescent_ProjIdeal_pre_proj_finite (hProjIdeal := hProjIdeal) (hPre_proj_finite := hPre_proj_finite)
    ∧ quiescent_ProjRefIdeal (hProjRefIdeal := hProjRefIdeal)
    ∧ quiescent_ProjRefIdeal_pre_proj_finite (hProjRefIdeal := hProjRefIdeal) (hPre_proj_finite := hPre_proj_finite)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_MemAttn (hMemAttn := hMemAttn)
    ∧ quiescent_MemAttnIdeal (hMemAttnIdeal := hMemAttnIdeal)
    ∧ quiescent_MemAttnIdeal_pre_mem_finite (hMemAttnIdeal := hMemAttnIdeal) (hPre_mem_finite := hPre_mem_finite)
    ∧ quiescent_MemAttnRefIdeal (hMemAttnRefIdeal := hMemAttnRefIdeal)
    ∧ quiescent_MemAttnRefIdeal_pre_mem_finite (hMemAttnRefIdeal := hMemAttnRefIdeal) (hPre_mem_finite := hPre_mem_finite)
    ∧ preserves_Mla_MlaIdeal
    ∧ algebraic_MlaIdeal_MlaRefIdeal_pre_mla_finite (hMlaIdeal := hMlaIdeal) (hMlaRefIdeal := hMlaRefIdeal) (hPre_mla_finite := hPre_mla_finite)
    ∧ preserves_Out_OutIdeal
    ∧ algebraic_OutIdeal_OutRefIdeal (hOutIdeal := hOutIdeal) (hOutRefIdeal := hOutRefIdeal)
    ∧ preserves_Proj_ProjIdeal
    ∧ algebraic_ProjIdeal_ProjRefIdeal_pre_proj_finite (hProjIdeal := hProjIdeal) (hProjRefIdeal := hProjRefIdeal) (hPre_proj_finite := hPre_proj_finite)
    ∧ preserves_MemKv_MemKvIdeal
    ∧ algebraic_MemKvIdeal_MemKvRefIdeal (hMemKvIdeal := hMemKvIdeal) (hMemKvRefIdeal := hMemKvRefIdeal)
    ∧ preserves_MemAttn_MemAttnIdeal
    ∧ algebraic_MemAttnIdeal_MemAttnRefIdeal_pre_mem_finite (hMemAttnIdeal := hMemAttnIdeal) (hMemAttnRefIdeal := hMemAttnRefIdeal) (hPre_mem_finite := hPre_mem_finite)
-- ==== Pre_mem_finite.lean ====
abbrev S2x4096x1024 : Shape := ⟨3, ![2, 4096, 1024]⟩
abbrev S2x256x512 : Shape := ⟨3, ![2, 256, 512]⟩
abbrev S_ : Shape := ⟨0, ![]⟩

class Facts : Prop where
  bitsLt_bf16_f32 : FTy.bits .bf16 < FTy.bits .f32
  bcast_S_S2x4096x1024 : S_.BroadcastsInDim S2x4096x1024 (![] : Fin 0 → Fin S2x4096x1024.rank)
  bcast_S_S2x256x512 : S_.BroadcastsInDim S2x256x512 (![] : Fin 0 → Fin S2x256x512.rank)

variable [Facts]

def fn {F : FTy → Type} [FloatOps F] (main_arg0 : FVec F S2x4096x1024 .bf16) (main_arg1 : FVec F S2x256x512 .bf16) (main_arg2 : FVec F S2x256x512 .bf16) : IVec S2x4096x1024 1 × IVec S2x256x512 1 :=
  let main_v0 : FVec F S2x4096x1024 .f32 := (extf .f32 · bitsLt_bf16_f32) main_arg0
  let main_v1 : FVec F S2x4096x1024 .f32 := Host.absf main_v0
  let main_cst : FVec F S_ .f32 := constant S_ .f32 0x7F800000#32
  let main_v2 : FVec F S2x4096x1024 .f32 := broadcastInDim S2x4096x1024 ![] bcast_S_S2x4096x1024 main_cst
  let main_v3 : IVec S2x4096x1024 1 := cmpf .olt main_v1 main_v2
  let main_v4 : FVec F S2x256x512 .f32 := (extf .f32 · bitsLt_bf16_f32) main_arg1
  let main_v5 : FVec F S2x256x512 .f32 := Host.absf main_v4
  let main_cst_0 : FVec F S_ .f32 := constant S_ .f32 0x7F800000#32
  let main_v6 : FVec F S2x256x512 .f32 := broadcastInDim S2x256x512 ![] bcast_S_S2x256x512 main_cst_0
  let main_v7 : IVec S2x256x512 1 := cmpf .olt main_v5 main_v6
  (main_v3, main_v7)
-- ==== Pre_mla_finite.lean ====
abbrev S2x4096x2048 : Shape := ⟨3, ![2, 4096, 2048]⟩
abbrev S2x4096x1024 : Shape := ⟨3, ![2, 4096, 1024]⟩
abbrev S_ : Shape := ⟨0, ![]⟩

class Facts : Prop where
  bitsLt_bf16_f32 : FTy.bits .bf16 < FTy.bits .f32
  bcast_S_S2x4096x2048 : S_.BroadcastsInDim S2x4096x2048 (![] : Fin 0 → Fin S2x4096x2048.rank)

variable [Facts]

def fn {F : FTy → Type} [FloatOps F] (main_arg0 : FVec F S2x4096x2048 .bf16) (main_arg1 : FVec F S2x4096x2048 .bf16) (main_arg2 : FVec F S2x4096x1024 .bf16) : IVec S2x4096x2048 1 × IVec S2x4096x2048 1 :=
  let main_v0 : FVec F S2x4096x2048 .f32 := (extf .f32 · bitsLt_bf16_f32) main_arg0
  let main_v1 : FVec F S2x4096x2048 .f32 := Host.absf main_v0
  let main_cst : FVec F S_ .f32 := constant S_ .f32 0x7F800000#32
  let main_v2 : FVec F S2x4096x2048 .f32 := broadcastInDim S2x4096x2048 ![] bcast_S_S2x4096x2048 main_cst
  let main_v3 : IVec S2x4096x2048 1 := cmpf .olt main_v1 main_v2
  let main_v4 : FVec F S2x4096x2048 .f32 := (extf .f32 · bitsLt_bf16_f32) main_arg1
  let main_v5 : FVec F S2x4096x2048 .f32 := Host.absf main_v4
  let main_cst_0 : FVec F S_ .f32 := constant S_ .f32 0x7F800000#32
  let main_v6 : FVec F S2x4096x2048 .f32 := broadcastInDim S2x4096x2048 ![] bcast_S_S2x4096x2048 main_cst_0
  let main_v7 : IVec S2x4096x2048 1 := cmpf .olt main_v5 main_v6
  (main_v3, main_v7)
-- ==== Pre_proj_finite.lean ====
abbrev S2x4096x2048 : Shape := ⟨3, ![2, 4096, 2048]⟩
abbrev S1x2048 : Shape := ⟨2, ![1, 2048]⟩
abbrev S1x2048x4160 : Shape := ⟨3, ![1, 2048, 4160]⟩
abbrev S1x512 : Shape := ⟨2, ![1, 512]⟩
abbrev S1x256 : Shape := ⟨2, ![1, 256]⟩
abbrev S1x512x1536 : Shape := ⟨3, ![1, 512, 1536]⟩
abbrev S1x256x2048 : Shape := ⟨3, ![1, 256, 2048]⟩
abbrev S_ : Shape := ⟨0, ![]⟩

class Facts : Prop where
  bcast_S_S2x4096x2048 : S_.BroadcastsInDim S2x4096x2048 (![] : Fin 0 → Fin S2x4096x2048.rank)
  bcast_S_S1x2048 : S_.BroadcastsInDim S1x2048 (![] : Fin 0 → Fin S1x2048.rank)
  bcast_S_S1x2048x4160 : S_.BroadcastsInDim S1x2048x4160 (![] : Fin 0 → Fin S1x2048x4160.rank)
  bcast_S_S1x512 : S_.BroadcastsInDim S1x512 (![] : Fin 0 → Fin S1x512.rank)
  bcast_S_S1x512x1536 : S_.BroadcastsInDim S1x512x1536 (![] : Fin 0 → Fin S1x512x1536.rank)

variable [Facts]

def fn {F : FTy → Type} [FloatOps F] (main_arg0 : FVec F S2x4096x2048 .f32) (main_arg1 : FVec F S1x2048 .f32) (main_arg2 : FVec F S1x2048x4160 .f32) (main_arg3 : FVec F S1x512 .f32) (main_arg4 : FVec F S1x256 .f32) (main_arg5 : FVec F S1x512x1536 .f32) (main_arg6 : FVec F S1x256x2048 .f32) : IVec S2x4096x2048 1 × IVec S1x2048 1 × IVec S1x2048x4160 1 × IVec S1x512 1 × IVec S1x512x1536 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S1x2048x4160 .f32 := Host.absf main_arg2
  let main_cst_1 : FVec F S_ .f32 := constant S_ .f32 0x7F800000#32
  let main_v7 : FVec F S1x2048x4160 .f32 := broadcastInDim S1x2048x4160 ![] bcast_S_S1x2048x4160 main_cst_1
  let main_v8 : IVec S1x2048x4160 1 := cmpf .olt main_v6 main_v7
  let main_v9 : FVec F S1x512 .f32 := Host.absf main_arg3
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_v12 : FVec F S1x512x1536 .f32 := Host.absf main_arg5
  let main_cst_3 : FVec F S_ .f32 := constant S_ .f32 0x7F800000#32
  let main_v13 : FVec F S1x512x1536 .f32 := broadcastInDim S1x512x1536 ![] bcast_S_S1x512x1536 main_cst_3
  let main_v14 : IVec S1x512x1536 1 := cmpf .olt main_v12 main_v13
  (main_v2, main_v5, main_v8, main_v11, main_v14)
-- ==== Mla.lean ====
abbrev S2x4096x2048 : Shape := ⟨3, ![2, 4096, 2048]⟩
abbrev S2x4096x1024 : Shape := ⟨3, ![2, 4096, 1024]⟩
abbrev S1x256x256 : Shape := ⟨3, ![1, 256, 256]⟩
abbrev S1x4096x256 : Shape := ⟨3, ![1, 4096, 256]⟩
abbrev S1x4096x128 : Shape := ⟨3, ![1, 4096, 128]⟩
abbrev S1x256x128 : Shape := ⟨3, ![1, 256, 128]⟩
abbrev S256x256 : Shape := ⟨2, ![256, 256]⟩
abbrev S256x1 : Shape := ⟨2, ![256, 1]⟩
abbrev S256x128 : Shape := ⟨2, ![256, 128]⟩
abbrev S256 : Shape := ⟨1, ![256]⟩

abbrev nBuf : Space → Nat
  | .hbm => 4
  | .vmem => 8
  | .smem => 0
  | _ => 0

abbrev bufTy : (tb : Table) → Fin (tcTables nBuf tb) → BufTy
  | .hbm, ⟨0, _⟩ => ⟨S2x4096x2048, .bf16⟩
  | .hbm, ⟨1, _⟩ => ⟨S2x4096x2048, .bf16⟩
  | .hbm, ⟨2, _⟩ => ⟨S2x4096x1024, .bf16⟩
  | .hbm, ⟨3, _⟩ => ⟨S2x4096x1024, .bf16⟩
  | .local _ .vmem, ⟨0, _⟩ => ⟨S1x256x256, .bf16⟩
  | .local _ .vmem, ⟨1, _⟩ => ⟨S1x256x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x256x128, .bf16⟩
  | .local _ .vmem, ⟨7, _⟩ => ⟨S1x256x128, .bf16⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 16], ![false, false, false]⟩

def k0_mult1 (i : grid0.Coords) : BitVec 32 :=
  let arg2 : BitVec 32 := BitVec.ofNat 32 (i 2).val
  let c256_i32 : BitVec 32 := 256#32
  let v2 : BitVec 32 := Scalar.muli arg2 c256_i32
  v2
def k0_off1 (i : grid0.Coords) : Fin 3 → Nat :=
  let c0_5 : Index := 0#32
  let arg2 : BitVec 32 := BitVec.ofNat 32 (i 2).val
  let c256_i32 : BitVec 32 := 256#32
  let v2 : BitVec 32 := Scalar.muli arg2 c256_i32
  let v3 : BitVec 32 := v2
  let v13 : Index := Scalar.indexCast v3
  let c0_6 : Index := 0#32
  ![0, v13.toNat, 0]
def k0_off2 (i : grid0.Coords) : Fin 3 → Nat :=
  let c0_7 : Index := 0#32
  let arg2 : BitVec 32 := BitVec.ofNat 32 (i 2).val
  let c256_i32 : BitVec 32 := 256#32
  let v2 : BitVec 32 := Scalar.muli arg2 c256_i32
  let v3 : BitVec 32 := v2
  let v16 : Index := Scalar.indexCast v3
  let c0_8 : Index := 0#32
  ![0, v16.toNat, 0]
@[reducible] def k0_t1_loop (i : grid0.Coords) : Scf.Loop 32 :=
  let c0_i32 : BitVec 32 := 0#32
  let arg2 : BitVec 32 := BitVec.ofNat 32 (i 2).val
  let c1_i32 : BitVec 32 := 1#32
  let v42 : BitVec 32 := Scalar.muli arg2 c1_i32
  let v43 : BitVec 32 := Scalar.subi v42 c0_i32
  let c1_i32_15 : BitVec 32 := 1#32
  let v45 : BitVec 32 := Scalar.divsi v43 c1_i32_15
  let v46 : BitVec 32 := Scalar.muli v45 c1_i32_15
  let v47 : BitVec 32 := Scalar.addi c0_i32 v46
  let c1_i32_16 : BitVec 32 := 1#32
  ⟨c0_i32, v47, c1_i32_16⟩
def k0_mult2 (i : grid0.Coords) (k0_t1 : Fin (k0_t1_loop i).trips) : BitVec 32 :=
  let c0_i32 : BitVec 32 := 0#32
  let c1_i32_16 : BitVec 32 := 1#32
  let arg7 : BitVec 32 := Scf.iv c0_i32 c1_i32_16 k0_t1
  let c256_i32_21 : BitVec 32 := 256#32
  let v56 : BitVec 32 := Scalar.muli arg7 c256_i32_21
  v56
def k0_off3 (i : grid0.Coords) (k0_t1 : Fin (k0_t1_loop i).trips) : Fin 3 → Nat :=
  let c0_22 : Index := 0#32
  let c0_i32 : BitVec 32 := 0#32
  let c1_i32_16 : BitVec 32 := 1#32
  let arg7 : BitVec 32 := Scf.iv c0_i32 c1_i32_16 k0_t1
  let c256_i32_21 : BitVec 32 := 256#32
  let v56 : BitVec 32 := Scalar.muli arg7 c256_i32_21
  let v57 : BitVec 32 := v56
  let v58 : Index := Scalar.indexCast v57
  let c0_23 : Index := 0#32
  ![0, v58.toNat, 0]
def k0_off4 (i : grid0.Coords) (k0_t1 : Fin (k0_t1_loop i).trips) : Fin 3 → Nat :=
  let c0_24 : Index := 0#32
  let c0_i32 : BitVec 32 := 0#32
  let c1_i32_16 : BitVec 32 := 1#32
  let arg7 : BitVec 32 := Scf.iv c0_i32 c1_i32_16 k0_t1
  let c256_i32_21 : BitVec 32 := 256#32
  let v56 : BitVec 32 := Scalar.muli arg7 c256_i32_21
  let v57 : BitVec 32 := v56
  let v61 : Index := Scalar.indexCast v57
  let c0_25 : Index := 0#32
  ![0, v61.toNat, 0]
@[reducible] def k0_t2_loop (i : grid0.Coords) : Scf.Loop 32 :=
  let c0_i32 : BitVec 32 := 0#32
  let arg2 : BitVec 32 := BitVec.ofNat 32 (i 2).val
  let c1_i32 : BitVec 32 := 1#32
  let v42 : BitVec 32 := Scalar.muli arg2 c1_i32
  let v43 : BitVec 32 := Scalar.subi v42 c0_i32
  let c1_i32_15 : BitVec 32 := 1#32
  let v45 : BitVec 32 := Scalar.divsi v43 c1_i32_15
  let v46 : BitVec 32 := Scalar.muli v45 c1_i32_15
  let v47 : BitVec 32 := Scalar.addi c0_i32 v46
  let v44 : BitVec 32 := Scalar.addi c0_i32 v43
  let c1_i32_17 : BitVec 32 := 1#32
  ⟨v47, v44, c1_i32_17⟩
def k0_mult3 (i : grid0.Coords) (k0_t2 : Fin (k0_t2_loop i).trips) : BitVec 32 :=
  let c0_i32 : BitVec 32 := 0#32
  let arg2 : BitVec 32 := BitVec.ofNat 32 (i 2).val
  let c1_i32 : BitVec 32 := 1#32
  let v42 : BitVec 32 := Scalar.muli arg2 c1_i32
  let v43 : BitVec 32 := Scalar.subi v42 c0_i32
  let c1_i32_15 : BitVec 32 := 1#32
  let v45 : BitVec 32 := Scalar.divsi v43 c1_i32_15
  let v46 : BitVec 32 := Scalar.muli v45 c1_i32_15
  let v47 : BitVec 32 := Scalar.addi c0_i32 v46
  let c1_i32_17 : BitVec 32 := 1#32
  let arg7 : BitVec 32 := Scf.iv v47 c1_i32_17 k0_t2
  let c256_i32_21 : BitVec 32 := 256#32
  let v56 : BitVec 32 := Scalar.muli arg7 c256_i32_21
  v56
def k0_off5 (i : grid0.Coords) (k0_t2 : Fin (k0_t2_loop i).trips) : Fin 3 → Nat :=
  let c0_22 : Index := 0#32
  let c0_i32 : BitVec 32 := 0#32
  let arg2 : BitVec 32 := BitVec.ofNat 32 (i 2).val
  let c1_i32 : BitVec 32 := 1#32
  let v42 : BitVec 32 := Scalar.muli arg2 c1_i32
  let v43 : BitVec 32 := Scalar.subi v42 c0_i32
  let c1_i32_15 : BitVec 32 := 1#32
  let v45 : BitVec 32 := Scalar.divsi v43 c1_i32_15
  let v46 : BitVec 32 := Scalar.muli v45 c1_i32_15
  let v47 : BitVec 32 := Scalar.addi c0_i32 v46
  let c1_i32_17 : BitVec 32 := 1#32
  let arg7 : BitVec 32 := Scf.iv v47 c1_i32_17 k0_t2
  let c256_i32_21 : BitVec 32 := 256#32
  let v56 : BitVec 32 := Scalar.muli arg7 c256_i32_21
  let v57 : BitVec 32 := v56
  let v58 : Index := Scalar.indexCast v57
  let c0_23 : Index := 0#32
  ![0, v58.toNat, 0]
def k0_off6 (i : grid0.Coords) (k0_t2 : Fin (k0_t2_loop i).trips) : Fin 3 → Nat :=
  let c0_24 : Index := 0#32
  let c0_i32 : BitVec 32 := 0#32
  let arg2 : BitVec 32 := BitVec.ofNat 32 (i 2).val
  let c1_i32 : BitVec 32 := 1#32
  let v42 : BitVec 32 := Scalar.muli arg2 c1_i32
  let v43 : BitVec 32 := Scalar.subi v42 c0_i32
  let c1_i32_15 : BitVec 32 := 1#32
  let v45 : BitVec 32 := Scalar.divsi v43 c1_i32_15
  let v46 : BitVec 32 := Scalar.muli v45 c1_i32_15
  let v47 : BitVec 32 := Scalar.addi c0_i32 v46
  let c1_i32_17 : BitVec 32 := 1#32
  let arg7 : BitVec 32 := Scf.iv v47 c1_i32_17 k0_t2
  let c256_i32_21 : BitVec 32 := 256#32
  let v56 : BitVec 32 := Scalar.muli arg7 c256_i32_21
  let v57 : BitVec 32 := v56
  let v61 : Index := Scalar.indexCast v57
  let c0_25 : Index := 0#32
  ![0, v61.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MlaIdeal.lean ====
variable {F : FTy → Type} [FloatOps F] [Named F]
def κ : String → Option EReal := fun
  | "mask" => some ⊥
  | _ => none
-- ==== MlaRefIdeal.lean ====
abbrev S2x4096x2048 : Shape := ⟨3, ![2, 4096, 2048]⟩
abbrev S2x4096x1024 : Shape := ⟨3, ![2, 4096, 1024]⟩
abbrev S2x4096x8x256 : Shape := ⟨4, ![2, 4096, 8, 256]⟩
abbrev S2x4096x8x128 : Shape := ⟨4, ![2, 4096, 8, 128]⟩
abbrev S4096 : Shape := ⟨1, ![4096]⟩
abbrev S_ : Shape := ⟨0, ![]⟩
abbrev S2x8x4096x4096 : Shape := ⟨4, ![2, 8, 4096, 4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S2x8x4096 : Shape := ⟨3, ![2, 8, 4096]⟩
abbrev S2x8x4096x1 : Shape := ⟨4, ![2, 8, 4096, 1]⟩
abbrev S2x8x128x4096 : Shape := ⟨4, ![2, 8, 128, 4096]⟩

abbrev nBuf : Space → Nat
  | .hbm => 61
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2x4096x2048, .bf16⟩
  | .hbm, ⟨2, _⟩ => ⟨S2x4096x1024, .bf16⟩
  | .hbm, ⟨3, _⟩ => ⟨S2x4096x2048, .f32⟩
  | .hbm, ⟨4, _⟩ => ⟨S2x4096x8x256, .f32⟩
  | .hbm, ⟨5, _⟩ => ⟨S2x4096x2048, .f32⟩
  | .hbm, ⟨6, _⟩ => ⟨S2x4096x8x256, .f32⟩
  | .hbm, ⟨7, _⟩ => ⟨S2x4096x1024, .f32⟩
  | .hbm, ⟨8, _⟩ => ⟨S2x4096x8x128, .f32⟩
  | .hbm, ⟨9, _⟩ => ⟨S4096, .i32⟩
  | .hbm, ⟨10, _⟩ => ⟨S_, .i32⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S4096, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S4096, .i1⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .i32⟩
  | .hbm, ⟨28, _⟩ => ⟨S2x8x4096x4096, .f32⟩
  | .hbm, ⟨29, _⟩ => ⟨S_, .f32⟩
  | .hbm, ⟨30, _⟩ => ⟨S2x8x4096x4096, .f32⟩
  | .hbm, ⟨31, _⟩ => ⟨S2x8x4096x4096, .f32⟩
  | .hbm, ⟨32, _⟩ => ⟨S1x4096, .i32⟩
  | .hbm, ⟨33, _⟩ => ⟨S4096x1, .i32⟩
  | .hbm, ⟨34, _⟩ => ⟨S4096x4096, .i32⟩
  | .hbm, ⟨35, _⟩ => ⟨S4096x4096, .i32⟩
  | .hbm, ⟨36, _⟩ => ⟨S4096x4096, .i1⟩
  | .hbm, ⟨37, _⟩ => ⟨S1x1x4096x4096, .i1⟩
  | .hbm, ⟨38, _⟩ => ⟨S_, .f32⟩
  | .hbm, ⟨39, _⟩ => ⟨S_, .f32⟩
  | .hbm, ⟨40, _⟩ => ⟨S2x8x4096x4096, .i1⟩
  | .hbm, ⟨41, _⟩ => ⟨S2x8x4096x4096, .f32⟩
  | .hbm, ⟨42, _⟩ => ⟨S2x8x4096x4096, .f32⟩
  | .hbm, ⟨43, _⟩ => ⟨S_, .f32⟩
  | .hbm, ⟨44, _⟩ => ⟨S2x8x4096, .f32⟩
  | .hbm, ⟨45, _⟩ => ⟨S_, .f32⟩
  | .hbm, ⟨46, _⟩ => ⟨S2x8x4096, .f32⟩
  | .hbm, ⟨47, _⟩ => ⟨S2x8x4096, .f32⟩
  | .hbm, ⟨48, _⟩ => ⟨S2x8x4096x1, .f32⟩
  | .hbm, ⟨49, _⟩ => ⟨S2x8x4096x4096, .f32⟩
  | .hbm, ⟨50, _⟩ => ⟨S2x8x4096x4096, .f32⟩
  | .hbm, ⟨51, _⟩ => ⟨S2x8x4096x4096, .f32⟩
  | .hbm, ⟨52, _⟩ => ⟨S_, .f32⟩
  | .hbm, ⟨53, _⟩ => ⟨S2x8x4096, .f32⟩
  | .hbm, ⟨54, _⟩ => ⟨S2x8x4096x1, .f32⟩
  | .hbm, ⟨55, _⟩ => ⟨S2x8x4096x4096, .f32⟩
  | .hbm, ⟨56, _⟩ => ⟨S2x8x4096x4096, .f32⟩
  | .hbm, ⟨57, _⟩ => ⟨S2x8x128x4096, .f32⟩
  | .hbm, ⟨58, _⟩ => ⟨S2x4096x8x128, .f32⟩
  | .hbm, ⟨59, _⟩ => ⟨S2x4096x1024, .f32⟩
  | .hbm, ⟨60, _⟩ => ⟨S2x4096x1024, .bf16⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v7 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v17 : Ref sig .tc := ⟨.hbm, 42, rfl⟩
abbrev main_cst_1 : Ref sig .tc := ⟨.hbm, 43, rfl⟩
abbrev main_v18 : Ref sig .tc := ⟨.hbm, 44, rfl⟩
abbrev main_cst_2 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_3 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩

abbrev nD : Nat := 1
abbrev τ : Topo := Topo.v7x

variable {F : FTy → Type} [FloatOps F]
-- ==== Out.lean ====
abbrev S2x4096x2048 : Shape := ⟨3, ![2, 4096, 2048]⟩
abbrev S2x4096x1024 : Shape := ⟨3, ![2, 4096, 1024]⟩
abbrev S2x4096x512 : Shape := ⟨3, ![2, 4096, 512]⟩
abbrev S1x2048x2048 : Shape := ⟨3, ![1, 2048, 2048]⟩
abbrev S2048 : Shape := ⟨1, ![2048]⟩
abbrev S2048x2048 : Shape := ⟨2, ![2048, 2048]⟩
abbrev S1x2048 : Shape := ⟨2, ![1, 2048]⟩
abbrev S1x256x2048 : Shape := ⟨3, ![1, 256, 2048]⟩
abbrev S1x256x1024 : Shape := ⟨3, ![1, 256, 1024]⟩
abbrev S1x256x512 : Shape := ⟨3, ![1, 256, 512]⟩
abbrev S256x1024 : Shape := ⟨2, ![256, 1024]⟩
abbrev S1024x2048 : Shape := ⟨2, ![1024, 2048]⟩
abbrev S256x2048 : Shape := ⟨2, ![256, 2048]⟩
abbrev S256x512 : Shape := ⟨2, ![256, 512]⟩
abbrev S512x2048 : Shape := ⟨2, ![512, 2048]⟩
abbrev S256 : Shape := ⟨1, ![256]⟩
abbrev S256x1 : Shape := ⟨2, ![256, 1]⟩

abbrev nBuf : Space → Nat
  | .hbm => 11
  | .vmem => 14
  | .smem => 0
  | _ => 0

abbrev bufTy : (tb : Table) → Fin (tcTables nBuf tb) → BufTy
  | .hbm, ⟨0, _⟩ => ⟨S2x4096x2048, .f32⟩
  | .hbm, ⟨1, _⟩ => ⟨S2x4096x1024, .bf16⟩
  | .hbm, ⟨2, _⟩ => ⟨S2x4096x512, .bf16⟩
  | .hbm, ⟨3, _⟩ => ⟨S2x4096x512, .bf16⟩
  | .hbm, ⟨4, _⟩ => ⟨S2x4096x2048, .bf16⟩
  | .hbm, ⟨5, _⟩ => ⟨S1x2048x2048, .f32⟩
  | .hbm, ⟨6, _⟩ => ⟨S2048, .f32⟩
  | .hbm, ⟨7, _⟩ => ⟨S2048x2048, .f32⟩
  | .hbm, ⟨8, _⟩ => ⟨S2048x2048, .bf16⟩
  | .hbm, ⟨9, _⟩ => ⟨S1x2048, .f32⟩
  | .hbm, ⟨10, _⟩ => ⟨S2x4096x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x1024, .bf16⟩
  | .local _ .vmem, ⟨3, _⟩ => ⟨S1x256x1024, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x2048, .bf16⟩
  | .local _ .vmem, ⟨9, _⟩ => ⟨S1x256x2048, .bf16⟩
  | .local _ .vmem, ⟨10, _⟩ => ⟨S2048x2048, .bf16⟩
  | .local _ .vmem, ⟨11, _⟩ => ⟨S1x2048, .f32⟩
  | .local _ .vmem, ⟨12, _⟩ => ⟨S1x256x2048, .f32⟩
  | .local _ .vmem, ⟨13, _⟩ => ⟨S1x256x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OutRefIdeal.lean ====
abbrev S2x4096x2048 : Shape := ⟨3, ![2, 4096, 2048]⟩
abbrev S2x4096x1024 : Shape := ⟨3, ![2, 4096, 1024]⟩
abbrev S2x4096x512 : Shape := ⟨3, ![2, 4096, 512]⟩
abbrev S1x2048x2048 : Shape := ⟨3, ![1, 2048, 2048]⟩
abbrev S2048 : Shape := ⟨1, ![2048]⟩
abbrev S_ : Shape := ⟨0, ![]⟩
abbrev S2048x2048 : Shape := ⟨2, ![2048, 2048]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 64
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x1024, .bf16⟩
  | .hbm, ⟨2, _⟩ => ⟨S2x4096x512, .bf16⟩
  | .hbm, ⟨3, _⟩ => ⟨S2x4096x512, .bf16⟩
  | .hbm, ⟨4, _⟩ => ⟨S2x4096x2048, .bf16⟩
  | .hbm, ⟨5, _⟩ => ⟨S1x2048x2048, .f32⟩
  | .hbm, ⟨6, _⟩ => ⟨S2048, .f32⟩
  | .hbm, ⟨7, _⟩ => ⟨S2x4096x2048, .f32⟩
  | .hbm, ⟨8, _⟩ => ⟨S2x4096x1024, .f32⟩
  | .hbm, ⟨9, _⟩ => ⟨S2x4096x512, .f32⟩
  | .hbm, ⟨10, _⟩ => ⟨S2x4096x512, .f32⟩
  | .hbm, ⟨11, _⟩ => ⟨S2x4096x1024, .f32⟩
  | .hbm, ⟨12, _⟩ => ⟨S2x4096x1024, .f32⟩
  | .hbm, ⟨13, _⟩ => ⟨S2x4096x1024, .f32⟩
  | .hbm, ⟨14, _⟩ => ⟨S_, .f32⟩
  | .hbm, ⟨15, _⟩ => ⟨S2x4096x1024, .f32⟩
  | .hbm, ⟨16, _⟩ => ⟨S2x4096x1024, .f32⟩
  | .hbm, ⟨17, _⟩ => ⟨S_, .f32⟩
  | .hbm, ⟨18, _⟩ => ⟨S2x4096x1024, .f32⟩
  | .hbm, ⟨19, _⟩ => ⟨S2x4096x1024, .f32⟩
  | .hbm, ⟨20, _⟩ => ⟨S2x4096x1024, .f32⟩
  | .hbm, ⟨21, _⟩ => ⟨S2x4096x1024, .f32⟩
  | .hbm, ⟨22, _⟩ => ⟨S2x4096x512, .f32⟩
  | .hbm, ⟨23, _⟩ => ⟨S2x4096x512, .f32⟩
  | .hbm, ⟨24, _⟩ => ⟨S2x4096x512, .f32⟩
  | .hbm, ⟨25, _⟩ => ⟨S_, .f32⟩
  | .hbm, ⟨26, _⟩ => ⟨S2x4096x512, .f32⟩
  | .hbm, ⟨27, _⟩ => ⟨S2x4096x512, .f32⟩
  | .hbm, ⟨28, _⟩ => ⟨S_, .f32⟩
  | .hbm, ⟨29, _⟩ => ⟨S2x4096x512, .f32⟩
  | .hbm, ⟨30, _⟩ => ⟨S2x4096x512, .f32⟩
  | .hbm, ⟨31, _⟩ => ⟨S2x4096x512, .f32⟩
  | .hbm, ⟨32, _⟩ => ⟨S2x4096x512, .f32⟩
  | .hbm, ⟨33, _⟩ => ⟨S2x4096x512, .f32⟩
  | .hbm, ⟨34, _⟩ => ⟨S2x4096x512, .f32⟩
  | .hbm, ⟨35, _⟩ => ⟨S2x4096x512, .f32⟩
  | .hbm, ⟨36, _⟩ => ⟨S_, .f32⟩
  | .hbm, ⟨37, _⟩ => ⟨S2x4096x512, .f32⟩
  | .hbm, ⟨38, _⟩ => ⟨S2x4096x512, .f32⟩
  | .hbm, ⟨39, _⟩ => ⟨S_, .f32⟩
  | .hbm, ⟨40, _⟩ => ⟨S2x4096x512, .f32⟩
  | .hbm, ⟨41, _⟩ => ⟨S2x4096x512, .f32⟩
  | .hbm, ⟨42, _⟩ => ⟨S2x4096x512, .f32⟩
  | .hbm, ⟨43, _⟩ => ⟨S2x4096x512, .f32⟩
  | .hbm, ⟨44, _⟩ => ⟨S2x4096x2048, .f32⟩
  | .hbm, ⟨45, _⟩ => ⟨S2048x2048, .f32⟩
  | .hbm, ⟨46, _⟩ => ⟨S2x4096x2048, .f32⟩
  | .hbm, ⟨47, _⟩ => ⟨S2x4096x2048, .f32⟩
  | .hbm, ⟨48, _⟩ => ⟨S2x4096x2048, .f32⟩
  | .hbm, ⟨49, _⟩ => ⟨S_, .f32⟩
  | .hbm, ⟨50, _⟩ => ⟨S2x4096, .f32⟩
  | .hbm, ⟨51, _⟩ => ⟨S2x4096x1, .f32⟩
  | .hbm, ⟨52, _⟩ => ⟨S_, .f32⟩
  | .hbm, ⟨53, _⟩ => ⟨S2x4096x1, .f32⟩
  | .hbm, ⟨54, _⟩ => ⟨S2x4096x1, .f32⟩
  | .hbm, ⟨55, _⟩ => ⟨S_, .f32⟩
  | .hbm, ⟨56, _⟩ => ⟨S2x4096x1, .f32⟩
  | .hbm, ⟨57, _⟩ => ⟨S2x4096x1, .f32⟩
  | .hbm, ⟨58, _⟩ => ⟨S2x4096x1, .f32⟩
  | .hbm, ⟨59, _⟩ => ⟨S2x4096x2048, .f32⟩
  | .hbm, ⟨60, _⟩ => ⟨S2x4096x2048, .f32⟩
  | .hbm, ⟨61, _⟩ => ⟨S1x1x2048, .f32⟩
  | .hbm, ⟨62, _⟩ => ⟨S2x4096x2048, .f32⟩
  | .hbm, ⟨63, _⟩ => ⟨S2x4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_cst : Ref sig .tc := ⟨.hbm, 25, rfl⟩
abbrev main_call1_v2 : Ref sig .tc := ⟨.hbm, 26, rfl⟩
abbrev main_call1_v3 : Ref sig .tc := ⟨.hbm, 27, rfl⟩
abbrev main_call1_cst_0 : Ref sig .tc := ⟨.hbm, 28, rfl⟩
abbrev main_call1_v4 : Ref sig .tc := ⟨.hbm, 29, rfl⟩
abbrev main_call1_v5 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_call2_v0 : Ref sig .tc := ⟨.hbm, 34, rfl⟩
abbrev main_call2_v1 : Ref sig .tc := ⟨.hbm, 35, rfl⟩
abbrev main_call2_cst : Ref sig .tc := ⟨.hbm, 36, rfl⟩
abbrev main_call2_v2 : Ref sig .tc := ⟨.hbm, 37, rfl⟩
abbrev main_call2_v3 : Ref sig .tc := ⟨.hbm, 38, rfl⟩
abbrev main_call2_cst_0 : Ref sig .tc := ⟨.hbm, 39, rfl⟩
abbrev main_call2_v4 : Ref sig .tc := ⟨.hbm, 40, rfl⟩
abbrev main_call2_v5 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_cst : Ref sig .tc := ⟨.hbm, 49, rfl⟩
abbrev main_v18 : Ref sig .tc := ⟨.hbm, 50, rfl⟩
abbrev main_v19 : Ref sig .tc := ⟨.hbm, 51, rfl⟩
abbrev main_cst_0 : Ref sig .tc := ⟨.hbm, 52, rfl⟩
abbrev main_v20 : Ref sig .tc := ⟨.hbm, 53, rfl⟩
abbrev main_v21 : Ref sig .tc := ⟨.hbm, 54, rfl⟩
abbrev main_cst_1 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩

abbrev nD : Nat := 1
abbrev τ : Topo := Topo.v7x

variable {F : FTy → Type} [FloatOps F]
-- ==== Proj.lean ====
abbrev S2x4096x2048 : Shape := ⟨3, ![2, 4096, 2048]⟩
abbrev S1x2048 : Shape := ⟨2, ![1, 2048]⟩
abbrev S1x2048x4160 : Shape := ⟨3, ![1, 2048, 4160]⟩
abbrev S1x512 : Shape := ⟨2, ![1, 512]⟩
abbrev S1x256 : Shape := ⟨2, ![1, 256]⟩
abbrev S1x512x1536 : Shape := ⟨3, ![1, 512, 1536]⟩
abbrev S1x256x2048 : Shape := ⟨3, ![1, 256, 2048]⟩
abbrev S2048x4160 : Shape := ⟨2, ![2048, 4160]⟩
abbrev S2048x512 : Shape := ⟨2, ![2048, 512]⟩
abbrev S2048x256 : Shape := ⟨2, ![2048, 256]⟩
abbrev S2048x64 : Shape := ⟨2, ![2048, 64]⟩
abbrev S2048x1024 : Shape := ⟨2, ![2048, 1024]⟩
abbrev S2048x128 : Shape := ⟨2, ![2048, 128]⟩
abbrev S2048x32 : Shape := ⟨2, ![2048, 32]⟩
abbrev S2048x4224 : Shape := ⟨2, ![2048, 4224]⟩
abbrev S512x1536 : Shape := ⟨2, ![512, 1536]⟩
abbrev S512x8x192 : Shape := ⟨3, ![512, 8, 192]⟩
abbrev S512x8x64 : Shape := ⟨3, ![512, 8, 64]⟩
abbrev S512x8x128 : Shape := ⟨3, ![512, 8, 128]⟩
abbrev S512x8x32 : Shape := ⟨3, ![512, 8, 32]⟩
abbrev S512x8x256 : Shape := ⟨3, ![512, 8, 256]⟩
abbrev S512x2048 : Shape := ⟨2, ![512, 2048]⟩
abbrev S256x2048 : Shape := ⟨2, ![256, 2048]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S2x4096x1024 : Shape := ⟨3, ![2, 4096, 1024]⟩
abbrev S2x4096x128 : Shape := ⟨3, ![2, 4096, 128]⟩
abbrev S256x128 : Shape := ⟨2, ![256, 128]⟩
abbrev S1x256x1024 : Shape := ⟨3, ![1, 256, 1024]⟩
abbrev S1x256x128 : Shape := ⟨3, ![1, 256, 128]⟩
abbrev S256 : Shape := ⟨1, ![256]⟩
abbrev S256x1 : Shape := ⟨2, ![256, 1]⟩
abbrev S2048x768 : Shape := ⟨2, ![2048, 768]⟩
abbrev S256x768 : Shape := ⟨2, ![256, 768]⟩
abbrev S256x512 : Shape := ⟨2, ![256, 512]⟩
abbrev S256x256 : Shape := ⟨2, ![256, 256]⟩
abbrev S256x1024 : Shape := ⟨2, ![256, 1024]⟩
abbrev S2048x2048 : Shape := ⟨2, ![2048, 2048]⟩
abbrev S2048x384 : Shape := ⟨2, ![2048, 384]⟩
abbrev S256x384 : Shape := ⟨2, ![256, 384]⟩

abbrev nBuf : Space → Nat
  | .hbm => 72
  | .vmem => 26
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x4160, .f32⟩
  | .hbm, ⟨3, _⟩ => ⟨S1x512, .f32⟩
  | .hbm, ⟨4, _⟩ => ⟨S1x256, .f32⟩
  | .hbm, ⟨5, _⟩ => ⟨S1x512x1536, .f32⟩
  | .hbm, ⟨6, _⟩ => ⟨S1x256x2048, .f32⟩
  | .hbm, ⟨7, _⟩ => ⟨S2048x4160, .f32⟩
  | .hbm, ⟨8, _⟩ => ⟨S2048x512, .f32⟩
  | .hbm, ⟨9, _⟩ => ⟨S2048x256, .f32⟩
  | .hbm, ⟨10, _⟩ => ⟨S2048x64, .f32⟩
  | .hbm, ⟨11, _⟩ => ⟨S2048x1024, .f32⟩
  | .hbm, ⟨12, _⟩ => ⟨S2048x512, .f32⟩
  | .hbm, ⟨13, _⟩ => ⟨S2048x128, .f32⟩
  | .hbm, ⟨14, _⟩ => ⟨S2048x128, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S2048x32, .f32⟩
  | .hbm, ⟨19, _⟩ => ⟨S2048x32, .f32⟩
  | .hbm, ⟨20, _⟩ => ⟨S2048x32, .f32⟩
  | .hbm, ⟨21, _⟩ => ⟨S2048x64, .f32⟩
  | .hbm, ⟨22, _⟩ => ⟨S2048x4224, .f32⟩
  | .hbm, ⟨23, _⟩ => ⟨S2048x4224, .bf16⟩
  | .hbm, ⟨24, _⟩ => ⟨S512x1536, .f32⟩
  | .hbm, ⟨25, _⟩ => ⟨S512x8x192, .f32⟩
  | .hbm, ⟨26, _⟩ => ⟨S512x8x64, .f32⟩
  | .hbm, ⟨27, _⟩ => ⟨S512x8x128, .f32⟩
  | .hbm, ⟨28, _⟩ => ⟨S512x8x32, .f32⟩
  | .hbm, ⟨29, _⟩ => ⟨S512x8x32, .f32⟩
  | .hbm, ⟨30, _⟩ => ⟨S512x8x32, .f32⟩
  | .hbm, ⟨31, _⟩ => ⟨S512x8x64, .f32⟩
  | .hbm, ⟨32, _⟩ => ⟨S512x8x256, .f32⟩
  | .hbm, ⟨33, _⟩ => ⟨S512x2048, .f32⟩
  | .hbm, ⟨34, _⟩ => ⟨S512x2048, .bf16⟩
  | .hbm, ⟨35, _⟩ => ⟨S256x2048, .f32⟩
  | .hbm, ⟨36, _⟩ => ⟨S256x2048, .bf16⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S4096, .f32⟩
  | .hbm, ⟨54, _⟩ => ⟨S4096x1, .f32⟩
  | .hbm, ⟨55, _⟩ => ⟨S1x32, .f32⟩
  | .hbm, ⟨56, _⟩ => ⟨S4096x32, .f32⟩
  | .hbm, ⟨57, _⟩ => ⟨S4096x32, .f32⟩
  | .hbm, ⟨58, _⟩ => ⟨S4096x32, .f32⟩
  | .hbm, ⟨59, _⟩ => ⟨S4096x32, .f32⟩
  | .hbm, ⟨60, _⟩ => ⟨S4096x32, .f32⟩
  | .hbm, ⟨61, _⟩ => ⟨S_, .f32⟩
  | .hbm, ⟨62, _⟩ => ⟨S4096x32, .f32⟩
  | .hbm, ⟨63, _⟩ => ⟨S4096x128, .f32⟩
  | .hbm, ⟨64, _⟩ => ⟨S4096x128, .f32⟩
  | .hbm, ⟨65, _⟩ => ⟨S2x4096x2048, .bf16⟩
  | .hbm, ⟨66, _⟩ => ⟨S2x4096x2048, .bf16⟩
  | .hbm, ⟨67, _⟩ => ⟨S2x4096x1024, .bf16⟩
  | .hbm, ⟨68, _⟩ => ⟨S2x4096x1024, .bf16⟩
  | .hbm, ⟨69, _⟩ => ⟨S2x4096x2048, .bf16⟩
  | .hbm, ⟨70, _⟩ => ⟨S2x4096x128, .bf16⟩
  | .hbm, ⟨71, _⟩ => ⟨S2x4096x128, .bf16⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S2048x4224, .bf16⟩
  | .local _ .vmem, ⟨4, _⟩ => ⟨S1x512, .f32⟩
  | .local _ .vmem, ⟨5, _⟩ => ⟨S1x256, .f32⟩
  | .local _ .vmem, ⟨6, _⟩ => ⟨S512x2048, .bf16⟩
  | .local _ .vmem, ⟨7, _⟩ => ⟨S256x2048, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1x256x2048, .bf16⟩
  | .local _ .vmem, ⟨13, _⟩ => ⟨S1x256x2048, .bf16⟩
  | .local _ .vmem, ⟨14, _⟩ => ⟨S1x256x2048, .bf16⟩
  | .local _ .vmem, ⟨15, _⟩ => ⟨S1x256x2048, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x256x2048, .bf16⟩
  | .local _ .vmem, ⟨21, _⟩ => ⟨S1x256x2048, .bf16⟩
  | .local _ .vmem, ⟨22, _⟩ => ⟨S1x256x128, .bf16⟩
  | .local _ .vmem, ⟨23, _⟩ => ⟨S1x256x128, .bf16⟩
  | .local _ .vmem, ⟨24, _⟩ => ⟨S1x256x128, .bf16⟩
  | .local _ .vmem, ⟨25, _⟩ => ⟨S1x256x128, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst : Ref sig .tc := ⟨.hbm, 38, rfl⟩
abbrev main_v31 : Ref sig .tc := ⟨.hbm, 39, rfl⟩
abbrev main_v32 : Ref sig .tc := ⟨.hbm, 40, rfl⟩
abbrev main_cst_0 : Ref sig .tc := ⟨.hbm, 41, rfl⟩
abbrev main_v33 : Ref sig .tc := ⟨.hbm, 42, rfl⟩
abbrev main_v34 : Ref sig .tc := ⟨.hbm, 43, rfl⟩
abbrev main_cst_1 : Ref sig .tc := ⟨.hbm, 44, rfl⟩
abbrev main_v35 : Ref sig .tc := ⟨.hbm, 45, rfl⟩
abbrev main_v36 : Ref sig .tc := ⟨.hbm, 46, rfl⟩
abbrev main_cst_2 : Ref sig .tc := ⟨.hbm, 47, rfl⟩
abbrev main_v37 : Ref sig .tc := ⟨.hbm, 48, rfl⟩
abbrev main_v38 : Ref sig .tc := ⟨.hbm, 49, rfl⟩
abbrev main_cst_3 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_4 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52_0 : Ref sig .tc := ⟨.hbm, 65, rfl⟩
abbrev main_v52_1 : Ref sig .tc := ⟨.hbm, 66, rfl⟩
abbrev main_v52_2 : Ref sig .tc := ⟨.hbm, 67, rfl⟩
abbrev main_v52_3 : Ref sig .tc := ⟨.hbm, 68, rfl⟩
abbrev main_v52_4 : Ref sig .tc := ⟨.hbm, 69, rfl⟩
abbrev main_v52_5 : Ref sig .tc := ⟨.hbm, 70, rfl⟩
abbrev main_v52_6 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x4224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ProjRefIdeal.lean ====
abbrev S2x4096x2048 : Shape := ⟨3, ![2, 4096, 2048]⟩
abbrev S1x2048 : Shape := ⟨2, ![1, 2048]⟩
abbrev S1x2048x4160 : Shape := ⟨3, ![1, 2048, 4160]⟩
abbrev S1x512 : Shape := ⟨2, ![1, 512]⟩
abbrev S1x256 : Shape := ⟨2, ![1, 256]⟩
abbrev S1x512x1536 : Shape := ⟨3, ![1, 512, 1536]⟩
abbrev S1x256x2048 : Shape := ⟨3, ![1, 256, 2048]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S2048 : Shape := ⟨1, ![2048]⟩
abbrev S2x4096 : Shape := ⟨2, ![2, 4096]⟩
abbrev S2x4096x1 : Shape := ⟨3, ![2, 4096, 1]⟩
abbrev S1x1x2048 : Shape := ⟨3, ![1, 1, 2048]⟩
abbrev S2048x4160 : Shape := ⟨2, ![2048, 4160]⟩
abbrev S2x4096x4160 : Shape := ⟨3, ![2, 4096, 4160]⟩
abbrev S2x4096x512 : Shape := ⟨3, ![2, 4096, 512]⟩
abbrev S2x4096x256 : Shape := ⟨3, ![2, 4096, 256]⟩
abbrev S2x4096x64 : Shape := ⟨3, ![2, 4096, 64]⟩
abbrev S2x4096x1024 : Shape := ⟨3, ![2, 4096, 1024]⟩
abbrev S2x4096x128 : Shape := ⟨3, ![2, 4096, 128]⟩
abbrev S512 : Shape := ⟨1, ![512]⟩
abbrev S1x1x512 : Shape := ⟨3, ![1, 1, 512]⟩
abbrev S512x1536 : Shape := ⟨2, ![512, 1536]⟩
abbrev S2x4096x1536 : Shape := ⟨3, ![2, 4096, 1536]⟩
abbrev S2x4096x8x192 : Shape := ⟨4, ![2, 4096, 8, 192]⟩
abbrev S2x4096x8x128 : Shape := ⟨4, ![2, 4096, 8, 128]⟩
abbrev S2x4096x8x64 : Shape := ⟨4, ![2, 4096, 8, 64]⟩
abbrev S4096x1x32 : Shape := ⟨3, ![4096, 1, 32]⟩
abbrev S2x4096x8x32 : Shape := ⟨4, ![2, 4096, 8, 32]⟩
abbrev S1x4096x1x32 : Shape := ⟨4, ![1, 4096, 1, 32]⟩
abbrev S256 : Shape := ⟨1, ![256]⟩
abbrev S1x1x256 : Shape := ⟨3, ![1, 1, 256]⟩
abbrev S256x2048 : Shape := ⟨2, ![256, 2048]⟩
abbrev S2x4096x8x256 : Shape := ⟨4, ![2, 4096, 8, 256]⟩
abbrev S2x4096x32 : Shape := ⟨3, ![2, 4096, 32]⟩
abbrev S1x4096x32 : Shape := ⟨3, ![1, 4096, 32]⟩
abbrev S2x4096x1x64 : Shape := ⟨4, ![2, 4096, 1, 64]⟩

abbrev nBuf : Space → Nat
  | .hbm => 158
  | .vmem => 0
  | .smem => 0
  | _ => 0

abbrev hbmTy0_0 (i : Nat) : BufTy := match i % 128 with
  | 0 => ⟨S2x4096x2048, .f32⟩
  | 1 => ⟨S1x2048, .f32⟩
  | 2 => ⟨S1x2048x4160, .f32⟩
  | 3 => ⟨S1x512, .f32⟩
  | 4 => ⟨S1x256, .f32⟩
  | 5 => ⟨S1x512x1536, .f32⟩
  | 6 => ⟨S1x256x2048, .f32⟩
  | 7 => ⟨S32, .f32⟩
  | 8 => ⟨S_, .f32⟩
  | 9 => ⟨S32, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S4096, .f32⟩
  | 24 => ⟨S4096x1, .f32⟩
  | 25 => ⟨S1x32, .f32⟩
  | 26 => ⟨S4096x32, .f32⟩
  | 27 => ⟨S4096x32, .f32⟩
  | 28 => ⟨S4096x32, .f32⟩
  | 29 => ⟨S4096x32, .f32⟩
  | 30 => ⟨S4096x32, .f32⟩
  | 31 => ⟨S2048, .f32⟩
  | 32 => ⟨S2x4096x2048, .f32⟩
  | 33 => ⟨S_, .f32⟩
  | 34 => ⟨S2x4096, .f32⟩
  | 35 => ⟨S2x4096x1, .f32⟩
  | 36 => ⟨S_, .f32⟩
  | 37 => ⟨S2x4096x1, .f32⟩
  | 38 => ⟨S2x4096x1, .f32⟩
  | 39 => ⟨S_, .f32⟩
  | 40 => ⟨S2x4096x1, .f32⟩
  | 41 => ⟨S2x4096x1, .f32⟩
  | 42 => ⟨S2x4096x1, .f32⟩
  | 43 => ⟨S2x4096x2048, .f32⟩
  | 44 => ⟨S2x4096x2048, .f32⟩
  | 45 => ⟨S1x1x2048, .f32⟩
  | 46 => ⟨S2x4096x2048, .f32⟩
  | 47 => ⟨S2x4096x2048, .f32⟩
  | 48 => ⟨S2048x4160, .f32⟩
  | 49 => ⟨S2x4096x4160, .f32⟩
  | 50 => ⟨S2x4096x512, .f32⟩
  | 51 => ⟨S2x4096x256, .f32⟩
  | 52 => ⟨S2x4096x64, .f32⟩
  | 53 => ⟨S2x4096x1024, .f32⟩
  | 54 => ⟨S2x4096x512, .f32⟩
  | 55 => ⟨S2x4096x128, .f32⟩
  | 56 => ⟨S2x4096x128, .f32⟩
  | 57 => ⟨S2x4096x512, .f32⟩
  | 58 => ⟨S2x4096x512, .f32⟩
  | 59 => ⟨S2x4096x512, .f32⟩
  | 60 => ⟨S512, .f32⟩
  | 61 => ⟨S2x4096x512, .f32⟩
  | 62 => ⟨S_, .f32⟩
  | 63 => ⟨S2x4096, .f32⟩
  | 64 => ⟨S2x4096x1, .f32⟩
  | 65 => ⟨S_, .f32⟩
  | 66 => ⟨S2x4096x1, .f32⟩
  | 67 => ⟨S2x4096x1, .f32⟩
  | 68 => ⟨S_, .f32⟩
  | 69 => ⟨S2x4096x1, .f32⟩
  | 70 => ⟨S2x4096x1, .f32⟩
  | 71 => ⟨S2x4096x1, .f32⟩
  | 72 => ⟨S2x4096x512, .f32⟩
  | 73 => ⟨S2x4096x512, .f32⟩
  | 74 => ⟨S1x1x512, .f32⟩
  | 75 => ⟨S2x4096x512, .f32⟩
  | 76 => ⟨S2x4096x512, .f32⟩
  | 77 => ⟨S512x1536, .f32⟩
  | 78 => ⟨S2x4096x1536, .f32⟩
  | 79 => ⟨S2x4096x8x192, .f32⟩
  | 80 => ⟨S2x4096x8x128, .f32⟩
  | 81 => ⟨S2x4096x8x64, .f32⟩
  | 82 => ⟨S4096x1x32, .f32⟩
  | 83 => ⟨S4096x1x32, .f32⟩
  | 84 => ⟨S2x4096x8x32, .f32⟩
  | 85 => ⟨S2x4096x8x32, .f32⟩
  | 86 => ⟨S1x4096x1x32, .f32⟩
  | 87 => ⟨S2x4096x8x32, .f32⟩
  | 88 => ⟨S2x4096x8x32, .f32⟩
  | 89 => ⟨S1x4096x1x32, .f32⟩
  | 90 => ⟨S2x4096x8x32, .f32⟩
  | 91 => ⟨S2x4096x8x32, .f32⟩
  | 92 => ⟨S2x4096x8x32, .f32⟩
  | 93 => ⟨S1x4096x1x32, .f32⟩
  | 94 => ⟨S2x4096x8x32, .f32⟩
  | 95 => ⟨S2x4096x8x32, .f32⟩
  | 96 => ⟨S1x4096x1x32, .f32⟩
  | 97 => ⟨S2x4096x8x32, .f32⟩
  | 98 => ⟨S2x4096x8x32, .f32⟩
  | 99 => ⟨S2x4096x8x32, .f32⟩
  | 100 => ⟨S2x4096x8x64, .f32⟩
  | 101 => ⟨S256, .f32⟩
  | 102 => ⟨S2x4096x256, .f32⟩
  | 103 => ⟨S_, .f32⟩
  | 104 => ⟨S2x4096, .f32⟩
  | 105 => ⟨S2x4096x1, .f32⟩
  | 106 => ⟨S_, .f32⟩
  | 107 => ⟨S2x4096x1, .f32⟩
  | 108 => ⟨S2x4096x1, .f32⟩
  | 109 => ⟨S_, .f32⟩
  | 110 => ⟨S2x4096x1, .f32⟩
  | 111 => ⟨S2x4096x1, .f32⟩
  | 112 => ⟨S2x4096x1, .f32⟩
  | 113 => ⟨S2x4096x256, .f32⟩
  | 114 => ⟨S2x4096x256, .f32⟩
  | 115 => ⟨S1x1x256, .f32⟩
  | 116 => ⟨S2x4096x256, .f32⟩
  | 117 => ⟨S2x4096x256, .f32⟩
  | 118 => ⟨S256x2048, .f32⟩
  | 119 => ⟨S2x4096x2048, .f32⟩
  | 120 => ⟨S2x4096x8x256, .f32⟩
  | 121 => ⟨S2x4096x8x128, .f32⟩
  | 122 => ⟨S2x4096x8x128, .f32⟩
  | 123 => ⟨S2x4096x32, .f32⟩
  | 124 => ⟨S2x4096x32, .f32⟩
  | 125 => ⟨S1x4096x32, .f32⟩
  | 126 => ⟨S2x4096x32, .f32⟩
  | 127 => ⟨S2x4096x32, .f32⟩
  | _ => ⟨S2x4096x2048, .f32⟩

abbrev hbmTy0_1 (i : Nat) : BufTy := match i % 128 with
  | 0 => ⟨S1x4096x32, .f32⟩
  | 1 => ⟨S2x4096x32, .f32⟩
  | 2 => ⟨S2x4096x32, .f32⟩
  | 3 => ⟨S2x4096x32, .f32⟩
  | 4 => ⟨S1x4096x32, .f32⟩
  | 5 => ⟨S2x4096x32, .f32⟩
  | 6 => ⟨S2x4096x32, .f32⟩
  | 7 => ⟨S1x4096x32, .f32⟩
  | 8 => ⟨S2x4096x32, .f32⟩
  | 9 => ⟨S2x4096x32, .f32⟩
  | 10 => ⟨S2x4096x32, .f32⟩
  | 11 => ⟨S2x4096x64, .f32⟩
  | 12 => ⟨S2x4096x1x64, .f32⟩
  | 13 => ⟨S2x4096x8x64, .f32⟩
  | 14 => ⟨S_, .f32⟩
  | 15 => ⟨S2x4096x8x64, .f32⟩
  | 16 => ⟨S2x4096x8x256, .f32⟩
  | 17 => ⟨S2x4096x2048, .f32⟩
  | 18 => ⟨S2x4096x8x256, .f32⟩
  | 19 => ⟨S2x4096x2048, .f32⟩
  | 20 => ⟨S2x4096x1024, .f32⟩
  | 21 => ⟨S2x4096x1024, .f32⟩
  | 22 => ⟨S2x4096x2048, .f32⟩
  | 23 => ⟨S2x4096x2048, .bf16⟩
  | 24 => ⟨S2x4096x2048, .bf16⟩
  | 25 => ⟨S2x4096x1024, .bf16⟩
  | 26 => ⟨S2x4096x1024, .bf16⟩
  | 27 => ⟨S2x4096x2048, .bf16⟩
  | 28 => ⟨S2x4096x128, .bf16⟩
  | 29 => ⟨S2x4096x128, .bf16⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_cst_10 : Ref sig .tc := ⟨.hbm, 103, rfl⟩
abbrev main_v85 : Ref sig .tc := ⟨.hbm, 104, rfl⟩
abbrev main_v86 : Ref sig .tc := ⟨.hbm, 105, rfl⟩
abbrev main_cst_11 : Ref sig .tc := ⟨.hbm, 106, rfl⟩
abbrev main_v87 : Ref sig .tc := ⟨.hbm, 107, rfl⟩
abbrev main_v88 : Ref sig .tc := ⟨.hbm, 108, rfl⟩
abbrev main_cst_12 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_cst_13 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩

abbrev nD : Nat := 1
abbrev τ : Topo := Topo.v7x

variable {F : FTy → Type} [FloatOps F]
-- ==== MemKv.lean ====
abbrev S2x256x2048 : Shape := ⟨3, ![2, 256, 2048]⟩
abbrev S1x2048 : Shape := ⟨2, ![1, 2048]⟩
abbrev S1x2048x1024 : Shape := ⟨3, ![1, 2048, 1024]⟩
abbrev S2048x1024 : Shape := ⟨2, ![2048, 1024]⟩
abbrev S2x256x512 : Shape := ⟨3, ![2, 256, 512]⟩
abbrev S1x256x2048 : Shape := ⟨3, ![1, 256, 2048]⟩
abbrev S1x256x512 : Shape := ⟨3, ![1, 256, 512]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S256x512 : Shape := ⟨2, ![256, 512]⟩

abbrev nBuf : Space → Nat
  | .hbm => 7
  | .vmem => 8
  | .smem => 0
  | _ => 0

abbrev bufTy : (tb : Table) → Fin (tcTables nBuf tb) → BufTy
  | .hbm, ⟨0, _⟩ => ⟨S2x256x2048, .f32⟩
  | .hbm, ⟨1, _⟩ => ⟨S1x2048, .f32⟩
  | .hbm, ⟨2, _⟩ => ⟨S1x2048x1024, .f32⟩
  | .hbm, ⟨3, _⟩ => ⟨S2048x1024, .f32⟩
  | .hbm, ⟨4, _⟩ => ⟨S2048x1024, .bf16⟩
  | .hbm, ⟨5, _⟩ => ⟨S2x256x512, .bf16⟩
  | .hbm, ⟨6, _⟩ => ⟨S2x256x512, .bf16⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S2048x1024, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemKvRefIdeal.lean ====
abbrev S2x256x2048 : Shape := ⟨3, ![2, 256, 2048]⟩
abbrev S1x2048 : Shape := ⟨2, ![1, 2048]⟩
abbrev S1x2048x1024 : Shape := ⟨3, ![1, 2048, 1024]⟩
abbrev S2048 : Shape := ⟨1, ![2048]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S2048x1024 : Shape := ⟨2, ![2048, 1024]⟩
abbrev S2x256x1024 : Shape := ⟨3, ![2, 256, 1024]⟩
abbrev S2x256x512 : Shape := ⟨3, ![2, 256, 512]⟩

abbrev nBuf : Space → Nat
  | .hbm => 26
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S1x2048, .f32⟩
  | .hbm, ⟨2, _⟩ => ⟨S1x2048x1024, .f32⟩
  | .hbm, ⟨3, _⟩ => ⟨S2048, .f32⟩
  | .hbm, ⟨4, _⟩ => ⟨S2x256x2048, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x2048, .f32⟩
  | .hbm, ⟨16, _⟩ => ⟨S2x256x2048, .f32⟩
  | .hbm, ⟨17, _⟩ => ⟨S1x1x2048, .f32⟩
  | .hbm, ⟨18, _⟩ => ⟨S2x256x2048, .f32⟩
  | .hbm, ⟨19, _⟩ => ⟨S2x256x2048, .f32⟩
  | .hbm, ⟨20, _⟩ => ⟨S2048x1024, .f32⟩
  | .hbm, ⟨21, _⟩ => ⟨S2x256x1024, .f32⟩
  | .hbm, ⟨22, _⟩ => ⟨S2x256x512, .f32⟩
  | .hbm, ⟨23, _⟩ => ⟨S2x256x512, .bf16⟩
  | .hbm, ⟨24, _⟩ => ⟨S2x256x512, .f32⟩
  | .hbm, ⟨25, _⟩ => ⟨S2x256x512, .bf16⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== MemAttn.lean ====
abbrev S2x4096x1024 : Shape := ⟨3, ![2, 4096, 1024]⟩
abbrev S2x256x512 : Shape := ⟨3, ![2, 256, 512]⟩
abbrev S2x4096x512 : Shape := ⟨3, ![2, 4096, 512]⟩
abbrev S1x512x512 : Shape := ⟨3, ![1, 512, 512]⟩
abbrev S1x256x512 : Shape := ⟨3, ![1, 256, 512]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S2x4096x1024, .bf16⟩
  | .hbm, ⟨1, _⟩ => ⟨S2x256x512, .bf16⟩
  | .hbm, ⟨2, _⟩ => ⟨S2x256x512, .bf16⟩
  | .hbm, ⟨3, _⟩ => ⟨S2x4096x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x512x512, .bf16⟩
  | .local _ .vmem, ⟨7, _⟩ => ⟨S1x512x512, .bf16⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemAttnRefIdeal.lean ====
abbrev S2x4096x1024 : Shape := ⟨3, ![2, 4096, 1024]⟩
abbrev S2x256x512 : Shape := ⟨3, ![2, 256, 512]⟩
abbrev S2x4096x512 : Shape := ⟨3, ![2, 4096, 512]⟩
abbrev S2x4096x4x128 : Shape := ⟨4, ![2, 4096, 4, 128]⟩
abbrev S2x256x4x128 : Shape := ⟨4, ![2, 256, 4, 128]⟩
abbrev S2x4x4096x256 : Shape := ⟨4, ![2, 4, 4096, 256]⟩
abbrev S_ : Shape := ⟨0, ![]⟩
abbrev S2x4x4096 : Shape := ⟨3, ![2, 4, 4096]⟩
abbrev S2x4x4096x1 : Shape := ⟨4, ![2, 4, 4096, 1]⟩
abbrev S2x4x128x4096 : Shape := ⟨4, ![2, 4, 128, 4096]⟩

abbrev nBuf : Space → Nat
  | .hbm => 32
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S2x256x512, .bf16⟩
  | .hbm, ⟨2, _⟩ => ⟨S2x256x512, .bf16⟩
  | .hbm, ⟨3, _⟩ => ⟨S2x4096x512, .bf16⟩
  | .hbm, ⟨4, _⟩ => ⟨S2x4096x512, .f32⟩
  | .hbm, ⟨5, _⟩ => ⟨S2x4096x4x128, .f32⟩
  | .hbm, ⟨6, _⟩ => ⟨S2x256x512, .f32⟩
  | .hbm, ⟨7, _⟩ => ⟨S2x256x4x128, .f32⟩
  | .hbm, ⟨8, _⟩ => ⟨S2x256x512, .f32⟩
  | .hbm, ⟨9, _⟩ => ⟨S2x256x4x128, .f32⟩
  | .hbm, ⟨10, _⟩ => ⟨S2x4x4096x256, .f32⟩
  | .hbm, ⟨11, _⟩ => ⟨S_, .f32⟩
  | .hbm, ⟨12, _⟩ => ⟨S2x4x4096x256, .f32⟩
  | .hbm, ⟨13, _⟩ => ⟨S2x4x4096x256, .f32⟩
  | .hbm, ⟨14, _⟩ => ⟨S_, .f32⟩
  | .hbm, ⟨15, _⟩ => ⟨S2x4x4096, .f32⟩
  | .hbm, ⟨16, _⟩ => ⟨S_, .f32⟩
  | .hbm, ⟨17, _⟩ => ⟨S2x4x4096, .f32⟩
  | .hbm, ⟨18, _⟩ => ⟨S2x4x4096, .f32⟩
  | .hbm, ⟨19, _⟩ => ⟨S2x4x4096x1, .f32⟩
  | .hbm, ⟨20, _⟩ => ⟨S2x4x4096x256, .f32⟩
  | .hbm, ⟨21, _⟩ => ⟨S2x4x4096x256, .f32⟩
  | .hbm, ⟨22, _⟩ => ⟨S2x4x4096x256, .f32⟩
  | .hbm, ⟨23, _⟩ => ⟨S_, .f32⟩
  | .hbm, ⟨24, _⟩ => ⟨S2x4x4096, .f32⟩
  | .hbm, ⟨25, _⟩ => ⟨S2x4x4096x1, .f32⟩
  | .hbm, ⟨26, _⟩ => ⟨S2x4x4096x256, .f32⟩
  | .hbm, ⟨27, _⟩ => ⟨S2x4x4096x256, .f32⟩
  | .hbm, ⟨28, _⟩ => ⟨S2x4x128x4096, .f32⟩
  | .hbm, ⟨29, _⟩ => ⟨S2x4096x4x128, .f32⟩
  | .hbm, ⟨30, _⟩ => ⟨S2x4096x512, .f32⟩
  | .hbm, ⟨31, _⟩ => ⟨S2x4096x512, .bf16⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Proof.MlaPay.lean ====
/- The pieces of one block of the attention call, read at one element: scores, maxima, weights and sums of a tile. -/
module

public import proofs.«01_k».proof.Proof.Gen.MlaIdeal.Skeleton
public import Idealize.ShloMosaic.Lib.Pipeline.ValueKit
public import Idealize.ShloMosaic.Lib.Pointwise

@[expose] public section

set_option maxRecDepth 16384

noncomputable section

namespace Cert.MlaIdeal.Hand

open Cert.MlaIdeal Cert.MlaIdeal.Gen Idealize.ShloMosaic Idealize.ShloMosaic.TcCoe Idealize.SL.Sem

/-- The word the maximum starts from is minus infinity. -/
theorem ninf : Ideal.ofBits .f32 0xFF800000#32 = ⊥ := by simp [Ideal.ofBits, Ideal.ieee]

/-- A maximum folded from minus infinity is the supremum. -/
theorem fold_max {n : ℕ} (f : Fin n → EReal) : Finset.fold max ⊥ f Finset.univ = Finset.univ.sup f := rfl

/-- The named mask reads minus infinity. -/
theorem mask_bot : Named.named (F := Ideal) κ "mask" (φ := .f32) 0xF149F2CA#32 = ⊥ := by
  simp [Named.named, κ]

/-- The chunk of a row within its tile: the shift by six bits is the division by 64. -/
theorem chunk_word : ∀ r : Fin 256, IntOp.shrsi .vector (BitVec.ofNat 32 r.val) 6#32 = BitVec.ofNat 32 (r.val / 64) := by
  decide +kernel

/-- The comparison of two chunk words is that of the chunks. -/
theorem word_le : ∀ a b : Fin 4, (IntOp.cmpi .sle (BitVec.ofNat 32 a.val) (BitVec.ofNat 32 b.val) = 1#1) ↔ a.val ≤ b.val := by
  decide +kernel

/-- The mask of the diagonal tile: the key's chunk is not later than the query's. -/
theorem chunk_le (c r : Fin 256) : (IntOp.cmpi .sle (BitVec.ofNat 32 (c.val / 64)) (BitVec.ofNat 32 (r.val / 64)) = 1#1) ↔
    c.val / 64 ≤ r.val / 64 :=
  word_le ⟨c.val / 64, by omega⟩ ⟨r.val / 64, by omega⟩

/-- The scores of a tile before the diagonal: scaled products of queries and keys. -/
theorem pay2_at (v1 : FVec Ideal S256x256 .bf16) (v59 : Vec Ideal S1x256x256 .bf16) (r c : Fin 256) :
   k0_pay2 v1 v59 (ix2 r c) = (∑ d : Fin 256, v1 (ix2 r d) * v59 (ix3 0 c d)) * Ideal.ofBits .f32 0x3D93CD3A#32 := by
  pointwise [k0_pay2]
/-- The running maximum after a tile. -/
theorem pay3_at (v1 : FVec Ideal S256x256 .bf16) (m : FVec Ideal S256x1 .f32) (v59 : Vec Ideal S1x256x256 .bf16) (r : Fin 256) :
   k0_pay3 v1 m v59 (ix2 r 0) = max (m (ix2 r 0)) (Finset.univ.sup fun c => k0_pay2 v1 v59 (ix2 r c)) := by
  pointwise [k0_pay3]
  rw [ninf, fold_max]
/-- The factor rescaling what was accumulated before a tile. -/
theorem pay4_at (v1 : FVec Ideal S256x256 .bf16) (m : FVec Ideal S256x1 .f32) (v59 : Vec Ideal S1x256x256 .bf16) (r : Fin 256) :
   k0_pay4 v1 m v59 (ix2 r 0) = Ideal.exp (m (ix2 r 0) - k0_pay3 v1 m v59 (ix2 r 0)) := by
  pointwise [k0_pay4]
/-- The weights of the keys of a tile. -/
theorem pay5_at (v1 : FVec Ideal S256x256 .bf16) (m : FVec Ideal S256x1 .f32) (v59 : Vec Ideal S1x256x256 .bf16) (r c : Fin 256) :
   k0_pay5 v1 m v59 (ix2 r c) = Ideal.exp (k0_pay2 v1 v59 (ix2 r c) - k0_pay3 v1 m v59 (ix2 r 0)) := by
  pointwise [k0_pay5]
/-- The running sum of the weights after a tile. -/
theorem pay6_at (v1 : FVec Ideal S256x256 .bf16) (m l : FVec Ideal S256x1 .f32) (v59 : Vec Ideal S1x256x256 .bf16) (r : Fin 256) :
   k0_pay6 v1 m l v59 (ix2 r 0) = k0_pay4 v1 m v59 (ix2 r 0) * l (ix2 r 0) + ∑ c : Fin 256, k0_pay5 v1 m v59 (ix2 r c) := by
  pointwise [k0_pay6]
/-- The running weighted sum of the values after a tile. -/
theorem pay7_at (v1 : FVec Ideal S256x256 .bf16) (m : FVec Ideal S256x1 .f32) (a : FVec Ideal S256x128 .f32) (v59 : Vec Ideal S1x256x256 .bf16)
    (v62 : Vec Ideal S1x256x128 .bf16) (r : Fin 256) (e : Fin 128) :
   k0_pay7 v1 m a v59 v62 (ix2 r e) = k0_pay4 v1 m v59 (ix2 r 0) * a (ix2 r e) + ∑ c : Fin 256, k0_pay5 v1 m v59 (ix2 r c) * v62 (ix3 0 c e) := by
  pointwise [k0_pay7]
/-- What is stored: the weighted sum over the sum of the weights. -/
theorem pay14_at (l : FVec Ideal S256x1 .f32) (a : FVec Ideal S256x128 .f32) (r : Fin 256) (e : Fin 128) :
   k0_pay14 l a (ix3 0 r e) = Ideal.div (a (ix2 r e)) (l (ix2 r 0)) := by
  pointwise [k0_pay14]
/-- The tile of queries without its leading axis. -/
theorem pay15_at (q : Vec Ideal S1x256x256 .bf16) (r d : Fin 256) : k0_pay15 q (ix2 r d) = q (ix3 0 r d) := by
  pointwise [k0_pay15]
/-- The diagonal tile of values without its leading axis. -/
theorem pay17_at (v : Vec Ideal S1x256x128 .bf16) (r : Fin 256) (e : Fin 128) : k0_pay17 v (ix2 r e) = v (ix3 0 r e) := by
  pointwise [k0_pay17]
/-- The scores of the diagonal tile, masked where the key's chunk is later. -/
theorem pay18_at (q k : Vec Ideal S1x256x256 .bf16) (r c : Fin 256) :
   k0_pay18 q k (ix2 r c) = if c.val / 64 ≤ r.val / 64 then (∑ d : Fin 256, q (ix3 0 r d) * k (ix3 0 c d)) * Ideal.ofBits .f32 0x3D93CD3A#32 else ⊥ := by
  pointwise [k0_pay18, k0_pay15]
  rw [chunk_word, chunk_word, mask_bot, Scalar.select]
  exact if_congr (chunk_le c r) rfl rfl
/-- The maximum of a row of the diagonal tile. -/
theorem pay19_at (q k : Vec Ideal S1x256x256 .bf16) (r : Fin 256) :
   k0_pay19 q k (ix2 r 0) = Finset.univ.sup fun c => k0_pay18 q k (ix2 r c) := by
  pointwise [k0_pay19, k0_pay16]
  rw [ninf, fold_max, mask_bot]
  exact bot_sup_eq _
/-- The factor on the diagonal tile's empty past is zero. -/
theorem pay20_at (q k : Vec Ideal S1x256x256 .bf16) (r : Fin 256) :
   k0_pay20 q k (ix2 r 0) = 0 := by
  pointwise [k0_pay20, k0_pay16]
  rw [mask_bot, sub_eq_add_neg, EReal.bot_add]
  rfl
/-- The weights of the keys of the diagonal tile. -/
theorem pay21_at (q k : Vec Ideal S1x256x256 .bf16) (r c : Fin 256) :
   k0_pay21 q k (ix2 r c) = Ideal.exp (k0_pay18 q k (ix2 r c) - k0_pay19 q k (ix2 r 0)) := by
  pointwise [k0_pay21]
/-- The sum of the weights of the diagonal tile. -/
theorem pay22_at (q k : Vec Ideal S1x256x256 .bf16) (r : Fin 256) :
   k0_pay22 q k (ix2 r 0) = ∑ c : Fin 256, k0_pay21 q k (ix2 r c) := by
  pointwise [k0_pay22]
  rw [mul_zero, zero_add]
/-- The accumulator before the diagonal tile is zero. -/
theorem pay23_at (q k : Vec Ideal S1x256x256 .bf16) (r : Fin 256) (e : Fin 128) :
   k0_pay23 q k (ix2 r e) = 0 := by
  pointwise [k0_pay23]
  rw [mul_zero]
/-- The weighted sum of the values of the diagonal tile, added to the accumulator. -/
theorem pay1_at (v : FVec Ideal S256x128 .bf16) (p : FVec Ideal S256x256 .f32) (a : FVec Ideal S256x128 .f32) (r : Fin 256) (e : Fin 128) :
   k0_pay1 v p a (ix2 r e) = a (ix2 r e) + ∑ c : Fin 256, p (ix2 r c) * v (ix2 c e) := by
  pointwise [k0_pay1]

end Cert.MlaIdeal.Hand

end
-- ==== Proof.MlaTrip.lean ====
/- The loop of the attention call over the tiles of keys before the diagonal: its trips, and what one of them does. -/
module

public import proofs.«01_k».proof.Proof.Gen.MlaIdeal.Value
public import Idealize.ShloMosaic.Lib.Pipeline.ValueKit
public import Idealize.ShloMosaic.Lib.Pointwise

@[expose] public section

set_option maxRecDepth 16384

noncomputable section

namespace Cert.MlaIdeal.Hand

open Cert.MlaIdeal Cert.MlaIdeal.Gen Idealize.ShloMosaic Idealize.ShloMosaic.TcCoe Idealize.SL.Sem
open Idealize.ShloMosaic.Pipeline (Dat)

variable {F : FTy → Type} [FloatOps F] [Named F]

/-- One trip of the loop before the diagonal: how it changes the running maximum, sum and weighted sum. -/
theorem trip_eq (𝒱 : Variants) (c : Dev nD) (bd : Option 𝒱.V) (i : grid0.Coords) (arg3 : Memref sig .tc .vmem S1x256x256 .bf16) (harg3 : arg3.IsWhole) (arg4 : Memref sig .tc .vmem S1x4096x256 .bf16) (harg4 : arg4.IsWhole) (arg5 : Memref sig .tc .vmem S1x4096x128 .bf16) (harg5 : arg5.IsWhole) (arg6 : Memref sig .tc .vmem S1x256x128 .bf16) (harg6 : arg6.IsWhole) (v1 : FVec F S256x256 .bf16) (X_arg4 : BufTy.Contents (Elt F) arg4.view.ty) (X_arg5 : BufTy.Contents (Elt F) arg5.view.ty) (k : Fin (k0_t1_loop i).trips) (acc : FVec F S256x1 .f32 × FVec F S256x1 .f32 × FVec F S256x128 .f32) :
   tripR_k0_t1 (F := F) 𝒱 c bd i arg3 harg3 arg4 harg4 arg5 harg5 arg6 harg6 v1 X_arg4 X_arg5 k acc =
     (k0_pay3 v1 acc.1 (View.readAt (Elt F) arg4.view (Rect.unit (s := S1x4096x256) (k0_off3 i k) ![1, 256, 256] (k0_off3_inb i k)).toLoadRect X_arg4),
      k0_pay6 v1 acc.1 acc.2.1
        (View.readAt (Elt F) arg4.view (Rect.unit (s := S1x4096x256) (k0_off3 i k) ![1, 256, 256] (k0_off3_inb i k)).toLoadRect X_arg4),
      k0_pay7 v1 acc.1 acc.2.2
        (View.readAt (Elt F) arg4.view (Rect.unit (s := S1x4096x256) (k0_off3 i k) ![1, 256, 256] (k0_off3_inb i k)).toLoadRect X_arg4)
        (View.readAt (Elt F) arg5.view (Rect.unit (s := S1x4096x128) (k0_off4 i k) ![1, 256, 128] (k0_off4_inb i k)).toLoadRect X_arg5)) := by
  unfold tripR_k0_t1 trip_k0_t1
  rfl

/-- The loop before the diagonal makes as many trips as the number of the tile of queries. -/
theorem trips1 (i : grid0.Coords) : (k0_t1_loop i).trips = (i 2).val := by
  have h_c0_i32 : Affine.IsInt 0#32 (0) := Affine.ofNat _ (by omega)
  have r_i2 : (i 2).val < 16 := (i 2).isLt
  have h_arg2 : Affine.IsInt (BitVec.ofNat 32 (i 2).val) (((i 2).val : Int)) := Affine.ofNat _ (by omega)
  have h_c1_i32 : Affine.IsInt 1#32 (1) := Affine.ofNat _ (by omega)
  have h_v42 : Affine.IsInt _ (((i 2).val : Int)) := Affine.muli h_arg2 h_c1_i32 (by omega)
  have h_v43 : Affine.IsInt _ (((i 2).val : Int)) := Affine.subi h_v42 h_c0_i32 (by omega)
  have h_v45 : Affine.IsInt _ (((i 2).val : Int)) := Affine.divsi h_v43 h_c1_i32 (by omega)
  have h_v46 : Affine.IsInt _ (((i 2).val : Int)) := Affine.muli h_v45 h_c1_i32 (by omega)
  have h_v47 : Affine.IsInt _ (((i 2).val : Int)) := Affine.addi h_c0_i32 h_v46 (by omega)
  exact Affine.trips_eq h_c0_i32 h_v47 h_c1_i32 _ (by omega)

/-- The loop of the remaining trips is empty. -/
theorem trips2 (i : grid0.Coords) : (k0_t2_loop i).trips = 0 := Nat.le_zero.1 (k0_t2_abs i).2.1

/-- The carried values after the whole of the main loop. -/
theorem out_eq (c : Dev nD) (i : grid0.Coords) (arg3 : Memref sig .tc .vmem S1x256x256 .bf16) (harg3 : arg3.IsWhole) (arg4 : Memref sig .tc .vmem S1x4096x256 .bf16) (harg4 : arg4.IsWhole) (arg5 : Memref sig .tc .vmem S1x4096x128 .bf16) (harg5 : arg5.IsWhole) (arg6 : Memref sig .tc .vmem S1x256x128 .bf16) (harg6 : arg6.IsWhole)
    (x0 : Vec F S1x256x256 .bf16) (x1 : Vec F S1x4096x256 .bf16) (x2 : Vec F S1x4096x128 .bf16) :
    out0_A_3 c i arg3 harg3 arg4 harg4 arg5 harg5 arg6 harg6 x0 x1 x2 =
      let K := View.ld x1 (Rect.unit (s := S1x4096x256) (k0_off1 i) ![1, 256, 256] (k0_off1_inb i))
      let W := View.ld x2 (Rect.unit (s := S1x4096x128) (k0_off2 i) ![1, 256, 128] (k0_off2_inb i))
      let st := st_k0_t1 Variants.none c none i arg3 harg3 arg4 harg4 arg5 harg5 arg6 harg6 (k0_pay15 x0)
                  (harg4.unread x1) (harg5.unread x2)
                  (k0_pay19 x0 K, k0_pay22 x0 K, k0_pay1 (k0_pay17 W) (k0_pay21 x0 K) (k0_pay23 x0 K)) (i 2).val
      k0_pay14 st.2.1 st.2.2 := by
  frame_out
  have h1 := trips1 i
  have h2 := trips2 i
  simp only [Scf.Loop.trips, k0_t1_loop, k0_t2_loop] at h1 h2
  rw [h1, h2]
  rfl

/-- A tile of rows loaded from a block, read at one element. -/
theorem ld_tile {T n w : ℕ} (x : Vec F ⟨3, ![1, T, w]⟩ .bf16) (o : Fin 3 → ℕ) (b : ℕ) (ho : o = ![0, b, 0])
    (h : ∀ a, o a + (![1, n, w] : Fin 3 → ℕ) a ≤ (⟨3, ![1, T, w]⟩ : Shape).size a) (z : Fin 1) (r : Fin n) (e : Fin w) (hb : b + r.val < T) :
    View.ld x (Rect.unit (s := ⟨3, ![1, T, w]⟩) o ![1, n, w] h) (ix3 z r e) = x (ix3 z ⟨b + r.val, hb⟩ e) := by
  subst ho
  pointwise
  refine congrArg x (funext fun a => ?_)
  match a with
  | ⟨0, _⟩ => exact Fin.ext (by show 0 + z.val = z.val; omega)
  | ⟨1, _⟩ => exact Fin.ext (by show b + r.val = b + r.val; rfl)
  | ⟨2, _⟩ => exact Fin.ext (by show 0 + e.val = e.val; omega)

end Cert.MlaIdeal.Hand

end
-- ==== Proof.Online.lean ====
/- A softmax computed a tile of scores at a time. A state holds the largest score so far, the sum of the exponentials
   relative to it and the sum of those exponentials times a weight; a tile replaces the largest score and rescales both
   sums. The sums are then the ones over all keys seen, relative to the new largest score. -/
module

public import Idealize.ShloMosaic.PureOps.Ideal

@[expose] public section

noncomputable section

namespace Cert.Online

open Idealize.ShloMosaic

/-- The exponential of a difference of reals. -/
theorem exp_coe (r : ℝ) : Ideal.exp (r : EReal) = ((Real.exp r : ℝ) : EReal) := rfl

/-- The exponential vanishes at the negative infinity. -/
theorem exp_bot : Ideal.exp ⊥ = 0 := rfl

/-- A real factor that is not negative may be taken into a sum. -/
theorem coe_mul_sum {ι : Type*} (s : Finset ι) (f : ι → EReal) (x : ℝ) (hx : 0 ≤ x) :
    (x : EReal) * ∑ i ∈ s, f i = ∑ i ∈ s, (x : EReal) * f i := by
  classical
  induction s using Finset.induction_on with
  | empty => simp
  | insert a s ha ih => rw [Finset.sum_insert ha, Finset.sum_insert ha, ← ih, EReal.left_distrib_of_nonneg_of_ne_top
      (by exact_mod_cast hx) (EReal.coe_ne_top x)]

/-- Rescaling one exponential: relative to `M`, then from `M` to a later `M'`. -/
theorem rescale {s M M' : EReal} (h : s ≤ M) (h' : M ≤ M') (w : EReal) (hM : M ≠ ⊥) (hM' : M' ≠ ⊤) :
    Ideal.exp (M - M') * (Ideal.exp (s - M) * w) = Ideal.exp (s - M') * w := by
  have hMt : M ≠ ⊤ := ne_top_of_le_ne_top hM' h'
  have hM'b : M' ≠ ⊥ := fun e => hM (le_bot_iff.1 (e ▸ h'))
  lift M to ℝ using ⟨hMt, hM⟩
  lift M' to ℝ using ⟨hM', hM'b⟩
  rw [← mul_assoc]
  congr 1
  induction s with
  | bot => simp [exp_bot]
  | top => exact absurd h (by simp)
  | coe s =>
    rw [← EReal.coe_sub, ← EReal.coe_sub, ← EReal.coe_sub, exp_coe, exp_coe, exp_coe, ← EReal.coe_mul, ← Real.exp_add]
    congr 2; ring

/-- Rescaling a sum of weighted exponentials from the largest score `M` to a later `M'`, infinities included. -/
theorem rescale_sum {ι : Type*} (K : Finset ι) (s w : ι → EReal) {M M' : EReal} (h : ∀ i ∈ K, s i ≤ M) (h' : M ≤ M') :
    Ideal.exp (M - M') * ∑ i ∈ K, Ideal.exp (s i - M) * w i = ∑ i ∈ K, Ideal.exp (s i - M') * w i := by
  by_cases hM : M = ⊥
  · have hs : ∀ i ∈ K, s i = ⊥ := fun i hi => le_bot_iff.1 (hM ▸ h i hi)
    rw [Finset.sum_eq_zero, Finset.sum_eq_zero, mul_zero]
    · intro i hi; simp [hs i hi, exp_bot, sub_eq_add_neg, EReal.bot_add]
    · intro i hi; simp [hs i hi, exp_bot, sub_eq_add_neg, EReal.bot_add]
  by_cases hM' : M' = ⊤
  · have e : ∀ x : EReal, Ideal.exp (x - M') = 0 := fun x => by simp [hM', sub_eq_add_neg, exp_bot, EReal.add_bot]
    simp [e]
  · have hb : M' ≠ ⊥ := fun e => hM (le_bot_iff.1 (e ▸ h'))
    have hr : Ideal.exp (M - M') = ((Real.exp (M.toReal - M'.toReal) : ℝ) : EReal) := by
      lift M to ℝ using ⟨ne_top_of_le_ne_top hM' h', hM⟩
      lift M' to ℝ using ⟨hM', hb⟩
      rw [← EReal.coe_sub, exp_coe]; rfl
    rw [hr, coe_mul_sum _ _ _ (Real.exp_pos _).le, ← hr]
    exact Finset.sum_congr rfl fun i hi => rescale (h i hi) h' _ hM hM'

/-- One tile: the sums over `K` relative to its largest score `M`, rescaled to a later `M'`, with the tile's own terms
    added, are the sums over both. -/
theorem step {ι κ : Type*} [DecidableEq ι] [Fintype κ] (K : Finset ι) (e : κ → ι) (he : Function.Injective e)
    (hd : ∀ j, e j ∉ K) (s w : ι → EReal) {M M' : EReal} (h : ∀ i ∈ K, s i ≤ M) (h' : M ≤ M') :
    Ideal.exp (M - M') * (∑ i ∈ K, Ideal.exp (s i - M) * w i) + ∑ j, Ideal.exp (s (e j) - M') * w (e j)
      = ∑ i ∈ K ∪ Finset.univ.image e, Ideal.exp (s i - M') * w i := by
  rw [rescale_sum K s w h h', Finset.sum_union, Finset.sum_image (fun a _ b _ hab => he hab)]
  exact Finset.disjoint_left.2 fun a ha hb => by
    obtain ⟨j, -, rfl⟩ := Finset.mem_image.1 hb
    exact hd j ha

end Cert.Online

end
-- ==== Proof.MlaBlock.lean ====
/- One grid point of the attention call: the block it writes is the softmax attention of its 256 queries over all keys
   of the sequence, the keys of later chunks masked. The loop visits the diagonal tile first and then the earlier tiles;
   the tiles it never visits lie wholly behind the mask. -/
module

public import proofs.«01_k».proof.Proof.MlaPay
public import proofs.«01_k».proof.Proof.MlaTrip
public import proofs.«01_k».proof.Proof.Online
public import Idealize.ShloMosaic.Lib.WholeRead

@[expose] public section

set_option maxRecDepth 16384

noncomputable section

namespace Cert.MlaIdeal.Hand

open Cert.MlaIdeal Cert.MlaIdeal.Gen Idealize.ShloMosaic Idealize.ShloMosaic.TcCoe Idealize.SL.Sem

/-- The score of key `j` for row `r` of the query block `n`: the scaled product, masked when the key's chunk is later. -/
def score (x0 : Vec Ideal S1x256x256 .bf16) (x1 : Vec Ideal S1x4096x256 .bf16) (n : ℕ) (r : Fin 256) (j : Fin 4096) : EReal :=
  if j.val / 64 ≤ (256 * n + r.val) / 64 then
    (∑ d : Fin 256, x0 (ix3 0 r d) * x1 (ix3 0 j d)) * Ideal.ofBits .f32 0x3D93CD3A#32
  else ⊥

/-- The keys seen before trip `k`: the diagonal tile's and those of the first `k` tiles. -/
def seen (n k : ℕ) : Finset (Fin 4096) := Finset.univ.filter fun j => j.val / 256 = n ∨ j.val / 256 < k

/-- Key `c` of tile `k`. -/
def key (k : ℕ) (hk : k < 16) (c : Fin 256) : Fin 4096 := ⟨256 * k + c.val, by omega⟩

/-- The keys of one tile are distinct. -/
theorem key_inj (k : ℕ) (hk : k < 16) : Function.Injective (key k hk) := fun a b h => by
  have := congrArg Fin.val h
  simp only [key] at this
  exact Fin.ext (by omega)

/-- Before the first trip only the diagonal tile has been seen. -/
theorem seen_zero (n : ℕ) (hn : n < 16) : seen n 0 = Finset.univ.image (key n hn) := by
  ext j
  simp only [seen, Finset.mem_filter, Finset.mem_univ, true_and, Finset.mem_image]
  constructor
  · intro h
    exact ⟨⟨j.val % 256, Nat.mod_lt _ (by omega)⟩, Fin.ext (by simp only [key]; omega)⟩
  · rintro ⟨c, rfl⟩
    simp only [key]; omega

/-- A trip adds the keys of its tile to those seen. -/
theorem seen_succ (n k : ℕ) (hk : k < 16) : seen n (k + 1) = seen n k ∪ Finset.univ.image (key k hk) := by
  ext j
  simp only [seen, Finset.mem_filter, Finset.mem_univ, true_and, Finset.mem_image, Finset.mem_union]
  constructor
  · intro h
    by_cases h' : j.val / 256 = n ∨ j.val / 256 < k
    · exact Or.inl h'
    · exact Or.inr ⟨⟨j.val % 256, Nat.mod_lt _ (by omega)⟩, Fin.ext (by simp only [key]; omega)⟩
  · rintro (h | ⟨c, rfl⟩)
    · omega
    · simp only [key]; omega

/-- The keys of the tile of a trip were not seen before it: it lies before the diagonal. -/
theorem key_notMem (n k : ℕ) (hk : k < 16) (hkn : k < n) (c : Fin 256) : key k hk c ∉ seen n k := by
  simp only [seen, Finset.mem_filter, Finset.mem_univ, true_and, key]; omega

/-- The state after a set `K` of keys: the largest score, the sum of the exponentials and the weighted sums. -/
def Holds (x0 : Vec Ideal S1x256x256 .bf16) (x1 : Vec Ideal S1x4096x256 .bf16) (x2 : Vec Ideal S1x4096x128 .bf16) (n : ℕ)
    (K : Finset (Fin 4096)) (s : FVec Ideal S256x1 .f32 × FVec Ideal S256x1 .f32 × FVec Ideal S256x128 .f32) : Prop :=
  ∀ r : Fin 256, s.1 (ix2 r 0) = K.sup (score x0 x1 n r) ∧
    s.2.1 (ix2 r 0) = ∑ j ∈ K, Ideal.exp (score x0 x1 n r j - K.sup (score x0 x1 n r)) ∧
    ∀ e : Fin 128, s.2.2 (ix2 r e) = ∑ j ∈ K, Ideal.exp (score x0 x1 n r j - K.sup (score x0 x1 n r)) * x2 (ix3 0 j e)

variable (x0 : Vec Ideal S1x256x256 .bf16) (x1 : Vec Ideal S1x4096x256 .bf16) (x2 : Vec Ideal S1x4096x128 .bf16)

/-- The diagonal tile leaves the state of its own keys. -/
theorem holds_zero (n : ℕ) (hn : n < 16) (K : Vec Ideal S1x256x256 .bf16) (W : Vec Ideal S1x256x128 .bf16)
    (hK : ∀ c d, K (ix3 0 c d) = x1 (ix3 0 (key n hn c) d)) (hW : ∀ c e, W (ix3 0 c e) = x2 (ix3 0 (key n hn c) e)) :
    Holds x0 x1 x2 n (seen n 0) (k0_pay19 x0 K, k0_pay22 x0 K, k0_pay1 (k0_pay17 W) (k0_pay21 x0 K) (k0_pay23 x0 K)) := by
  have hs : ∀ r c, k0_pay18 x0 K (ix2 r c) = score x0 x1 n r (key n hn c) := fun r c => by
    rw [pay18_at, score]
    refine if_congr ?_ ?_ rfl
    · simp only [key]; omega
    · simp only [hK]
  have hm : ∀ r, k0_pay19 x0 K (ix2 r 0) = (seen n 0).sup (score x0 x1 n r) := fun r => by
    rw [pay19_at, seen_zero n hn, Finset.sup_image]
    exact Finset.sup_congr rfl fun c _ => hs r c
  refine fun r => ⟨hm r, ?_, fun e => ?_⟩
  · show k0_pay22 x0 K (ix2 r 0) = _
    rw [pay22_at, seen_zero n hn, Finset.sum_image (fun a _ b _ h => key_inj n hn h), ← seen_zero n hn]
    exact Finset.sum_congr rfl fun c _ => by rw [pay21_at, hs, hm]
  · show k0_pay1 _ _ _ (ix2 r e) = _
    rw [pay1_at, pay23_at, zero_add, seen_zero n hn, Finset.sum_image (fun a _ b _ h => key_inj n hn h), ← seen_zero n hn]
    exact Finset.sum_congr rfl fun c _ => by rw [pay21_at, hs, hm, pay17_at, hW]

/-- One trip adds the keys of its tile. -/
theorem holds_succ (n k : ℕ) (hk : k < 16) (hkn : k < n) (K : Vec Ideal S1x256x256 .bf16) (W : Vec Ideal S1x256x128 .bf16)
    (hK : ∀ c d, K (ix3 0 c d) = x1 (ix3 0 (key k hk c) d)) (hW : ∀ c e, W (ix3 0 c e) = x2 (ix3 0 (key k hk c) e))
    (s : FVec Ideal S256x1 .f32 × FVec Ideal S256x1 .f32 × FVec Ideal S256x128 .f32) (h : Holds x0 x1 x2 n (seen n k) s) :
    Holds x0 x1 x2 n (seen n (k + 1)) (k0_pay3 (k0_pay15 x0) s.1 K, k0_pay6 (k0_pay15 x0) s.1 s.2.1 K,
      k0_pay7 (k0_pay15 x0) s.1 s.2.2 K W) := by
  have hs : ∀ r c, k0_pay2 (k0_pay15 x0) K (ix2 r c) = score x0 x1 n r (key k hk c) := fun r c => by
    rw [pay2_at, score, if_pos (by simp only [key]; omega)]
    simp only [hK, pay15_at]
  have hm : ∀ r, k0_pay3 (k0_pay15 x0) s.1 K (ix2 r 0) = (seen n (k + 1)).sup (score x0 x1 n r) := fun r => by
    rw [pay3_at, seen_succ n k hk, Finset.sup_union, Finset.sup_image, (h r).1]
    exact congrArg _ (Finset.sup_congr rfl fun c _ => hs r c)
  have hle : ∀ r, ∀ j ∈ seen n k, score x0 x1 n r j ≤ (seen n k).sup (score x0 x1 n r) := fun r j hj => Finset.le_sup hj
  have hle' : ∀ r, (seen n k).sup (score x0 x1 n r) ≤ (seen n (k + 1)).sup (score x0 x1 n r) := fun r =>
    Finset.sup_mono (by rw [seen_succ n k hk]; exact Finset.subset_union_left)
  refine fun r => ⟨hm r, ?_, fun e => ?_⟩
  · show k0_pay6 _ _ _ _ (ix2 r 0) = _
    have := Online.step (seen n k) (key k hk) (key_inj k hk) (key_notMem n k hk hkn) (score x0 x1 n r) (fun _ => 1)
      (hle r) (hle' r)
    simp only [mul_one] at this
    rw [pay6_at, pay4_at, hm, (h r).1, (h r).2.1]
    simp only [pay5_at, hm, hs]
    rw [this, ← seen_succ]
  · show k0_pay7 _ _ _ _ _ (ix2 r e) = _
    have := Online.step (seen n k) (key k hk) (key_inj k hk) (key_notMem n k hk hkn) (score x0 x1 n r)
      (fun j => x2 (ix3 0 j e)) (hle r) (hle' r)
    rw [pay7_at, pay4_at, hm, (h r).1, (h r).2.2 e]
    simp only [pay5_at, hm, hs, hW]
    rw [this, ← seen_succ]

/-- A key that is never visited is masked. -/
theorem score_unseen (n : ℕ) (r : Fin 256) (j : Fin 4096) (h : j ∉ seen n n) : score x0 x1 n r j = ⊥ := by
  simp only [seen, Finset.mem_filter, Finset.mem_univ, true_and] at h
  exact if_neg (by omega)

/-- After the last trip the maximum over the keys seen is that over all keys: the others are masked. -/
theorem sup_seen (n : ℕ) (r : Fin 256) : (seen n n).sup (score x0 x1 n r) = Finset.univ.sup (score x0 x1 n r) := by
  refine le_antisymm (Finset.sup_mono (Finset.subset_univ _)) (Finset.sup_le fun j _ => ?_)
  by_cases h : j ∈ seen n n
  · exact Finset.le_sup h
  · rw [score_unseen x0 x1 n r j h]; exact bot_le

/-- After the last trip a weighted sum over the keys seen is that over all keys: the others have weight zero. -/
theorem sum_seen (n : ℕ) (r : Fin 256) (w : Fin 4096 → EReal) (M : EReal) :
    ∑ j ∈ seen n n, Ideal.exp (score x0 x1 n r j - M) * w j = ∑ j, Ideal.exp (score x0 x1 n r j - M) * w j := by
  refine Finset.sum_subset (Finset.subset_univ _) fun j _ h => ?_
  rw [score_unseen x0 x1 n r j h, sub_eq_add_neg, EReal.bot_add, Online.exp_bot, zero_mul]

/-- The tile of keys or values loaded at one trip, read at one element of the block. -/
theorem ld_key (i : grid0.Coords) (o : Fin 3 → ℕ) (k : ℕ) (hk : k < 16) (ho : o = ![0, 256 * k, 0]) {w : ℕ}
    (x : Vec Ideal ⟨3, ![1, 4096, w]⟩ .bf16) (h : ∀ a, o a + (![1, 256, w] : Fin 3 → ℕ) a ≤ (⟨3, ![1, 4096, w]⟩ : Shape).size a)
    (c : Fin 256) (d : Fin w) :
    View.ld x (Rect.unit (s := ⟨3, ![1, 4096, w]⟩) o ![1, 256, w] h) (ix3 0 c d) = x (ix3 0 (key k hk c) d) :=
  ld_tile x o (256 * k) ho h 0 c d (key k hk c).isLt

/-- THE BLOCK a grid point writes. -/
theorem block_eq (c : Dev nD) (i : grid0.Coords) (arg3 : Memref sig .tc .vmem S1x256x256 .bf16) (harg3 : arg3.IsWhole)
    (arg4 : Memref sig .tc .vmem S1x4096x256 .bf16) (harg4 : arg4.IsWhole) (arg5 : Memref sig .tc .vmem S1x4096x128 .bf16)
    (harg5 : arg5.IsWhole) (arg6 : Memref sig .tc .vmem S1x256x128 .bf16) (harg6 : arg6.IsWhole) (r : Fin 256) (e : Fin 128) :
    out0_A_3 c i arg3 harg3 arg4 harg4 arg5 harg5 arg6 harg6 x0 x1 x2 (ix3 0 r e) =
      Ideal.div
        (∑ j, Ideal.exp (score x0 x1 (i 2).val r j - Finset.univ.sup (score x0 x1 (i 2).val r)) * x2 (ix3 0 j e))
        (∑ j, Ideal.exp (score x0 x1 (i 2).val r j - Finset.univ.sup (score x0 x1 (i 2).val r))) := by
  have hn : (i 2).val < 16 := (i 2).isLt
  rw [out_eq]
  dsimp only
  rw [pay14_at]
  have key : ∀ k, k ≤ (i 2).val → Holds x0 x1 x2 (i 2).val (seen (i 2).val k)
      (st_k0_t1 Variants.none c none i arg3 harg3 arg4 harg4 arg5 harg5 arg6 harg6 (k0_pay15 x0)
        (harg4.unread x1) (harg5.unread x2)
        (k0_pay19 x0 (View.ld x1 (Rect.unit (s := S1x4096x256) (k0_off1 i) ![1, 256, 256] (k0_off1_inb i))),
          k0_pay22 x0 (View.ld x1 (Rect.unit (s := S1x4096x256) (k0_off1 i) ![1, 256, 256] (k0_off1_inb i))),
          k0_pay1 (k0_pay17 (View.ld x2 (Rect.unit (s := S1x4096x128) (k0_off2 i) ![1, 256, 128] (k0_off2_inb i))))
            (k0_pay21 x0 (View.ld x1 (Rect.unit (s := S1x4096x256) (k0_off1 i) ![1, 256, 256] (k0_off1_inb i))))
            (k0_pay23 x0 (View.ld x1 (Rect.unit (s := S1x4096x256) (k0_off1 i) ![1, 256, 256] (k0_off1_inb i))))) k) := by
    intro k
    induction k with
    | zero =>
      intro _
      rw [st_k0_t1_zero]
      exact holds_zero x0 x1 x2 _ hn _ _ (fun c d => ld_key i _ _ hn (k0_off1_eq i) x1 _ c d)
        (fun c e => ld_key i _ _ hn (k0_off2_eq i) x2 _ c e)
    | succ k ih =>
      intro hk
      have hk' : k < (k0_t1_loop i).trips := by rw [trips1]; omega
      have := st_k0_t1_succ Variants.none c none i arg3 harg3 arg4 harg4 arg5 harg5 arg6 harg6 (k0_pay15 x0)
        (harg4.unread x1) (harg5.unread x2)
        (k0_pay19 x0 (View.ld x1 (Rect.unit (s := S1x4096x256) (k0_off1 i) ![1, 256, 256] (k0_off1_inb i))),
          k0_pay22 x0 (View.ld x1 (Rect.unit (s := S1x4096x256) (k0_off1 i) ![1, 256, 256] (k0_off1_inb i))),
          k0_pay1 (k0_pay17 (View.ld x2 (Rect.unit (s := S1x4096x128) (k0_off2 i) ![1, 256, 128] (k0_off2_inb i))))
            (k0_pay21 x0 (View.ld x1 (Rect.unit (s := S1x4096x256) (k0_off1 i) ![1, 256, 256] (k0_off1_inb i))))
            (k0_pay23 x0 (View.ld x1 (Rect.unit (s := S1x4096x256) (k0_off1 i) ![1, 256, 256] (k0_off1_inb i))))) ⟨k, hk'⟩
      rw [this, trip_eq]
      refine holds_succ x0 x1 x2 _ k (by omega) (by omega) _ _ (fun c d => ?_) (fun c e => ?_) _ (ih (by omega))
      · rw [← ld_key i _ k (by omega) (k0_off3_eq i ⟨k, hk'⟩) x1 (k0_off3_inb i ⟨k, hk'⟩) c d]
        exact harg4.readAt_unread x1 _ _
      · rw [← ld_key i _ k (by omega) (k0_off4_eq i ⟨k, hk'⟩) x2 (k0_off4_inb i ⟨k, hk'⟩) c e]
        exact harg5.readAt_unread x2 _ _
  have fin := key (i 2).val le_rfl r
  rw [fin.2.1, fin.2.2 e, sup_seen, sum_seen]
  congr 1
  have := sum_seen x0 x1 (i 2).val r (fun _ => 1) (Finset.univ.sup (score x0 x1 (i 2).val r))
  simpa only [mul_one] using this

end Cert.MlaIdeal.Hand

end
-- ==== Proof.MlaRef.lean ====
/- The reference of the attention call, read at one element: the softmax attention of one query over all keys of the
   sequence, the keys of later chunks masked. -/
module

public import proofs.«01_k».proof.Proof.Gen.MlaRefIdeal.Run
public import Idealize.ShloMosaic.Lib.Pipeline.ValueKit
public import Idealize.ShloMosaic.Lib.Pointwise
public import Idealize.ShloMosaic.Lib.IdealHost

@[expose] public section

set_option maxRecDepth 16384

noncomputable section

namespace Cert.MlaRefIdeal.Hand

open Cert.MlaRefIdeal Cert.MlaRefIdeal.Gen Idealize.ShloMosaic Idealize.ShloMosaic.TcCoe Idealize.SL.Sem

/-- The chunk of every position: the floor division of the position by 64. -/
def chunk : IVec S4096 32 :=
  select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))

/-- Which keys each query sees. -/
def vis : IVec S4096x4096 1 :=
  cmpi .sle (broadcastInDim S4096x4096 ![0, 1] bcast_S1x4096_S4096x4096_0_1 (broadcastInDim S1x4096 ![1] bcast_S4096_S1x4096_1 chunk)) (broadcastInDim S4096x4096 ![0, 1] bcast_S4096x1_S4096x4096_0_1 (broadcastInDim S4096x1 ![0] bcast_S4096_S4096x1_0 chunk))

/-- The masked scores. -/
def scores (q k : FVec Ideal S2x4096x2048 .bf16) : FVec Ideal S2x8x4096x4096 .f32 :=
  select (broadcastInDim S2x8x4096x4096 ![0, 1, 2, 3] bcast_S1x1x4096x4096_S2x8x4096x4096_0_1_2_3 (broadcastInDim S1x1x4096x4096 ![2, 3] bcast_S4096x4096_S1x1x4096x4096_2_3 vis)) (mulf (Host.dotGeneral dot_S2x4096x8x256_S2x4096x8x256_S2x8x4096x4096_3_3_1_1_02_02 none (shapeCast _ (extf .f32 q bitsLt_bf16_f32) shapeCasts_S2x4096x2048_S2x4096x8x256) (shapeCast _ (extf .f32 k bitsLt_bf16_f32) shapeCasts_S2x4096x2048_S2x4096x8x256)) (broadcastInDim S2x8x4096x4096 ![] bcast_S_S2x8x4096x4096 (constant S_ .f32 0x3D93CD3A#32))) (broadcastInDim S2x8x4096x4096 ![] bcast_S_S2x8x4096x4096 (id (constant S_ .f32 0xFF800000#32)))

/-- The largest score of each query. -/
def top (s : FVec Ideal S2x8x4096x4096 .f32) : FVec Ideal S2x8x4096 .f32 :=
  maximumf (broadcastInDim S2x8x4096 ![] bcast_S_S2x8x4096 (constant S_ .f32 0xFF800000#32)) (Host.reduce FloatOps.maximumf s (constant S_ .f32 0xFF800000#32) reducesTo_S2x8x4096x4096_S2x8x4096_d3 h_S_)

/-- The exponentials of the scores relative to the largest. -/
def pexp (s : FVec Ideal S2x8x4096x4096 .f32) : FVec Ideal S2x8x4096x4096 .f32 :=
  Host.exp (subf s (broadcastInDim S2x8x4096x4096 ![0, 1, 2, 3] bcast_S2x8x4096x1_S2x8x4096x4096_0_1_2_3 (broadcastInDim S2x8x4096x1 ![0, 1, 2] bcast_S2x8x4096_S2x8x4096x1_0_1_2 (top s))))

/-- The exponentials over their sum. -/
def prob (p : FVec Ideal S2x8x4096x4096 .f32) : FVec Ideal S2x8x4096x4096 .f32 :=
  Host.divf p (broadcastInDim S2x8x4096x4096 ![0, 1, 2, 3] bcast_S2x8x4096x1_S2x8x4096x4096_0_1_2_3 (broadcastInDim S2x8x4096x1 ![0, 1, 2] bcast_S2x8x4096_S2x8x4096x1_0_1_2 (Host.reduceAdd p (constant S_ .f32 0x00000000#32) reducesTo_S2x8x4096x4096_S2x8x4096_d3 h_S_)))

/-- The values weighted. -/
def mix (p : FVec Ideal S2x8x4096x4096 .f32) (v : FVec Ideal S2x4096x1024 .bf16) : FVec Ideal S2x4096x1024 .bf16 :=
  truncf .bf16 (shapeCast _ (transpose S2x4096x8x128 [0, 3, 1, 2] (Host.dotGeneral dot_S2x4096x8x128_S2x8x4096x4096_S2x8x128x4096_1_3_3_2_02_01 none (shapeCast _ (extf .f32 v bitsLt_bf16_f32) shapeCasts_S2x4096x1024_S2x4096x8x128) p) transposes_S2x8x128x4096_S2x4096x8x128_0_3_1_2) shapeCasts_S2x4096x8x128_S2x4096x1024) bitsLt_bf16_f32

/-- The reference's result is the mix of the values by the normalized exponentials of the masked scores. -/
theorem res_eq (m : (ℓ : Loc nD τ sig) → Buf (Elt Ideal) ℓ) (c : Dev nD) :
    Value.res_main_v32 m c = mix (prob (pexp (scores (m (c.tc.loc main_arg0)) (m (c.tc.loc main_arg1))))) (m (c.tc.loc main_arg2)) := by
  unfold Value.res_main_v32
  rfl

/-- The floor division of a word by 64, as the host prints it. -/
def floorWord (x y : BitVec 32) : BitVec 32 :=
  Scalar.select (IntOp.andi (IntOp.cmpi .ne (if x = 0 then 0 else if x.msb = true then -1 else 1 : BitVec 32)
      (if y = 0 then 0 else if y.msb = true then -1 else 1 : BitVec 32)) (IntOp.cmpi .ne (IntOp.remsi .host x y) 0#32))
      (IntOp.subi (IntOp.divsi .host x y) 1#32) (IntOp.divsi .host x y)

/-- The floor division of a position's word by 64 is the word of the quotient. -/
theorem floor_word : ∀ r : Fin 4096, floorWord (BitVec.ofNat 32 r.val) 64#32 = BitVec.ofNat 32 (r.val / 64) := by
  decide +kernel

/-- The chunk of one position. -/
theorem chunk_at (r : Fin 4096) : chunk (ix1 r) = BitVec.ofNat 32 (r.val / 64) := by
  pointwise [chunk]
  exact floor_word r

/-- The comparison of two chunk words is that of the chunks. -/
theorem word_le : ∀ a b : Fin 64, (IntOp.cmpi .sle (BitVec.ofNat 32 a.val) (BitVec.ofNat 32 b.val) = 1) ↔ a.val ≤ b.val := by
  decide +kernel

/-- The word the maximum starts from is minus infinity. -/
theorem ninf : Ideal.ofBits .f32 0xFF800000#32 = ⊥ := by simp [Ideal.ofBits, Ideal.ieee]

/-- A maximum folded from minus infinity is the supremum. -/
theorem fold_max {n : ℕ} (f : Fin n → EReal) : Finset.fold max ⊥ f Finset.univ = Finset.univ.sup f := rfl

/-- A query sees a key when the key's chunk is not later than its own. -/
theorem vis_at (r j : Fin 4096) : vis (ix2 r j) = 1 ↔ j.val / 64 ≤ r.val / 64 := by
  have : vis (ix2 r j) = IntOp.cmpi .sle (chunk (ix1 j)) (chunk (ix1 r)) := by
    pointwise [vis]
  rw [this, chunk_at, chunk_at]
  exact word_le ⟨j.val / 64, by omega⟩ ⟨r.val / 64, by omega⟩

/-- The score of key `j` for query `r`. -/
def score (q k : FVec Ideal S2x4096x2048 .bf16) (b : Fin 2) (h : Fin 8) (r j : Fin 4096) : EReal :=
  if j.val / 64 ≤ r.val / 64 then
    (∑ d : Fin 256, q (ix3 b r ⟨h.val * 256 + d.val, by omega⟩) * k (ix3 b j ⟨h.val * 256 + d.val, by omega⟩)) * Ideal.ofBits .f32 0x3D93CD3A#32
  else ⊥

/-- The masked score of one query and one key of a head. -/
theorem scores_at (q k : FVec Ideal S2x4096x2048 .bf16) (b : Fin 2) (h : Fin 8) (r j : Fin 4096) :
    scores q k (ix4 b h r j) = score q k b h r j := by
  pointwise [scores]
  rw [Scalar.select, score]
  exact if_congr (vis_at r j) rfl ninf

/-- A maximum over the last of four axes, from minus infinity, is the supremum along that axis. -/
theorem reduce_max {a b r n : ℕ} (s : FVec Ideal (⟨4, ![a, b, r, n]⟩ : Shape) .f32) (init : FVec Ideal S_ .f32)
    (h : (⟨4, ![a, b, r, n]⟩ : Shape).ReducesTo [3] ⟨3, ![a, b, r]⟩) (hu : 0 < S_.numel)
    (hi : init (Shape.Idx.first hu) = (⊥ : EReal)) (i : Fin a) (j : Fin b) (k : Fin r) :
    Host.reduce FloatOps.maximumf s init h hu (ix3 i j k) = Finset.univ.sup fun l : Fin n => (s (ix4 i j k l) : EReal) := by
  rw [Host.reduce_eq_fold, h.fold_fiber_r4_a3, hi]
  rfl

/-- A maximum with a constant that is minus infinity changes nothing. -/
theorem low (y : FVec Ideal S2x8x4096 .f32) (c : FVec Ideal S_ .f32) (hc : c ix0 = (⊥ : EReal)) (b : Fin 2) (h : Fin 8) (r : Fin 4096) :
    maximumf (broadcastInDim S2x8x4096 ![] bcast_S_S2x8x4096 c) y (ix3 b h r) = y (ix3 b h r) := by
  have : maximumf (broadcastInDim S2x8x4096 ![] bcast_S_S2x8x4096 c) y (ix3 b h r) = max (c ix0) (y (ix3 b h r)) := by
    pointwise []
  rw [this, hc]
  exact max_eq_right bot_le

/-- The largest score of a query. -/
theorem top_at (s : FVec Ideal S2x8x4096x4096 .f32) (b : Fin 2) (h : Fin 8) (r : Fin 4096) :
    top s (ix3 b h r) = Finset.univ.sup fun j => s (ix4 b h r j) := by
  unfold top
  exact (low _ _ ninf b h r).trans (reduce_max s _ reducesTo_S2x8x4096x4096_S2x8x4096_d3 h_S_ ninf b h r)

/-- The exponential of one score less the maximum of its row. -/
theorem pexp_at (s : FVec Ideal S2x8x4096x4096 .f32) (b : Fin 2) (h : Fin 8) (r j : Fin 4096) :
    pexp s (ix4 b h r j) = Ideal.exp (s (ix4 b h r j) - top s (ix3 b h r)) := by
  pointwise [pexp]

/-- The probability of one key: its exponential over the sum of its row. -/
theorem prob_at (p : FVec Ideal S2x8x4096x4096 .f32) (b : Fin 2) (h : Fin 8) (r j : Fin 4096) :
    prob p (ix4 b h r j) = Ideal.div (p (ix4 b h r j)) (∑ j, p (ix4 b h r j)) := by
  pointwise [prob]

/-- One element of the result: the sum of the values weighted by the probabilities. -/
theorem mix_at (p : FVec Ideal S2x8x4096x4096 .f32) (v : FVec Ideal S2x4096x1024 .bf16) (b : Fin 2) (h : Fin 8) (r : Fin 4096) (e : Fin 128) :
    mix p v (ix3 b r ⟨128 * h.val + e.val, by omega⟩) = ∑ j, v (ix3 b j ⟨h.val * 128 + e.val, by omega⟩) * p (ix4 b h r j) := by
  pointwise [mix]

/-- The attention at one element: the values weighted by the softmax of the masked scores. -/
theorem attn_at (q k : FVec Ideal S2x4096x2048 .bf16) (v : FVec Ideal S2x4096x1024 .bf16) (b : Fin 2) (h : Fin 8) (r : Fin 4096) (e : Fin 128) :
    mix (prob (pexp (scores q k))) v (ix3 b r ⟨128 * h.val + e.val, by omega⟩) =
      ∑ j, v (ix3 b j ⟨h.val * 128 + e.val, by omega⟩) *
        Ideal.div (Ideal.exp (score q k b h r j - Finset.univ.sup (score q k b h r)))
          (∑ j, Ideal.exp (score q k b h r j - Finset.univ.sup (score q k b h r))) := by
  rw [mix_at]
  simp only [prob_at, pexp_at, top_at, scores_at]

end Cert.MlaRefIdeal.Hand

end
-- ==== Proof.Softmax.lean ====
/- A softmax over finitely many scores of which one at least is a real and none is the positive infinity: dividing the
   weighted sum of the exponentials by their sum is weighting by the quotients. -/
module

public import proofs.«01_k».proof.Proof.Online

@[expose] public section

noncomputable section

namespace Cert.Online

open Idealize.ShloMosaic

/-- The exponential of anything but the positive infinity is a real that is not negative. -/
theorem exp_real {x : EReal} (h : x ≠ ⊤) : ∃ r : ℝ, 0 ≤ r ∧ Ideal.exp x = (r : EReal) := by
  induction x with
  | bot => exact ⟨0, le_rfl, rfl⟩
  | top => exact absurd rfl h
  | coe x => exact ⟨Real.exp x, (Real.exp_pos x).le, rfl⟩

/-- A finite sum of reals is a real. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The quotient by a real that is not zero is the product with its inverse. -/
theorem div_real (x : EReal) {l : ℝ} (h : l ≠ 0) : Ideal.div x (l : EReal) = x * ((l⁻¹ : ℝ) : EReal) := by
  unfold Ideal.div
  rw [if_neg (by exact_mod_cast h), EReal.coe_inv]

/-- The largest of scores none of which is the positive infinity, one a real, is a real. -/
theorem sup_real {ι : Type*} [Fintype ι] (S : ι → EReal) (hS : ∀ j, S j ≠ ⊤) (o : ι) (ho : S o ≠ ⊥) :
    ∃ M : ℝ, Finset.univ.sup S = (M : EReal) := by
  have h1 : Finset.univ.sup S ≠ ⊤ := by
    apply ne_of_lt
    rw [Finset.sup_lt_iff (by simp)]
    exact fun j _ => lt_top_iff_ne_top.2 (hS j)
  have h2 : Finset.univ.sup S ≠ ⊥ := fun e => ho (le_bot_iff.1 (e ▸ Finset.le_sup (Finset.mem_univ o)))
  lift Finset.univ.sup S to ℝ using ⟨h1, h2⟩ with M
  exact ⟨M, rfl⟩

/-- The exponentials relative to a real `M`, and their sum, are reals; the sum is positive. -/
theorem exps_real {ι : Type*} [Fintype ι] (S : ι → EReal) (hS : ∀ j, S j ≠ ⊤) (o : ι) (ho : S o ≠ ⊥) (M : ℝ) :
    ∃ p : ι → ℝ, (∀ j, 0 ≤ p j) ∧ (∀ j, Ideal.exp (S j - (M : EReal)) = ((p j : ℝ) : EReal)) ∧
      0 < ∑ j, p j ∧ ∑ j, Ideal.exp (S j - (M : EReal)) = ((∑ j, p j : ℝ) : EReal) := by
  have hx : ∀ j, S j - (M : EReal) ≠ ⊤ := fun j => by
    have := hS j
    generalize S j = x at this
    induction x with
    | bot => simp [sub_eq_add_neg]
    | top => exact absurd rfl this
    | coe x => rw [← EReal.coe_sub]; exact EReal.coe_ne_top _
  choose p hp0 hp using fun j => exp_real (hx j)
  refine ⟨p, hp0, hp, ?_, ?_⟩
  · refine Finset.sum_pos' (fun j _ => hp0 j) ⟨o, Finset.mem_univ o, ?_⟩
    have h1 := hp o
    have h2 := hS o
    generalize S o = x at h1 h2 ho
    induction x with
    | bot => exact absurd rfl ho
    | top => exact absurd rfl h2
    | coe x =>
      rw [← EReal.coe_sub, exp_coe, EReal.coe_eq_coe_iff] at h1
      rw [← h1]
      exact Real.exp_pos _
  · rw [← sum_coe]
    exact Finset.sum_congr rfl fun j _ => hp j

/-- THE QUOTIENT: the weighted sum over the sum is the sum of the weights' quotients. -/
theorem quotient {ι : Type*} [Fintype ι] (S v : ι → EReal) (hS : ∀ j, S j ≠ ⊤) (o : ι) (ho : S o ≠ ⊥) :
    Ideal.div (∑ j, Ideal.exp (S j - Finset.univ.sup S) * v j) (∑ j, Ideal.exp (S j - Finset.univ.sup S)) =
      ∑ j, v j * Ideal.div (Ideal.exp (S j - Finset.univ.sup S)) (∑ j, Ideal.exp (S j - Finset.univ.sup S)) := by
  obtain ⟨M, hM⟩ := sup_real S hS o ho
  obtain ⟨p, hp0, hp, hl, hs⟩ := exps_real S hS o ho M
  rw [hM, hs, div_real _ hl.ne', mul_comm, coe_mul_sum _ _ _ (inv_nonneg.2 hl.le)]
  refine Finset.sum_congr rfl fun j _ => ?_
  rw [div_real _ hl.ne']
  exact (mul_comm _ _).trans (by rw [mul_comm (Ideal.exp _) (v j), mul_assoc])

end Cert.Online

end
-- ==== Proof.MlaFinal.lean ====
/- The attention call's output array after the run is the reference's result, from finite queries and keys. -/
module

public import proofs.«01_k».proof.Proof.MlaBlock
public import proofs.«01_k».proof.Proof.MlaRef
public import proofs.«01_k».proof.Proof.Softmax
public import proofs.«01_k».proof.Proof.Gen.MlaIdeal.Value
public import proofs.«01_k».proof.Proof.Gen.Pre_mla_finite
public import Idealize.ShloMosaic.Lib.Pipeline.ValueKit

@[expose] public section

set_option maxRecDepth 16384

noncomputable section

namespace Cert.MlaIdeal.Hand

open Cert.MlaIdeal Cert.MlaIdeal.Gen Idealize.ShloMosaic Idealize.ShloMosaic.TcCoe Idealize.SL.Sem

/-- Where point `t` of the grid lies: its tile of queries, and the blocks of its windows. -/
theorem idx : ∀ t : Fin cfg0.N, (grid0.coords t 2).val = t.val % 16
    ∧ win0_0.index t = ![t.val / 128, t.val % 16, t.val / 16 % 8] ∧ win0_1.index t = ![t.val / 128, 0, t.val / 16 % 8]
    ∧ win0_2.index t = ![t.val / 128, 0, t.val / 16 % 8] ∧ win0_3.index t = ![t.val / 128, t.val % 16, t.val / 16 % 8] :=
  (by decide +kernel : ∀ t : Fin grid0.N, _)

variable (m : (ℓ : Loc nD τ sig) → Buf (Elt Ideal) ℓ)

/-- The queries. -/
abbrev Q (c : Dev nD) : FVec Ideal S2x4096x2048 .bf16 := m ((c : Thread nD τ).loc main_arg0)
/-- The keys. -/
abbrev K (c : Dev nD) : FVec Ideal S2x4096x2048 .bf16 := m ((c : Thread nD τ).loc main_arg1)
/-- The values. -/
abbrev W (c : Dev nD) : FVec Ideal S2x4096x1024 .bf16 := m ((c : Thread nD τ).loc main_arg2)

/-- The batch of point `t`. -/
abbrev bt (t : Fin cfg0.N) : Fin 2 := ⟨t.val / 128, by have : t.val < 256 := t.isLt; omega⟩
/-- The head of point `t`. -/
abbrev hd (t : Fin cfg0.N) : Fin 8 := ⟨t.val / 16 % 8, by omega⟩
/-- The query of row `r` of point `t`'s tile. -/
abbrev row (t : Fin cfg0.N) (r : Fin 256) : Fin 4096 := ⟨256 * (t.val % 16) + r.val, by omega⟩

/-- The block of queries at point `t`, read from the array of queries. -/
theorem q_blk (c : Dev nD) (t : Fin cfg0.N) (r d : Fin 256) :
    (iblk m c 0 t : Vec Ideal S1x256x256 .bf16) (ix3 0 r d) = Q m c (ix3 (bt t) (row t r) ⟨(hd t).val * 256 + d.val, by omega⟩) := by
  blk_point [iblk, V, Q, idx t]

/-- The block of keys at point `t`, read from the array of keys: all positions of one head. -/
theorem k_blk (c : Dev nD) (t : Fin cfg0.N) (j : Fin 4096) (d : Fin 256) :
    (iblk m c 1 t : Vec Ideal S1x4096x256 .bf16) (ix3 0 j d) = K m c (ix3 (bt t) j ⟨(hd t).val * 256 + d.val, by omega⟩) := by
  blk_point [iblk, V, K, idx t]

/-- The block of values at point `t`, read from the array of values: all positions of one head. -/
theorem v_blk (c : Dev nD) (t : Fin cfg0.N) (j : Fin 4096) (e : Fin 128) :
    (iblk m c 2 t : Vec Ideal S1x4096x128 .bf16) (ix3 0 j e) = W m c (ix3 (bt t) j ⟨(hd t).val * 128 + e.val, by omega⟩) := by
  blk_point [iblk, V, W, idx t]

/-- The scores of a tile are the reference's. -/
theorem score_blk (c : Dev nD) (t : Fin cfg0.N) (r : Fin 256) (j : Fin 4096) :
    score (iblk m c 0 t) (iblk m c 1 t) (grid0.coords t 2).val r j
      = Cert.MlaRefIdeal.Hand.score (Q m c) (K m c) (bt t) (hd t) (row t r) j := by
  unfold score Cert.MlaRefIdeal.Hand.score
  rw [(idx t).1]
  simp only [q_blk, k_blk]

/-- The scale of the scores is a real. -/
theorem scale_real : ∃ s : ℝ, Ideal.ofBits .f32 0x3D93CD3A#32 = (s : EReal) := by
  simp only [Ideal.ofBits, Ideal.ieee]
  norm_num
  exact ⟨_, rfl⟩

/-- Below the positive infinity in absolute value means being a real. -/
theorem real_of_lt {x : EReal} (h : (FloatOps.cmpf .olt (FloatOps.absf (F := Ideal) (φ := .f32) x) (Ideal.ofBits .f32 0x7F800000#32) : BitVec 1) = 1#1) : ∃ r : ℝ, x = r := by
  induction x with
  | bot => simp [FloatOps.cmpf, FloatOps.absf, Ideal.ofBits, Ideal.ieee] at h; simp [Ideal.cmp] at h
  | top => simp [FloatOps.cmpf, FloatOps.absf, Ideal.ofBits, Ideal.ieee] at h; simp [Ideal.cmp] at h
  | coe x => exact ⟨x, rfl⟩

/-- The scores of finite queries and keys are reals where the key is seen. -/
theorem score_real (q k : FVec Ideal S2x4096x2048 .bf16) (hq : ∀ i, ∃ r : ℝ, q i = (r : EReal)) (hk : ∀ i, ∃ r : ℝ, k i = (r : EReal))
    (b : Fin 2) (h : Fin 8) (r j : Fin 4096) (hj : j.val / 64 ≤ r.val / 64) :
    ∃ x : ℝ, Cert.MlaRefIdeal.Hand.score q k b h r j = (x : EReal) := by
  choose q' hq using hq
  choose k' hk using hk
  obtain ⟨s, hs⟩ := scale_real
  unfold Cert.MlaRefIdeal.Hand.score
  rw [if_pos hj, hs]
  simp only [hq, hk, ← EReal.coe_mul, Cert.Online.sum_coe]
  exact ⟨_, rfl⟩

/-- The attention of finite queries and keys at one element, the division done last. -/
theorem attn_div (q k : FVec Ideal S2x4096x2048 .bf16) (v : FVec Ideal S2x4096x1024 .bf16) (hq : ∀ i, ∃ r : ℝ, q i = (r : EReal)) (hk : ∀ i, ∃ r : ℝ, k i = (r : EReal))
    (b : Fin 2) (h : Fin 8) (r : Fin 4096) (e : Fin 128) :
    Ideal.div
        (∑ j, Ideal.exp (Cert.MlaRefIdeal.Hand.score q k b h r j - Finset.univ.sup (Cert.MlaRefIdeal.Hand.score q k b h r)) * v (ix3 b j ⟨h.val * 128 + e.val, by omega⟩))
        (∑ j, Ideal.exp (Cert.MlaRefIdeal.Hand.score q k b h r j - Finset.univ.sup (Cert.MlaRefIdeal.Hand.score q k b h r)))
      = Cert.MlaRefIdeal.Hand.mix (Cert.MlaRefIdeal.Hand.prob (Cert.MlaRefIdeal.Hand.pexp (Cert.MlaRefIdeal.Hand.scores q k))) v
          (ix3 b r ⟨128 * h.val + e.val, by omega⟩) := by
  rw [Cert.MlaRefIdeal.Hand.attn_at]
  refine Cert.Online.quotient _ (fun j => v (ix3 b j ⟨h.val * 128 + e.val, by omega⟩)) (fun j => ?_) r ?_
  · by_cases hj : j.val / 64 ≤ r.val / 64
    · obtain ⟨x, hx⟩ := score_real q k hq hk b h r j hj
      rw [hx]; exact EReal.coe_ne_top x
    · unfold Cert.MlaRefIdeal.Hand.score
      rw [if_neg hj]; exact bot_ne_top
  · obtain ⟨x, hx⟩ := score_real q k hq hk b h r r le_rfl
    rw [hx]; exact EReal.coe_ne_bot x

/-- What point `t` leaves in the output window is the reference's block. -/
theorem point (hq : ∀ c i, ∃ r : ℝ, Q m c i = (r : EReal)) (hk : ∀ c i, ∃ r : ℝ, K m c i = (r : EReal)) (c : Dev nD) (t : Fin cfg0.N) (r : Fin 256) (e : Fin 128) :
    outsAt0 m c t (ix3 0 r e) =
      Cert.MlaRefIdeal.Hand.mix (Cert.MlaRefIdeal.Hand.prob (Cert.MlaRefIdeal.Hand.pexp (Cert.MlaRefIdeal.Hand.scores (Q m c) (K m c)))) (W m c)
          (ix3 (bt t) (row t r) ⟨128 * (hd t).val + e.val, by omega⟩) := by
  rw [← attn_div _ _ _ (hq c) (hk c)]
  unfold outsAt0
  rw [block_eq]
  simp only [v_blk]
  rw [show score (iblk m c 0 t) (iblk m c 1 t) (grid0.coords t 2).val r = Cert.MlaRefIdeal.Hand.score (Q m c) (K m c) (bt t) (hd t) (row t r) from
    funext fun j => score_blk m c t r j]

/-- THE OUTPUT ARRAY after the run. -/
theorem final (hq : ∀ c i, ∃ r : ℝ, Q m c i = (r : EReal)) (hk : ∀ c i, ∃ r : ℝ, K m c i = (r : EReal)) (c : Dev nD) :
    (dats m 0 c).arrAt 3 (cfgs 0).N =
      Cert.MlaRefIdeal.Hand.mix (Cert.MlaRefIdeal.Hand.prob (Cert.MlaRefIdeal.Hand.pexp (Cert.MlaRefIdeal.Hand.scores (Q m c) (K m c)))) (W m c) := by
  refine (dats m 0 c).arrAt_eq_of_covers 3 _ (by decide +kernel) fun t _ y => ?_
  blk_simp
  rw [after0_3]
  obtain ⟨r, e, rfl⟩ : ∃ (r : Fin 256) (e : Fin 128), y = ix3 0 r e :=
    ⟨y 1, y 2, by
      funext a
      match a with
      | ⟨0, _⟩ => exact Subsingleton.elim (α := Fin 1) _ _
      | ⟨1, _⟩ => rfl
      | ⟨2, _⟩ => rfl⟩
  refine (point m hq hk c t r e).trans ?_
  generalize Cert.MlaRefIdeal.Hand.mix _ _ = R
  blk_point [idx t]

end Cert.MlaIdeal.Hand

end
-- ==== Proof.MlaClaims.lean ====
/- The claims about the attention call. -/
module

public import proofs.«01_k».proof.Defs
public import proofs.«01_k».proof.Proof.MlaFinal
public import proofs.«01_k».proof.Proof.Gen.Mla.Frame
public import proofs.«01_k».proof.Proof.Gen.MlaIdeal.Frame
public import proofs.«01_k».proof.Proof.Gen.MlaIdeal.Value
public import proofs.«01_k».proof.Proof.Gen.MlaRefIdeal.Run
public import proofs.«01_k».proof.Proof.Gen.Pre_mla_finite
public import Idealize.ShloMosaic.Lib.Claim

@[expose] public section

noncomputable section

namespace Cert.Proof.MlaClaims

open Idealize.ShloMosaic Idealize.ShloMosaic.TcCoe Idealize.SL.Sem

/-- The kernel runs and leaves its arguments. -/
theorem frame_p : Cert.quiescent_Mla := fun m ρ _ => Cert.Mla.Gen.frame m ρ

/-- The idealized kernel runs and leaves its arguments. -/
theorem frame_pi : Cert.quiescent_MlaIdeal := fun m ρ _ => Cert.MlaIdeal.Gen.frame m ρ

/-- The same from finite queries and keys. -/
theorem frame_pi_pre : Cert.quiescent_MlaIdeal_pre_mla_finite := fun m ρ _ => Cert.MlaIdeal.Gen.frame m ρ

/-- The reference runs and leaves its arguments. -/
theorem frame_ri : Cert.quiescent_MlaRefIdeal := fun m ρ _ =>
  (θ_run Cert.MlaRefIdeal.defs _ _).mono (fun r h => ⟨fun c => (h c).2, sem_eq_zero_of_no_sems (by decide) r.2⟩)
    (Cert.MlaRefIdeal.Value.run (F := Ideal) m ρ)

/-- The same from finite queries and keys. -/
theorem frame_ri_pre : Cert.quiescent_MlaRefIdeal_pre_mla_finite := fun m ρ _ => frame_ri m ρ trivial

/-- The mask's constant is the named minus infinity. -/
theorem preserves : Cert.preserves_Mla_MlaIdeal :=
  IdealRules.named_const.statement Cert.MlaIdeal.κ "mask" .f32 0xF149F2CA#32 ⊥ rfl

/-- The precondition says that the queries and the keys are reals. -/
theorem reals (m : (ℓ : Loc Cert.MlaIdeal.nD Cert.MlaIdeal.τ Cert.MlaIdeal.sig) → Buf (Elt Ideal) ℓ)
    (h : Cert.Pre_MlaIdeal_mla_finite m) :
    (∀ c i, ∃ r : ℝ, Cert.MlaIdeal.Hand.Q m c i = (r : EReal)) ∧ (∀ c i, ∃ r : ℝ, Cert.MlaIdeal.Hand.K m c i = (r : EReal)) :=
  ⟨fun c i => Cert.MlaIdeal.Hand.real_of_lt (congrFun (h c).1 i), fun c i => Cert.MlaIdeal.Hand.real_of_lt (congrFun (h c).2 i)⟩

/-- From finite queries and keys the kernel's result is the reference's. -/
theorem algebraic : Cert.algebraic_MlaIdeal_MlaRefIdeal_pre_mla_finite := by
  pair_intro
  · run_from Cert.MlaIdeal.Value.run_blocks m g
  · run_from Cert.MlaRefIdeal.Value.run m' g'
    rw [Cert.MlaRefIdeal.Hand.res_eq]
    have := hagree c
    rw [this.1, this.2.1, this.2.2]
    exact (Cert.MlaIdeal.Hand.final m (reals m hpre).1 (reals m hpre).2 c).symm

end Cert.Proof.MlaClaims

end
-- ==== Proof.Sums.lean ====
/- Sums cut into consecutive parts. -/
module

public import Mathlib.Algebra.BigOperators.Fin

@[expose] public section

namespace Cert.Sums

/-- A sum over three consecutive parts. -/
theorem split3 {M : Type*} [AddCommMonoid M] {a b c : ℕ} (f : Fin (a + b + c) → M) :
    ∑ k, f k = (∑ k : Fin a, f ⟨k.val, by omega⟩ + ∑ k : Fin b, f ⟨a + k.val, by omega⟩)
      + ∑ k : Fin c, f ⟨a + b + k.val, by omega⟩ := by
  rw [Fin.sum_univ_add, Fin.sum_univ_add]
  rfl

/-- A sum over two consecutive parts. -/
theorem split2 {M : Type*} [AddCommMonoid M] {a b : ℕ} (f : Fin (a + b) → M) :
    ∑ k, f k = ∑ k : Fin a, f ⟨k.val, by omega⟩ + ∑ k : Fin b, f ⟨a + k.val, by omega⟩ := by
  rw [Fin.sum_univ_add]
  rfl

end Cert.Sums
-- ==== Proof.OutRef.lean ====
/- The reference of the gated output projection, read at one element. -/
module

public import proofs.«01_k».proof.Proof.Gen.OutRefIdeal.Run
public import proofs.«01_k».proof.Proof.Sums
public import Idealize.ShloMosaic.Lib.Pipeline.ValueKit
public import Idealize.ShloMosaic.Lib.Pointwise
public import Idealize.ShloMosaic.Lib.IdealHost

@[expose] public section

set_option maxRecDepth 16384

noncomputable section

namespace Cert.OutRefIdeal.Hand

open Cert.OutRefIdeal Cert.OutRefIdeal.Gen Idealize.ShloMosaic Idealize.ShloMosaic.TcCoe Idealize.SL.Sem

/-- The three outputs, each by its gate, side by side. -/
def gate (y1 : FVec Ideal S2x4096x1024 .bf16) (y2 y3 : FVec Ideal S2x4096x512 .bf16) (z : FVec Ideal S2x4096x2048 .bf16) : FVec Ideal S2x4096x2048 .f32 :=
  concatenate S2x4096x2048 2 [⟨S2x4096x1024, mulf (extf .f32 y1 bitsLt_bf16_f32) (mulf (extractStridedSlice S2x4096x1024 ![0, 0, 0] (extf .f32 z bitsLt_bf16_f32) slices_S2x4096x2048_S2x4096x1024_0_0_0) (Host.divf (broadcastInDim S2x4096x1024 ![] bcast_S_S2x4096x1024 (constant S_ .f32 0x3F800000#32)) (addf (broadcastInDim S2x4096x1024 ![] bcast_S_S2x4096x1024 (constant S_ .f32 0x3F800000#32)) (Host.exp (Host.negf (extractStridedSlice S2x4096x1024 ![0, 0, 0] (extf .f32 z bitsLt_bf16_f32) slices_S2x4096x2048_S2x4096x1024_0_0_0))))))⟩,
    ⟨S2x4096x512, mulf (extf .f32 y2 bitsLt_bf16_f32) (mulf (extractStridedSlice S2x4096x512 ![0, 0, 1024] (extf .f32 z bitsLt_bf16_f32) slices_S2x4096x2048_S2x4096x512_0_0_1024) (Host.divf (broadcastInDim S2x4096x512 ![] bcast_S_S2x4096x512 (constant S_ .f32 0x3F800000#32)) (addf (broadcastInDim S2x4096x512 ![] bcast_S_S2x4096x512 (constant S_ .f32 0x3F800000#32)) (Host.exp (Host.negf (extractStridedSlice S2x4096x512 ![0, 0, 1024] (extf .f32 z bitsLt_bf16_f32) slices_S2x4096x2048_S2x4096x512_0_0_1024))))))⟩,
    ⟨S2x4096x512, mulf (extf .f32 y3 bitsLt_bf16_f32) (mulf (extractStridedSlice S2x4096x512 ![0, 0, 1536] (extf .f32 z bitsLt_bf16_f32) slices_S2x4096x2048_S2x4096x512_0_0_1536) (Host.divf (broadcastInDim S2x4096x512 ![] bcast_S_S2x4096x512 (constant S_ .f32 0x3F800000#32)) (addf (broadcastInDim S2x4096x512 ![] bcast_S_S2x4096x512 (constant S_ .f32 0x3F800000#32)) (Host.exp (Host.negf (extractStridedSlice S2x4096x512 ![0, 0, 1536] (extf .f32 z bitsLt_bf16_f32) slices_S2x4096x2048_S2x4096x512_0_0_1536))))))⟩] concatenates_S2x4096x1024_S2x4096x512_S2x4096x512_S2x4096x2048_d2

/-- The input with the projection added. -/
def pre (x : FVec Ideal S2x4096x2048 .f32) (y : FVec Ideal S2x4096x2048 .f32) (w : FVec Ideal S1x2048x2048 .f32) : FVec Ideal S2x4096x2048 .f32 :=
  addf x (Host.dotGeneral dot_S2x4096x2048_S2048x2048_S2x4096x2048_2_0_01_1_n_n none y (shapeCast _ w shapeCasts_S1x2048x2048_S2048x2048))

/-- Its norm. -/
def norm (x : FVec Ideal S2x4096x2048 .f32) (g : FVec Ideal S2048 .f32) : FVec Ideal S2x4096x2048 .f32 :=
  mulf (mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 g))

/-- The reference's result is the norm of the input with the projection of the gated outputs added. -/
theorem res_eq (m : (ℓ : Loc nD τ sig) → Buf (Elt Ideal) ℓ) (c : Dev nD) :
    Value.res_main_v29 m c = norm (pre (m (c.tc.loc main_arg0)) (gate (m (c.tc.loc main_arg1)) (m (c.tc.loc main_arg2)) (m (c.tc.loc main_arg3)) (m (c.tc.loc main_arg4))) (m (c.tc.loc main_arg5))) (m (c.tc.loc main_arg6)) := by
  unfold Value.res_main_v29
  rfl

/-- The norm at one element. -/
theorem norm_at (x : FVec Ideal S2x4096x2048 .f32) (g : FVec Ideal S2048 .f32) (b : Fin 2) (r : Fin 4096) (n : Fin 2048) :
    norm x g (ix3 b r n) = x (ix3 b r n) * Ideal.rsqrt (Ideal.div (∑ k, x (ix3 b r k) * x (ix3 b r k)) (Ideal.ofBits .f32 0x45000000#32) + Ideal.ofBits .f32 0x358637BD#32) * g (ix1 n) := by
  pointwise [norm]

/-- A value by its gate. -/
abbrev gated (y z : EReal) : EReal := y * (z * Ideal.logistic z)

/-- The first output's part. -/
theorem gate1_at (y1 : FVec Ideal S2x4096x1024 .bf16) (y2 y3 : FVec Ideal S2x4096x512 .bf16) (z : FVec Ideal S2x4096x2048 .bf16) (b : Fin 2) (r : Fin 4096) (k : Fin 1024) :
    gate y1 y2 y3 z (ix3 b r ⟨k.val, by omega⟩) = gated (y1 (ix3 b r k)) (z (ix3 b r ⟨k.val, by omega⟩)) := by
  pointwise [gate]
  rfl

/-- The second output's part. -/
theorem gate2_at (y1 : FVec Ideal S2x4096x1024 .bf16) (y2 y3 : FVec Ideal S2x4096x512 .bf16) (z : FVec Ideal S2x4096x2048 .bf16) (b : Fin 2) (r : Fin 4096) (k : Fin 512) :
    gate y1 y2 y3 z (ix3 b r ⟨1024 + k.val, by omega⟩) = gated (y2 (ix3 b r k)) (z (ix3 b r ⟨1024 + k.val, by omega⟩)) := by
  pointwise [gate]
  rfl

/-- The third output's part. -/
theorem gate3_at (y1 : FVec Ideal S2x4096x1024 .bf16) (y2 y3 : FVec Ideal S2x4096x512 .bf16) (z : FVec Ideal S2x4096x2048 .bf16) (b : Fin 2) (r : Fin 4096) (k : Fin 512) :
    gate y1 y2 y3 z (ix3 b r ⟨1536 + k.val, by omega⟩) = gated (y3 (ix3 b r k)) (z (ix3 b r ⟨1536 + k.val, by omega⟩)) := by
  pointwise [gate]
  rw [dif_neg (show ¬1536 + k.val < 1024 by omega), dif_neg (show ¬1536 + k.val - 1024 < 512 by omega)]
  exact congrArg₂ gated (congrArg (fun j => y3 (ix3 b r j)) (Fin.ext (show 1536 + k.val - 1024 - 512 = k.val by omega)))
    (congrArg (fun j => z (ix3 b r j)) (Fin.ext (show 1536 + (1536 + k.val - 1024 - 512) = 1536 + k.val by omega)))

/-- The input with the projection added, at one element: the sum over the lanes cut into the three outputs' parts. -/
theorem pre_at (x : FVec Ideal S2x4096x2048 .f32) (y1 : FVec Ideal S2x4096x1024 .bf16) (y2 y3 : FVec Ideal S2x4096x512 .bf16) (z : FVec Ideal S2x4096x2048 .bf16)
    (w : FVec Ideal S1x2048x2048 .f32) (b : Fin 2) (r : Fin 4096) (n : Fin 2048) :
    pre x (gate y1 y2 y3 z) w (ix3 b r n) = x (ix3 b r n) +
      (∑ k : Fin 1024, gated (y1 (ix3 b r k)) (z (ix3 b r ⟨k.val, by omega⟩)) * w (ix3 0 ⟨k.val, by omega⟩ n)
        + ∑ k : Fin 512, gated (y2 (ix3 b r k)) (z (ix3 b r ⟨1024 + k.val, by omega⟩)) * w (ix3 0 ⟨1024 + k.val, by omega⟩ n)
        + ∑ k : Fin 512, gated (y3 (ix3 b r k)) (z (ix3 b r ⟨1536 + k.val, by omega⟩)) * w (ix3 0 ⟨1536 + k.val, by omega⟩ n)) := by
  simp only [← gate1_at y1 y2 y3 z, ← gate2_at y1 y2 y3 z, ← gate3_at y1 y2 y3 z]
  generalize gate y1 y2 y3 z = y
  have : pre x y w (ix3 b r n) = x (ix3 b r n) + ∑ k, y (ix3 b r k) * w (ix3 0 k n) := by
    pointwise [pre]
  rw [this]
  exact congrArg (x (ix3 b r n) + ·) (Cert.Sums.split3 (a := 1024) (b := 512) (c := 512) fun k => y (ix3 b r k) * w (ix3 0 k n))

end Cert.OutRefIdeal.Hand

end
-- ==== Proof.OutBlock.lean ====
/- One block of the gated output projection, read at one element. -/
module

public import proofs.«01_k».proof.Proof.Gen.OutIdeal.Frame
public import proofs.«01_k».proof.Proof.OutRef
public import Idealize.ShloMosaic.Lib.Pipeline.ValueKit
public import Idealize.ShloMosaic.Lib.Pointwise
public import Idealize.ShloMosaic.Lib.IdealHost

@[expose] public section

set_option maxRecDepth 16384

noncomputable section

namespace Cert.OutIdeal.Hand

open Cert.OutIdeal Cert.OutIdeal.Gen Idealize.ShloMosaic Idealize.ShloMosaic.TcCoe Idealize.SL.Sem

open Cert.OutRefIdeal.Hand (gated)

/-- The first two outputs' part of the projection, at one element. -/
theorem pay2_at (z1 y1 : Vec Ideal S1x256x1024 .bf16) (w1 : Vec Ideal S1024x2048 .bf16) (z2 y2 : Vec Ideal S1x256x512 .bf16) (w2 : Vec Ideal S512x2048 .bf16) (r : Fin 256) (n : Fin 2048) :
    k0_pay2 z1 y1 w1 z2 y2 w2 (ix2 r n) = ∑ k : Fin 1024, gated (y1 (ix3 0 r k)) (z1 (ix3 0 r k)) * w1 (ix2 k n)
      + ∑ k : Fin 512, gated (y2 (ix3 0 r k)) (z2 (ix3 0 r k)) * w2 (ix2 k n) := by
  pointwise [k0_pay2]

/-- The input with the whole projection added, at one element. -/
def acc (s : FVec Ideal S256x2048 .f32) (z3 y3 : Vec Ideal S1x256x512 .bf16) (w3 : Vec Ideal S512x2048 .bf16) (x : Vec Ideal S1x256x2048 .f32) (r : Fin 256) (n : Fin 2048) : EReal :=
  x (ix3 0 r n) + (s (ix2 r n) + ∑ k : Fin 512, gated (y3 (ix3 0 r k)) (z3 (ix3 0 r k)) * w3 (ix2 k n))

/-- What is stored, at one element: the norm of the sum. -/
theorem pay1_at (s : FVec Ideal S256x2048 .f32) (z3 y3 : Vec Ideal S1x256x512 .bf16) (w3 : Vec Ideal S512x2048 .bf16) (x : Vec Ideal S1x256x2048 .f32) (g : Vec Ideal S1x2048 .f32) (r : Fin 256) (n : Fin 2048) :
    k0_pay1 s (k0_pay3 z3) (k0_pay4 y3) (k0_pay5 z3) w3 x g (ix3 0 r n)
      = acc s z3 y3 w3 x r n * Ideal.rsqrt (Ideal.div (∑ k, acc s z3 y3 w3 x r k * acc s z3 y3 w3 x r k) (Ideal.ofBits .f32 0x45000000#32) + Ideal.ofBits .f32 0x358637BD#32) * g (ix2 0 n) := by
  unfold acc
  pointwise [k0_pay1, k0_pay3, k0_pay4, k0_pay5]

end Cert.OutIdeal.Hand

end
-- ==== Proof.OutFinal.lean ====
/- The gated output projection: its output array after the run is what the reference computes. -/
module

public import proofs.«01_k».proof.Proof.OutBlock
public import proofs.«01_k».proof.Proof.Gen.OutIdeal.Value
public import Idealize.ShloMosaic.Lib.Pipeline.ValueKit
public import Idealize.ShloMosaic.Lib.Pointwise

@[expose] public section

set_option maxRecDepth 16384

noncomputable section

namespace Cert.OutIdeal.Hand

open Cert.OutIdeal Cert.OutIdeal.Gen Idealize.ShloMosaic Idealize.ShloMosaic.TcCoe Idealize.SL.Sem

/-- Where point `t` of the grid lies: the blocks of its windows. -/
theorem idx : ∀ t : Fin cfg0.N, win0_0.index t = ![t.val / 16, t.val % 16, 0] ∧ win0_1.index t = ![t.val / 16, t.val % 16, 0]
    ∧ win0_2.index t = ![t.val / 16, t.val % 16, 0] ∧ win0_3.index t = ![t.val / 16, t.val % 16, 0] ∧ win0_4.index t = ![t.val / 16, t.val % 16, 0]
    ∧ win0_5.index t = ![0, 0] ∧ win0_6.index t = ![0, 0] ∧ win0_7.index t = ![t.val / 16, t.val % 16, 0] :=
  (by decide +kernel : ∀ t : Fin grid0.N, _)

open Cert.OutRefIdeal.Hand (gated)

variable (m : (ℓ : Loc nD τ sig) → Buf (Elt Ideal) ℓ)

/-- The input. -/
abbrev X (c : Dev nD) : FVec Ideal S2x4096x2048 .f32 := m ((c : Thread nD τ).loc main_arg0)
/-- The first output. -/
abbrev Y1 (c : Dev nD) : FVec Ideal S2x4096x1024 .bf16 := m ((c : Thread nD τ).loc main_arg1)
/-- The second output. -/
abbrev Y2 (c : Dev nD) : FVec Ideal S2x4096x512 .bf16 := m ((c : Thread nD τ).loc main_arg2)
/-- The third output. -/
abbrev Y3 (c : Dev nD) : FVec Ideal S2x4096x512 .bf16 := m ((c : Thread nD τ).loc main_arg3)
/-- The gates. -/
abbrev Z (c : Dev nD) : FVec Ideal S2x4096x2048 .bf16 := m ((c : Thread nD τ).loc main_arg4)
/-- The projection's weights. -/
abbrev Wo (c : Dev nD) : FVec Ideal S1x2048x2048 .f32 := m ((c : Thread nD τ).loc main_arg5)
/-- The norm's weights. -/
abbrev G (c : Dev nD) : FVec Ideal S2048 .f32 := m ((c : Thread nD τ).loc main_arg6)

/-- The batch of point `t`. -/
abbrev bt (t : Fin cfg0.N) : Fin 2 := ⟨t.val / 16, by have : t.val < 32 := t.isLt; omega⟩
/-- The row of the array in row `r` of point `t`'s tile. -/
abbrev row (t : Fin cfg0.N) (r : Fin 256) : Fin 4096 := ⟨256 * (t.val % 16) + r.val, by omega⟩

/-- The weights as the region finds them. -/
theorem w_entry (c : Dev nD) (k n : Fin 2048) : (V m c main_v1 : Vec Ideal S2048x2048 .bf16) (ix2 k n) = Wo m c (ix3 0 k n) := by
  entry_read
  pointwise

/-- The norm's weights as the region finds them. -/
theorem g_entry (c : Dev nD) (n : Fin 2048) : (V m c main_v2 : Vec Ideal S1x2048 .f32) (ix2 0 n) = G m c (ix1 n) := by
  entry_read
  pointwise

/-- The input's block. -/
theorem x_blk (c : Dev nD) (t : Fin cfg0.N) (r : Fin 256) (n : Fin 2048) :
    (iblk m c 0 t : Vec Ideal S1x256x2048 .f32) (ix3 0 r n) = X m c (ix3 (bt t) (row t r) n) := by
  blk_point [iblk, V, X, idx t]

/-- The first output's block. -/
theorem y1_blk (c : Dev nD) (t : Fin cfg0.N) (r : Fin 256) (k : Fin 1024) :
    (iblk m c 1 t : Vec Ideal S1x256x1024 .bf16) (ix3 0 r k) = Y1 m c (ix3 (bt t) (row t r) k) := by
  blk_point [iblk, V, Y1, idx t]

/-- The second output's block. -/
theorem y2_blk (c : Dev nD) (t : Fin cfg0.N) (r : Fin 256) (k : Fin 512) :
    (iblk m c 2 t : Vec Ideal S1x256x512 .bf16) (ix3 0 r k) = Y2 m c (ix3 (bt t) (row t r) k) := by
  blk_point [iblk, V, Y2, idx t]

/-- The third output's block. -/
theorem y3_blk (c : Dev nD) (t : Fin cfg0.N) (r : Fin 256) (k : Fin 512) :
    (iblk m c 3 t : Vec Ideal S1x256x512 .bf16) (ix3 0 r k) = Y3 m c (ix3 (bt t) (row t r) k) := by
  blk_point [iblk, V, Y3, idx t]

/-- The first output's gates. -/
theorem z1_blk (c : Dev nD) (t : Fin cfg0.N) (r : Fin 256) (k : Fin 1024) :
    (View.ld (iblk m c 4 t : Vec Ideal S1x256x2048 .bf16) r0_0 : Vec Ideal S1x256x1024 .bf16) (ix3 0 r k) = Z m c (ix3 (bt t) (row t r) ⟨k.val, by omega⟩) := by
  blk_point [iblk, V, Z, idx t]

/-- The second output's gates. -/
theorem z2_blk (c : Dev nD) (t : Fin cfg0.N) (r : Fin 256) (k : Fin 512) :
    (View.ld (iblk m c 4 t : Vec Ideal S1x256x2048 .bf16) r0_3 : Vec Ideal S1x256x512 .bf16) (ix3 0 r k) = Z m c (ix3 (bt t) (row t r) ⟨1024 + k.val, by omega⟩) := by
  blk_point [iblk, V, Z, idx t]

/-- The third output's gates. -/
theorem z3_blk (c : Dev nD) (t : Fin cfg0.N) (r : Fin 256) (k : Fin 512) :
    (View.ld (iblk m c 4 t : Vec Ideal S1x256x2048 .bf16) r0_6 : Vec Ideal S1x256x512 .bf16) (ix3 0 r k) = Z m c (ix3 (bt t) (row t r) ⟨1536 + k.val, by omega⟩) := by
  blk_point [iblk, V, Z, idx t]

/-- The norm's weights. -/
theorem g_blk (c : Dev nD) (t : Fin cfg0.N) (n : Fin 2048) :
    (iblk m c 6 t : Vec Ideal S1x2048 .f32) (ix2 0 n) = G m c (ix1 n) := by
  refine Eq.trans (b := (V m c main_v2 : Vec Ideal S1x2048 .f32) (ix2 0 n)) ?_ (g_entry m c n)
  generalize hA : (V m c main_v2 : Vec Ideal S1x2048 .f32) = A
  have h : (iblk m c 6 t : Vec Ideal S1x2048 .f32) = ((cfg0.win 6).blk t).view.read (Elt Ideal) A := by subst hA; rfl
  rw [h]
  blk_point [idx t]

/-- The weights' block: the whole matrix. -/
theorem w_blk (c : Dev nD) (t : Fin cfg0.N) (k n : Fin 2048) :
    (iblk m c 5 t : Vec Ideal S2048x2048 .bf16) (ix2 k n) = Wo m c (ix3 0 k n) := by
  refine Eq.trans (b := (V m c main_v1 : Vec Ideal S2048x2048 .bf16) (ix2 k n)) ?_ (w_entry m c k n)
  generalize hA : (V m c main_v1 : Vec Ideal S2048x2048 .bf16) = A
  have h : (iblk m c 5 t : Vec Ideal S2048x2048 .bf16) = ((cfg0.win 5).blk t).view.read (Elt Ideal) A := by subst hA; rfl
  rw [h]
  blk_point [idx t]

/-- Reading the weights for the first output. -/
theorem w1_ld (w : Vec Ideal S2048x2048 .bf16) (k : Fin 1024) (n : Fin 2048) : (View.ld w r0_2 : Vec Ideal S1024x2048 .bf16) (ix2 k n) = w (ix2 ⟨k.val, by omega⟩ n) := by
  unfold r0_2
  rw [View.ld_unit]
  pointwise

/-- Reading the weights for the second output. -/
theorem w2_ld (w : Vec Ideal S2048x2048 .bf16) (k : Fin 512) (n : Fin 2048) : (View.ld w r0_5 : Vec Ideal S512x2048 .bf16) (ix2 k n) = w (ix2 ⟨1024 + k.val, by omega⟩ n) := by
  unfold r0_5
  rw [View.ld_unit]
  pointwise

/-- Reading the weights for the third output. -/
theorem w3_ld (w : Vec Ideal S2048x2048 .bf16) (k : Fin 512) (n : Fin 2048) : (View.ld w r0_7 : Vec Ideal S512x2048 .bf16) (ix2 k n) = w (ix2 ⟨1536 + k.val, by omega⟩ n) := by
  unfold r0_7
  rw [View.ld_unit]
  pointwise

/-- The weights for the first output. -/
theorem w1_blk (c : Dev nD) (t : Fin cfg0.N) (k : Fin 1024) (n : Fin 2048) :
    (View.ld (iblk m c 5 t : Vec Ideal S2048x2048 .bf16) r0_2 : Vec Ideal S1024x2048 .bf16) (ix2 k n) = Wo m c (ix3 0 ⟨k.val, by omega⟩ n) :=
  (w1_ld _ k n).trans (w_blk m c t _ n)

/-- The weights for the second output. -/
theorem w2_blk (c : Dev nD) (t : Fin cfg0.N) (k : Fin 512) (n : Fin 2048) :
    (View.ld (iblk m c 5 t : Vec Ideal S2048x2048 .bf16) r0_5 : Vec Ideal S512x2048 .bf16) (ix2 k n) = Wo m c (ix3 0 ⟨1024 + k.val, by omega⟩ n) :=
  (w2_ld _ k n).trans (w_blk m c t _ n)

/-- The weights for the third output. -/
theorem w3_blk (c : Dev nD) (t : Fin cfg0.N) (k : Fin 512) (n : Fin 2048) :
    (View.ld (iblk m c 5 t : Vec Ideal S2048x2048 .bf16) r0_7 : Vec Ideal S512x2048 .bf16) (ix2 k n) = Wo m c (ix3 0 ⟨1536 + k.val, by omega⟩ n) :=
  (w3_ld _ k n).trans (w_blk m c t _ n)

/-- What the reference computes from the arguments. -/
abbrev Ref (c : Dev nD) : FVec Ideal S2x4096x2048 .f32 :=
  Cert.OutRefIdeal.Hand.norm (Cert.OutRefIdeal.Hand.pre (X m c) (Cert.OutRefIdeal.Hand.gate (Y1 m c) (Y2 m c) (Y3 m c) (Z m c)) (Wo m c)) (G m c)

/-- The sum before the norm, in point `t`'s tile. -/
theorem acc_blk (c : Dev nD) (t : Fin cfg0.N) (r : Fin 256) (n : Fin 2048) :
    acc (k0_pay2 (View.ld (iblk m c 4 t) r0_0) (iblk m c 1 t) (View.ld (iblk m c 5 t) r0_2) (View.ld (iblk m c 4 t) r0_3) (iblk m c 2 t) (View.ld (iblk m c 5 t) r0_5))
        (View.ld (iblk m c 4 t) r0_6) (iblk m c 3 t) (View.ld (iblk m c 5 t) r0_7) (iblk m c 0 t) r n
      = Cert.OutRefIdeal.Hand.pre (X m c) (Cert.OutRefIdeal.Hand.gate (Y1 m c) (Y2 m c) (Y3 m c) (Z m c)) (Wo m c) (ix3 (bt t) (row t r) n) := by
  rw [Cert.OutRefIdeal.Hand.pre_at]
  unfold acc
  rw [pay2_at]
  simp only [x_blk, y1_blk, y2_blk, y3_blk, z1_blk, z2_blk, z3_blk, w1_blk, w2_blk, w3_blk]

/-- What point `t` leaves in the output window is the reference's block. -/
theorem point (c : Dev nD) (t : Fin cfg0.N) (r : Fin 256) (n : Fin 2048) :
    out0_7 (iblk m c 0 t) (iblk m c 1 t) (iblk m c 2 t) (iblk m c 3 t) (iblk m c 4 t) (iblk m c 5 t) (iblk m c 6 t) (ix3 0 r n) = Ref m c (ix3 (bt t) (row t r) n) := by
  unfold Ref
  rw [Cert.OutRefIdeal.Hand.norm_at]
  simp only [← acc_blk]
  rw [← g_blk m c t]
  refine Eq.trans ?_ (pay1_at _ _ _ _ _ _ r n)
  unfold out0_7
  frame_out
  rfl

/-- THE OUTPUT ARRAY after the run. -/
theorem final (c : Dev nD) : (dats m 0 c).arrAt 7 (cfgs 0).N = Ref m c := by
  refine (dats m 0 c).arrAt_eq_of_covers 7 _ (by decide +kernel) fun t _ y => ?_
  blk_simp
  rw [after0_7]
  obtain ⟨r, e, rfl⟩ : ∃ (r : Fin 256) (e : Fin 2048), y = ix3 0 r e :=
    ⟨y 1, y 2, by
      funext a
      match a with
      | ⟨0, _⟩ => exact Subsingleton.elim (α := Fin 1) _ _
      | ⟨1, _⟩ => rfl
      | ⟨2, _⟩ => rfl⟩
  refine (point m c t r e).trans ?_
  generalize Ref m c = R
  blk_point [idx t]

end Cert.OutIdeal.Hand

end
-- ==== Proof.OutClaims.lean ====
/- The claims about the gated output projection. -/
module

public import proofs.«01_k».proof.Defs
public import proofs.«01_k».proof.Proof.OutFinal
public import proofs.«01_k».proof.Proof.Gen.Out.Frame
public import proofs.«01_k».proof.Proof.Gen.OutIdeal.Frame
public import proofs.«01_k».proof.Proof.Gen.OutIdeal.Value
public import proofs.«01_k».proof.Proof.Gen.OutRefIdeal.Run
public import Idealize.ShloMosaic.Lib.Claim

@[expose] public section

noncomputable section

namespace Cert.Proof.OutClaims

open Idealize.ShloMosaic Idealize.ShloMosaic.TcCoe Idealize.SL.Sem

/-- The kernel runs and leaves its arguments. -/
theorem frame_p : Cert.quiescent_Out := fun m ρ _ => Cert.Out.Gen.frame m ρ

/-- The idealized kernel runs and leaves its arguments. -/
theorem frame_pi : Cert.quiescent_OutIdeal := fun m ρ _ => Cert.OutIdeal.Gen.frame m ρ

/-- The reference runs and leaves its arguments. -/
theorem frame_ri : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

/-- Nothing was rewritten. -/
theorem preserves : Cert.preserves_Out_OutIdeal := by
  trivial

/-- The kernel's result is the reference's. -/
theorem algebraic : Cert.algebraic_OutIdeal_OutRefIdeal := by
  pair_intro
  · run_from Cert.OutIdeal.Value.run_blocks m g
  · run_from Cert.OutRefIdeal.Value.run m' g'
    rw [Cert.OutRefIdeal.Hand.res_eq]
    have := hagree c
    rw [this.1, this.2.1, this.2.2.1, this.2.2.2.1, this.2.2.2.2.1, this.2.2.2.2.2.1, this.2.2.2.2.2.2]
    exact (Cert.OutIdeal.Hand.final m c).symm

end Cert.Proof.OutClaims

end
-- ==== Proof.ProjRef.lean ====
/- The reference of the input projections: its parts, and each read at one element. -/
module

public import proofs.«01_k».proof.Proof.Gen.ProjRefIdeal.Run
public import Idealize.ShloMosaic.Lib.Pipeline.ValueKit
public import Idealize.ShloMosaic.Lib.Pointwise
public import Idealize.ShloMosaic.Lib.IdealHost

@[expose] public section

set_option maxRecDepth 16384

noncomputable section

namespace Cert.ProjRefIdeal.Hand

open Cert.ProjRefIdeal Cert.ProjRefIdeal.Gen Idealize.ShloMosaic Idealize.ShloMosaic.TcCoe Idealize.SL.Sem

/-- The normed input. -/
def hid (x : FVec Ideal S2x4096x2048 .f32) (g : FVec Ideal S1x2048 .f32) : FVec Ideal S2x4096x2048 .f32 :=
  mulf (mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast _ g shapeCasts_S1x2048_S2048)))

/-- Its projections, side by side. -/
def lin (h : FVec Ideal S2x4096x2048 .f32) (w : FVec Ideal S1x2048x4160 .f32) : FVec Ideal S2x4096x4160 .f32 :=
  Host.dotGeneral dot_S2x4096x2048_S2048x4160_S2x4096x4160_2_0_01_1_n_n none h (shapeCast _ w shapeCasts_S1x2048x4160_S2048x4160)

/-- The queries' latent. -/
def sliceQ (l : FVec Ideal S2x4096x4160 .f32) : FVec Ideal S2x4096x512 .f32 := extractStridedSlice S2x4096x512 ![0, 0, 0] l slices_S2x4096x4160_S2x4096x512_0_0_0

/-- The keys' and values' latent. -/
def sliceK (l : FVec Ideal S2x4096x4160 .f32) : FVec Ideal S2x4096x256 .f32 := extractStridedSlice S2x4096x256 ![0, 0, 512] l slices_S2x4096x4160_S2x4096x256_0_0_512

/-- The queries' latent, normed. -/
def normQ (x : FVec Ideal S2x4096x512 .f32) (g : FVec Ideal S1x512 .f32) : FVec Ideal S2x4096x512 .f32 :=
  mulf (mulf x (broadcastInDim S2x4096x512 ![0, 1, 2] bcast_S2x4096x1_S2x4096x512_0_1_2 (Host.rsqrt (addf (Host.divf (broadcastInDim S2x4096x1 ![0, 1] bcast_S2x4096_S2x4096x1_0_1 (Host.reduceAdd (mulf x x) (constant S_ .f32 0x00000000#32) reducesTo_S2x4096x512_S2x4096_d2 h_S_)) (broadcastInDim S2x4096x1 ![] bcast_S_S2x4096x1 (constant S_ .f32 0x44000000#32))) (broadcastInDim S2x4096x1 ![] bcast_S_S2x4096x1 (constant S_ .f32 0x358637BD#32)))))) (broadcastInDim S2x4096x512 ![0, 1, 2] bcast_S1x1x512_S2x4096x512_0_1_2 (broadcastInDim S1x1x512 ![2] bcast_S512_S1x1x512_2 (shapeCast _ g shapeCasts_S1x512_S512)))

/-- The keys' and values' latent, normed. -/
def normK (x : FVec Ideal S2x4096x256 .f32) (g : FVec Ideal S1x256 .f32) : FVec Ideal S2x4096x256 .f32 :=
  mulf (mulf x (broadcastInDim S2x4096x256 ![0, 1, 2] bcast_S2x4096x1_S2x4096x256_0_1_2 (Host.rsqrt (addf (Host.divf (broadcastInDim S2x4096x1 ![0, 1] bcast_S2x4096_S2x4096x1_0_1 (Host.reduceAdd (mulf x x) (constant S_ .f32 0x00000000#32) reducesTo_S2x4096x256_S2x4096_d2 h_S_)) (broadcastInDim S2x4096x1 ![] bcast_S_S2x4096x1 (constant S_ .f32 0x43800000#32))) (broadcastInDim S2x4096x1 ![] bcast_S_S2x4096x1 (constant S_ .f32 0x358637BD#32)))))) (broadcastInDim S2x4096x256 ![0, 1, 2] bcast_S1x1x256_S2x4096x256_0_1_2 (broadcastInDim S1x1x256 ![2] bcast_S256_S1x1x256_2 (shapeCast _ g shapeCasts_S1x256_S256)))

/-- The heads' queries. -/
def upQ (h : FVec Ideal S2x4096x512 .f32) (w : FVec Ideal S1x512x1536 .f32) : FVec Ideal S2x4096x1536 .f32 :=
  Host.dotGeneral dot_S2x4096x512_S512x1536_S2x4096x1536_2_0_01_1_n_n none h (shapeCast _ w shapeCasts_S1x512x1536_S512x1536)

/-- The heads' keys and values. -/
def upK (h : FVec Ideal S2x4096x256 .f32) (w : FVec Ideal S1x256x2048 .f32) : FVec Ideal S2x4096x2048 .f32 :=
  Host.dotGeneral dot_S2x4096x256_S256x2048_S2x4096x2048_2_0_01_1_n_n none h (shapeCast _ w shapeCasts_S1x256x2048_S256x2048)

/-- The angles of the rotation. -/
def ang : FVec Ideal S4096x32 .f32 :=
  mulf (broadcastInDim S4096x32 ![0, 1] bcast_S4096x1_S4096x32_0_1 (broadcastInDim S4096x1 ![0] bcast_S4096_S4096x1_0 (sitofp .f32 (iotaInDim S4096 32 0))))
    (broadcastInDim S4096x32 ![0, 1] bcast_S1x32_S4096x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32)))))))

/-- The padding lanes. -/
def pad : FVec Ideal S2x4096x8x64 .f32 := broadcastInDim S2x4096x8x64 ![] bcast_S_S2x4096x8x64 (constant S_ .f32 0x00000000#32)

/-- Lane `e` of the rotation of 64 lanes by the angles with cosines `C` and sines `S`. -/
def rot (u : Fin 64 → EReal) (C S : Fin 32 → EReal) (e : Fin 64) : EReal :=
  if h : e.val < 32 then u ⟨e.val, by omega⟩ * C ⟨e.val, h⟩ - u ⟨32 + e.val, by omega⟩ * S ⟨e.val, h⟩
  else u ⟨32 + (e.val - 32), by omega⟩ * C ⟨e.val - 32, by omega⟩ + u ⟨e.val - 32, by omega⟩ * S ⟨e.val - 32, by omega⟩

/-- The queries' lanes to rotate. -/
def peQ (u : FVec Ideal S2x4096x1536 .f32) : FVec Ideal S2x4096x8x64 .f32 := extractStridedSlice S2x4096x8x64 ![0, 0, 0, 128] (shapeCast _ u shapeCasts_S2x4096x1536_S2x4096x8x192) slices_S2x4096x8x192_S2x4096x8x64_0_0_0_128

/-- Rotated. -/
def ropeQ (p : FVec Ideal S2x4096x8x64 .f32) (C S : FVec Ideal S4096x32 .f32) : FVec Ideal S2x4096x8x64 .f32 :=
  concatenate S2x4096x8x64 3 [⟨S2x4096x8x32, (subf (mulf (extractStridedSlice S2x4096x8x32 ![0, 0, 0, 0] p slices_S2x4096x8x64_S2x4096x8x32_0_0_0_0) (broadcastInDim S2x4096x8x32 ![0, 1, 2, 3] bcast_S1x4096x1x32_S2x4096x8x32_0_1_2_3 (broadcastInDim S1x4096x1x32 ![1, 2, 3] bcast_S4096x1x32_S1x4096x1x32_1_2_3 (broadcastInDim S4096x1x32 ![0, 2] bcast_S4096x32_S4096x1x32_0_2 C)))) (mulf (extractStridedSlice S2x4096x8x32 ![0, 0, 0, 32] p slices_S2x4096x8x64_S2x4096x8x32_0_0_0_32) (broadcastInDim S2x4096x8x32 ![0, 1, 2, 3] bcast_S1x4096x1x32_S2x4096x8x32_0_1_2_3 (broadcastInDim S1x4096x1x32 ![1, 2, 3] bcast_S4096x1x32_S1x4096x1x32_1_2_3 (broadcastInDim S4096x1x32 ![0, 2] bcast_S4096x32_S4096x1x32_0_2 S)))))⟩,
    ⟨S2x4096x8x32, (addf (mulf (extractStridedSlice S2x4096x8x32 ![0, 0, 0, 32] p slices_S2x4096x8x64_S2x4096x8x32_0_0_0_32) (broadcastInDim S2x4096x8x32 ![0, 1, 2, 3] bcast_S1x4096x1x32_S2x4096x8x32_0_1_2_3 (broadcastInDim S1x4096x1x32 ![1, 2, 3] bcast_S4096x1x32_S1x4096x1x32_1_2_3 (broadcastInDim S4096x1x32 ![0, 2] bcast_S4096x32_S4096x1x32_0_2 C)))) (mulf (extractStridedSlice S2x4096x8x32 ![0, 0, 0, 0] p slices_S2x4096x8x64_S2x4096x8x32_0_0_0_0) (broadcastInDim S2x4096x8x32 ![0, 1, 2, 3] bcast_S1x4096x1x32_S2x4096x8x32_0_1_2_3 (broadcastInDim S1x4096x1x32 ![1, 2, 3] bcast_S4096x1x32_S1x4096x1x32_1_2_3 (broadcastInDim S4096x1x32 ![0, 2] bcast_S4096x32_S4096x1x32_0_2 S)))))⟩] concatenates_S2x4096x8x32_S2x4096x8x32_S2x4096x8x64_d3

/-- The heads' lanes laid end to end. -/
def flatten (X : FVec Ideal S2x4096x8x256 .f32) : FVec Ideal S2x4096x2048 .bf16 :=
  truncf .bf16 (shapeCast _ X shapeCasts_S2x4096x8x256_S2x4096x2048) bitsLt_bf16_f32

/-- Plain lanes, rotated lanes and padding side by side. -/
def cat (a : FVec Ideal S2x4096x8x128 .f32) (p z : FVec Ideal S2x4096x8x64 .f32) : FVec Ideal S2x4096x8x256 .f32 :=
  concatenate S2x4096x8x256 3 [⟨S2x4096x8x128, a⟩, ⟨S2x4096x8x64, p⟩, ⟨S2x4096x8x64, z⟩] concatenates_S2x4096x8x128_S2x4096x8x64_S2x4096x8x64_S2x4096x8x256_d3

/-- Head by head, the queries: plain lanes, rotated lanes, padding. -/
def catQ (u : FVec Ideal S2x4096x1536 .f32) (p : FVec Ideal S2x4096x8x64 .f32) : FVec Ideal S2x4096x8x256 .f32 :=
  cat (extractStridedSlice S2x4096x8x128 ![0, 0, 0, 0] (shapeCast _ u shapeCasts_S2x4096x1536_S2x4096x8x192) slices_S2x4096x8x192_S2x4096x8x128_0_0_0_0) p pad

/-- The queries. -/
def resQ (u : FVec Ideal S2x4096x1536 .f32) (p : FVec Ideal S2x4096x8x64 .f32) : FVec Ideal S2x4096x2048 .bf16 :=
  flatten (catQ u p)

/-- The keys' lanes to rotate. -/
def peK (l : FVec Ideal S2x4096x4160 .f32) : FVec Ideal S2x4096x64 .f32 := extractStridedSlice S2x4096x64 ![0, 0, 768] l slices_S2x4096x4160_S2x4096x64_0_0_768

/-- Rotated. -/
def ropeK (p : FVec Ideal S2x4096x64 .f32) (C S : FVec Ideal S4096x32 .f32) : FVec Ideal S2x4096x64 .f32 :=
  concatenate S2x4096x64 2 [⟨S2x4096x32, (subf (mulf (extractStridedSlice S2x4096x32 ![0, 0, 0] p slices_S2x4096x64_S2x4096x32_0_0_0) (broadcastInDim S2x4096x32 ![0, 1, 2] bcast_S1x4096x32_S2x4096x32_0_1_2 (broadcastInDim S1x4096x32 ![1, 2] bcast_S4096x32_S1x4096x32_1_2 C))) (mulf (extractStridedSlice S2x4096x32 ![0, 0, 32] p slices_S2x4096x64_S2x4096x32_0_0_32) (broadcastInDim S2x4096x32 ![0, 1, 2] bcast_S1x4096x32_S2x4096x32_0_1_2 (broadcastInDim S1x4096x32 ![1, 2] bcast_S4096x32_S1x4096x32_1_2 S))))⟩,
    ⟨S2x4096x32, (addf (mulf (extractStridedSlice S2x4096x32 ![0, 0, 32] p slices_S2x4096x64_S2x4096x32_0_0_32) (broadcastInDim S2x4096x32 ![0, 1, 2] bcast_S1x4096x32_S2x4096x32_0_1_2 (broadcastInDim S1x4096x32 ![1, 2] bcast_S4096x32_S1x4096x32_1_2 C))) (mulf (extractStridedSlice S2x4096x32 ![0, 0, 0] p slices_S2x4096x64_S2x4096x32_0_0_0) (broadcastInDim S2x4096x32 ![0, 1, 2] bcast_S1x4096x32_S2x4096x32_0_1_2 (broadcastInDim S1x4096x32 ![1, 2] bcast_S4096x32_S1x4096x32_1_2 S))))⟩] concatenates_S2x4096x32_S2x4096x32_S2x4096x64_d2

/-- Head by head, the keys: plain lanes, rotated lanes, padding. -/
def catK (v : FVec Ideal S2x4096x2048 .f32) (p : FVec Ideal S2x4096x64 .f32) : FVec Ideal S2x4096x8x256 .f32 :=
  cat (extractStridedSlice S2x4096x8x128 ![0, 0, 0, 0] (shapeCast _ v shapeCasts_S2x4096x2048_S2x4096x8x256) slices_S2x4096x8x256_S2x4096x8x128_0_0_0_0) (broadcastInDim S2x4096x8x64 ![0, 1, 2, 3] bcast_S2x4096x1x64_S2x4096x8x64_0_1_2_3 (broadcastInDim S2x4096x1x64 ![0, 1, 3] bcast_S2x4096x64_S2x4096x1x64_0_1_3 p)) pad

/-- The keys. -/
def resK (v : FVec Ideal S2x4096x2048 .f32) (p : FVec Ideal S2x4096x64 .f32) : FVec Ideal S2x4096x2048 .bf16 :=
  flatten (catK v p)

/-- The values. -/
def resV (v : FVec Ideal S2x4096x2048 .f32) : FVec Ideal S2x4096x1024 .bf16 :=
  truncf .bf16 (shapeCast _ (extractStridedSlice S2x4096x8x128 ![0, 0, 0, 128] (shapeCast _ v shapeCasts_S2x4096x2048_S2x4096x8x256) slices_S2x4096x8x256_S2x4096x8x128_0_0_0_128) shapeCasts_S2x4096x8x128_S2x4096x1024) bitsLt_bf16_f32

/-- The other two attentions' queries, side by side. -/
def resQs (l : FVec Ideal S2x4096x4160 .f32) : FVec Ideal S2x4096x1024 .bf16 :=
  truncf .bf16 (concatenate S2x4096x1024 2 [⟨S2x4096x512, extractStridedSlice S2x4096x512 ![0, 0, 1856] l slices_S2x4096x4160_S2x4096x512_0_0_1856⟩, ⟨S2x4096x512, extractStridedSlice S2x4096x512 ![0, 0, 3136] l slices_S2x4096x4160_S2x4096x512_0_0_3136⟩] concatenates_S2x4096x512_S2x4096x512_S2x4096x1024_d2) bitsLt_bf16_f32

/-- The gates, side by side. -/
def resZ (l : FVec Ideal S2x4096x4160 .f32) : FVec Ideal S2x4096x2048 .bf16 :=
  truncf .bf16 (concatenate S2x4096x2048 2 [⟨S2x4096x1024, extractStridedSlice S2x4096x1024 ![0, 0, 832] l slices_S2x4096x4160_S2x4096x1024_0_0_832⟩, ⟨S2x4096x512, extractStridedSlice S2x4096x512 ![0, 0, 2624] l slices_S2x4096x4160_S2x4096x512_0_0_2624⟩, ⟨S2x4096x512, extractStridedSlice S2x4096x512 ![0, 0, 3648] l slices_S2x4096x4160_S2x4096x512_0_0_3648⟩] concatenates_S2x4096x1024_S2x4096x512_S2x4096x512_S2x4096x2048_d2) bitsLt_bf16_f32

/-- The local attention's keys. -/
def resKs (l : FVec Ideal S2x4096x4160 .f32) : FVec Ideal S2x4096x128 .bf16 :=
  truncf .bf16 (extractStridedSlice S2x4096x128 ![0, 0, 2368] l slices_S2x4096x4160_S2x4096x128_0_0_2368) bitsLt_bf16_f32

/-- The local attention's values. -/
def resVs (l : FVec Ideal S2x4096x4160 .f32) : FVec Ideal S2x4096x128 .bf16 :=
  truncf .bf16 (extractStridedSlice S2x4096x128 ![0, 0, 2496] l slices_S2x4096x4160_S2x4096x128_0_0_2496) bitsLt_bf16_f32

end Cert.ProjRefIdeal.Hand

end
-- ==== Proof.ProjHost.lean ====
/- What the host prepares for the input projections: reordered weights and the tables of the rotation. -/
module

public import proofs.«01_k».proof.Proof.Gen.ProjIdeal.Frame
public import proofs.«01_k».proof.Proof.ProjRef
public import Idealize.ShloMosaic.Lib.Pipeline.ValueKit
public import Idealize.ShloMosaic.Lib.Pointwise
public import Idealize.ShloMosaic.Lib.IdealHost

@[expose] public section

set_option maxRecDepth 16384

noncomputable section

namespace Cert.ProjIdeal.Hand

open Cert.ProjIdeal Cert.ProjIdeal.Gen Idealize.ShloMosaic Idealize.ShloMosaic.TcCoe Idealize.SL.Sem

/-- Eleven groups of columns side by side. -/
def cols (a0 : FVec Ideal S2048x512 .f32) (a1 : FVec Ideal S2048x256 .f32) (a2 : FVec Ideal S2048x512 .f32) (a3 : FVec Ideal S2048x512 .f32) (a4 : FVec Ideal S2048x1024 .f32) (a5 : FVec Ideal S2048x512 .f32) (a6 : FVec Ideal S2048x512 .f32) (a7 : FVec Ideal S2048x128 .f32) (a8 : FVec Ideal S2048x128 .f32) (a9 : FVec Ideal S2048x64 .f32) (a10 : FVec Ideal S2048x64 .f32) : FVec Ideal S2048x4224 .f32 :=
  concatenate S2048x4224 1 [⟨S2048x512, a0⟩, ⟨S2048x256, a1⟩, ⟨S2048x512, a2⟩, ⟨S2048x512, a3⟩, ⟨S2048x1024, a4⟩, ⟨S2048x512, a5⟩, ⟨S2048x512, a6⟩, ⟨S2048x128, a7⟩, ⟨S2048x128, a8⟩, ⟨S2048x64, a9⟩, ⟨S2048x64, a10⟩] concatenates_S2048x512_S2048x256_S2048x512_S2048x512_S2048x1024_S2048x512_S2048x512_S2048x128_S2048x128_S2048x64_S2048x64_S2048x4224_d1

/-- Eleven groups of columns at one element. -/
theorem cols_at (a0 : FVec Ideal S2048x512 .f32) (a1 : FVec Ideal S2048x256 .f32) (a2 : FVec Ideal S2048x512 .f32) (a3 : FVec Ideal S2048x512 .f32) (a4 : FVec Ideal S2048x1024 .f32) (a5 : FVec Ideal S2048x512 .f32) (a6 : FVec Ideal S2048x512 .f32) (a7 : FVec Ideal S2048x128 .f32) (a8 : FVec Ideal S2048x128 .f32) (a9 : FVec Ideal S2048x64 .f32) (a10 : FVec Ideal S2048x64 .f32) (k : Fin 2048) (n : Fin 4224) :
    cols a0 a1 a2 a3 a4 a5 a6 a7 a8 a9 a10 (ix2 k n) = if h : n.val < 512 then a0 (ix2 k ⟨n.val, h⟩) else if h : n.val - 512 < 256 then a1 (ix2 k ⟨n.val - 512, h⟩) else if h : n.val - 512 - 256 < 512 then a2 (ix2 k ⟨n.val - 512 - 256, h⟩) else if h : n.val - 512 - 256 - 512 < 512 then a3 (ix2 k ⟨n.val - 512 - 256 - 512, h⟩) else if h : n.val - 512 - 256 - 512 - 512 < 1024 then a4 (ix2 k ⟨n.val - 512 - 256 - 512 - 512, h⟩) else if h : n.val - 512 - 256 - 512 - 512 - 1024 < 512 then a5 (ix2 k ⟨n.val - 512 - 256 - 512 - 512 - 1024, h⟩) else if h : n.val - 512 - 256 - 512 - 512 - 1024 - 512 < 512 then a6 (ix2 k ⟨n.val - 512 - 256 - 512 - 512 - 1024 - 512, h⟩) else if h : n.val - 512 - 256 - 512 - 512 - 1024 - 512 - 512 < 128 then a7 (ix2 k ⟨n.val - 512 - 256 - 512 - 512 - 1024 - 512 - 512, h⟩) else if h : n.val - 512 - 256 - 512 - 512 - 1024 - 512 - 512 - 128 < 128 then a8 (ix2 k ⟨n.val - 512 - 256 - 512 - 512 - 1024 - 512 - 512 - 128, h⟩) else if h : n.val - 512 - 256 - 512 - 512 - 1024 - 512 - 512 - 128 - 128 < 64 then a9 (ix2 k ⟨n.val - 512 - 256 - 512 - 512 - 1024 - 512 - 512 - 128 - 128, h⟩) else a10 (ix2 k ⟨n.val - 512 - 256 - 512 - 512 - 1024 - 512 - 512 - 128 - 128 - 64, by omega⟩) := by
  pointwise [cols]

/-- The columns of the queries' latent. -/
theorem cols_cq (a0 : FVec Ideal S2048x512 .f32) (a1 : FVec Ideal S2048x256 .f32) (a2 : FVec Ideal S2048x512 .f32) (a3 : FVec Ideal S2048x512 .f32) (a4 : FVec Ideal S2048x1024 .f32) (a5 : FVec Ideal S2048x512 .f32) (a6 : FVec Ideal S2048x512 .f32) (a7 : FVec Ideal S2048x128 .f32) (a8 : FVec Ideal S2048x128 .f32) (a9 : FVec Ideal S2048x64 .f32) (a10 : FVec Ideal S2048x64 .f32) (k : Fin 2048) (j : Fin 512) : cols a0 a1 a2 a3 a4 a5 a6 a7 a8 a9 a10 (ix2 k ⟨0 + j.val, by omega⟩) = a0 (ix2 k j) := by
  rw [cols_at]
  dsimp only
  rw [dif_pos (show 0 + j.val < 512 by omega)]
  exact congrArg (fun q => a0 (ix2 k q)) (Fin.ext (by show 0 + j.val = j.val; omega))

/-- The columns of the keys' and values' latent. -/
theorem cols_ckv (a0 : FVec Ideal S2048x512 .f32) (a1 : FVec Ideal S2048x256 .f32) (a2 : FVec Ideal S2048x512 .f32) (a3 : FVec Ideal S2048x512 .f32) (a4 : FVec Ideal S2048x1024 .f32) (a5 : FVec Ideal S2048x512 .f32) (a6 : FVec Ideal S2048x512 .f32) (a7 : FVec Ideal S2048x128 .f32) (a8 : FVec Ideal S2048x128 .f32) (a9 : FVec Ideal S2048x64 .f32) (a10 : FVec Ideal S2048x64 .f32) (k : Fin 2048) (j : Fin 256) : cols a0 a1 a2 a3 a4 a5 a6 a7 a8 a9 a10 (ix2 k ⟨512 + j.val, by omega⟩) = a1 (ix2 k j) := by
  rw [cols_at]
  dsimp only
  rw [dif_neg (show ¬512 + j.val < 512 by omega), dif_pos (show 512 + j.val - 512 < 256 by omega)]
  exact congrArg (fun q => a1 (ix2 k q)) (Fin.ext (by show 512 + j.val - 512 = j.val; omega))

/-- The columns of the local attention's queries. -/
theorem cols_qs (a0 : FVec Ideal S2048x512 .f32) (a1 : FVec Ideal S2048x256 .f32) (a2 : FVec Ideal S2048x512 .f32) (a3 : FVec Ideal S2048x512 .f32) (a4 : FVec Ideal S2048x1024 .f32) (a5 : FVec Ideal S2048x512 .f32) (a6 : FVec Ideal S2048x512 .f32) (a7 : FVec Ideal S2048x128 .f32) (a8 : FVec Ideal S2048x128 .f32) (a9 : FVec Ideal S2048x64 .f32) (a10 : FVec Ideal S2048x64 .f32) (k : Fin 2048) (j : Fin 512) : cols a0 a1 a2 a3 a4 a5 a6 a7 a8 a9 a10 (ix2 k ⟨768 + j.val, by omega⟩) = a2 (ix2 k j) := by
  rw [cols_at]
  dsimp only
  rw [dif_neg (show ¬768 + j.val < 512 by omega), dif_neg (show ¬768 + j.val - 512 < 256 by omega), dif_pos (show 768 + j.val - 512 - 256 < 512 by omega)]
  exact congrArg (fun q => a2 (ix2 k q)) (Fin.ext (by show 768 + j.val - 512 - 256 = j.val; omega))

/-- The columns of the memory attention's queries. -/
theorem cols_qm (a0 : FVec Ideal S2048x512 .f32) (a1 : FVec Ideal S2048x256 .f32) (a2 : FVec Ideal S2048x512 .f32) (a3 : FVec Ideal S2048x512 .f32) (a4 : FVec Ideal S2048x1024 .f32) (a5 : FVec Ideal S2048x512 .f32) (a6 : FVec Ideal S2048x512 .f32) (a7 : FVec Ideal S2048x128 .f32) (a8 : FVec Ideal S2048x128 .f32) (a9 : FVec Ideal S2048x64 .f32) (a10 : FVec Ideal S2048x64 .f32) (k : Fin 2048) (j : Fin 512) : cols a0 a1 a2 a3 a4 a5 a6 a7 a8 a9 a10 (ix2 k ⟨1280 + j.val, by omega⟩) = a3 (ix2 k j) := by
  rw [cols_at]
  dsimp only
  rw [dif_neg (show ¬1280 + j.val < 512 by omega), dif_neg (show ¬1280 + j.val - 512 < 256 by omega), dif_neg (show ¬1280 + j.val - 512 - 256 < 512 by omega), dif_pos (show 1280 + j.val - 512 - 256 - 512 < 512 by omega)]
  exact congrArg (fun q => a3 (ix2 k q)) (Fin.ext (by show 1280 + j.val - 512 - 256 - 512 = j.val; omega))

/-- The columns of the first gates. -/
theorem cols_zm (a0 : FVec Ideal S2048x512 .f32) (a1 : FVec Ideal S2048x256 .f32) (a2 : FVec Ideal S2048x512 .f32) (a3 : FVec Ideal S2048x512 .f32) (a4 : FVec Ideal S2048x1024 .f32) (a5 : FVec Ideal S2048x512 .f32) (a6 : FVec Ideal S2048x512 .f32) (a7 : FVec Ideal S2048x128 .f32) (a8 : FVec Ideal S2048x128 .f32) (a9 : FVec Ideal S2048x64 .f32) (a10 : FVec Ideal S2048x64 .f32) (k : Fin 2048) (j : Fin 1024) : cols a0 a1 a2 a3 a4 a5 a6 a7 a8 a9 a10 (ix2 k ⟨1792 + j.val, by omega⟩) = a4 (ix2 k j) := by
  rw [cols_at]
  dsimp only
  rw [dif_neg (show ¬1792 + j.val < 512 by omega), dif_neg (show ¬1792 + j.val - 512 < 256 by omega), dif_neg (show ¬1792 + j.val - 512 - 256 < 512 by omega), dif_neg (show ¬1792 + j.val - 512 - 256 - 512 < 512 by omega), dif_pos (show 1792 + j.val - 512 - 256 - 512 - 512 < 1024 by omega)]
  exact congrArg (fun q => a4 (ix2 k q)) (Fin.ext (by show 1792 + j.val - 512 - 256 - 512 - 512 = j.val; omega))

/-- The columns of the second gates. -/
theorem cols_zs (a0 : FVec Ideal S2048x512 .f32) (a1 : FVec Ideal S2048x256 .f32) (a2 : FVec Ideal S2048x512 .f32) (a3 : FVec Ideal S2048x512 .f32) (a4 : FVec Ideal S2048x1024 .f32) (a5 : FVec Ideal S2048x512 .f32) (a6 : FVec Ideal S2048x512 .f32) (a7 : FVec Ideal S2048x128 .f32) (a8 : FVec Ideal S2048x128 .f32) (a9 : FVec Ideal S2048x64 .f32) (a10 : FVec Ideal S2048x64 .f32) (k : Fin 2048) (j : Fin 512) : cols a0 a1 a2 a3 a4 a5 a6 a7 a8 a9 a10 (ix2 k ⟨2816 + j.val, by omega⟩) = a5 (ix2 k j) := by
  rw [cols_at]
  dsimp only
  rw [dif_neg (show ¬2816 + j.val < 512 by omega), dif_neg (show ¬2816 + j.val - 512 < 256 by omega), dif_neg (show ¬2816 + j.val - 512 - 256 < 512 by omega), dif_neg (show ¬2816 + j.val - 512 - 256 - 512 < 512 by omega), dif_neg (show ¬2816 + j.val - 512 - 256 - 512 - 512 < 1024 by omega), dif_pos (show 2816 + j.val - 512 - 256 - 512 - 512 - 1024 < 512 by omega)]
  exact congrArg (fun q => a5 (ix2 k q)) (Fin.ext (by show 2816 + j.val - 512 - 256 - 512 - 512 - 1024 = j.val; omega))

/-- The columns of the third gates. -/
theorem cols_zr (a0 : FVec Ideal S2048x512 .f32) (a1 : FVec Ideal S2048x256 .f32) (a2 : FVec Ideal S2048x512 .f32) (a3 : FVec Ideal S2048x512 .f32) (a4 : FVec Ideal S2048x1024 .f32) (a5 : FVec Ideal S2048x512 .f32) (a6 : FVec Ideal S2048x512 .f32) (a7 : FVec Ideal S2048x128 .f32) (a8 : FVec Ideal S2048x128 .f32) (a9 : FVec Ideal S2048x64 .f32) (a10 : FVec Ideal S2048x64 .f32) (k : Fin 2048) (j : Fin 512) : cols a0 a1 a2 a3 a4 a5 a6 a7 a8 a9 a10 (ix2 k ⟨3328 + j.val, by omega⟩) = a6 (ix2 k j) := by
  rw [cols_at]
  dsimp only
  rw [dif_neg (show ¬3328 + j.val < 512 by omega), dif_neg (show ¬3328 + j.val - 512 < 256 by omega), dif_neg (show ¬3328 + j.val - 512 - 256 < 512 by omega), dif_neg (show ¬3328 + j.val - 512 - 256 - 512 < 512 by omega), dif_neg (show ¬3328 + j.val - 512 - 256 - 512 - 512 < 1024 by omega), dif_neg (show ¬3328 + j.val - 512 - 256 - 512 - 512 - 1024 < 512 by omega), dif_pos (show 3328 + j.val - 512 - 256 - 512 - 512 - 1024 - 512 < 512 by omega)]
  exact congrArg (fun q => a6 (ix2 k q)) (Fin.ext (by show 3328 + j.val - 512 - 256 - 512 - 512 - 1024 - 512 = j.val; omega))

/-- The columns of the local attention's keys. -/
theorem cols_ks (a0 : FVec Ideal S2048x512 .f32) (a1 : FVec Ideal S2048x256 .f32) (a2 : FVec Ideal S2048x512 .f32) (a3 : FVec Ideal S2048x512 .f32) (a4 : FVec Ideal S2048x1024 .f32) (a5 : FVec Ideal S2048x512 .f32) (a6 : FVec Ideal S2048x512 .f32) (a7 : FVec Ideal S2048x128 .f32) (a8 : FVec Ideal S2048x128 .f32) (a9 : FVec Ideal S2048x64 .f32) (a10 : FVec Ideal S2048x64 .f32) (k : Fin 2048) (j : Fin 128) : cols a0 a1 a2 a3 a4 a5 a6 a7 a8 a9 a10 (ix2 k ⟨3840 + j.val, by omega⟩) = a7 (ix2 k j) := by
  rw [cols_at]
  dsimp only
  rw [dif_neg (show ¬3840 + j.val < 512 by omega), dif_neg (show ¬3840 + j.val - 512 < 256 by omega), dif_neg (show ¬3840 + j.val - 512 - 256 < 512 by omega), dif_neg (show ¬3840 + j.val - 512 - 256 - 512 < 512 by omega), dif_neg (show ¬3840 + j.val - 512 - 256 - 512 - 512 < 1024 by omega), dif_neg (show ¬3840 + j.val - 512 - 256 - 512 - 512 - 1024 < 512 by omega), dif_neg (show ¬3840 + j.val - 512 - 256 - 512 - 512 - 1024 - 512 < 512 by omega), dif_pos (show 3840 + j.val - 512 - 256 - 512 - 512 - 1024 - 512 - 512 < 128 by omega)]
  exact congrArg (fun q => a7 (ix2 k q)) (Fin.ext (by show 3840 + j.val - 512 - 256 - 512 - 512 - 1024 - 512 - 512 = j.val; omega))

/-- The columns of the local attention's values. -/
theorem cols_vs (a0 : FVec Ideal S2048x512 .f32) (a1 : FVec Ideal S2048x256 .f32) (a2 : FVec Ideal S2048x512 .f32) (a3 : FVec Ideal S2048x512 .f32) (a4 : FVec Ideal S2048x1024 .f32) (a5 : FVec Ideal S2048x512 .f32) (a6 : FVec Ideal S2048x512 .f32) (a7 : FVec Ideal S2048x128 .f32) (a8 : FVec Ideal S2048x128 .f32) (a9 : FVec Ideal S2048x64 .f32) (a10 : FVec Ideal S2048x64 .f32) (k : Fin 2048) (j : Fin 128) : cols a0 a1 a2 a3 a4 a5 a6 a7 a8 a9 a10 (ix2 k ⟨3968 + j.val, by omega⟩) = a8 (ix2 k j) := by
  rw [cols_at]
  dsimp only
  rw [dif_neg (show ¬3968 + j.val < 512 by omega), dif_neg (show ¬3968 + j.val - 512 < 256 by omega), dif_neg (show ¬3968 + j.val - 512 - 256 < 512 by omega), dif_neg (show ¬3968 + j.val - 512 - 256 - 512 < 512 by omega), dif_neg (show ¬3968 + j.val - 512 - 256 - 512 - 512 < 1024 by omega), dif_neg (show ¬3968 + j.val - 512 - 256 - 512 - 512 - 1024 < 512 by omega), dif_neg (show ¬3968 + j.val - 512 - 256 - 512 - 512 - 1024 - 512 < 512 by omega), dif_neg (show ¬3968 + j.val - 512 - 256 - 512 - 512 - 1024 - 512 - 512 < 128 by omega), dif_pos (show 3968 + j.val - 512 - 256 - 512 - 512 - 1024 - 512 - 512 - 128 < 128 by omega)]
  exact congrArg (fun q => a8 (ix2 k q)) (Fin.ext (by show 3968 + j.val - 512 - 256 - 512 - 512 - 1024 - 512 - 512 - 128 = j.val; omega))

/-- The columns of the keys' lanes to rotate. -/
theorem cols_pe (a0 : FVec Ideal S2048x512 .f32) (a1 : FVec Ideal S2048x256 .f32) (a2 : FVec Ideal S2048x512 .f32) (a3 : FVec Ideal S2048x512 .f32) (a4 : FVec Ideal S2048x1024 .f32) (a5 : FVec Ideal S2048x512 .f32) (a6 : FVec Ideal S2048x512 .f32) (a7 : FVec Ideal S2048x128 .f32) (a8 : FVec Ideal S2048x128 .f32) (a9 : FVec Ideal S2048x64 .f32) (a10 : FVec Ideal S2048x64 .f32) (k : Fin 2048) (j : Fin 64) : cols a0 a1 a2 a3 a4 a5 a6 a7 a8 a9 a10 (ix2 k ⟨4096 + j.val, by omega⟩) = a9 (ix2 k j) := by
  rw [cols_at]
  dsimp only
  rw [dif_neg (show ¬4096 + j.val < 512 by omega), dif_neg (show ¬4096 + j.val - 512 < 256 by omega), dif_neg (show ¬4096 + j.val - 512 - 256 < 512 by omega), dif_neg (show ¬4096 + j.val - 512 - 256 - 512 < 512 by omega), dif_neg (show ¬4096 + j.val - 512 - 256 - 512 - 512 < 1024 by omega), dif_neg (show ¬4096 + j.val - 512 - 256 - 512 - 512 - 1024 < 512 by omega), dif_neg (show ¬4096 + j.val - 512 - 256 - 512 - 512 - 1024 - 512 < 512 by omega), dif_neg (show ¬4096 + j.val - 512 - 256 - 512 - 512 - 1024 - 512 - 512 < 128 by omega), dif_neg (show ¬4096 + j.val - 512 - 256 - 512 - 512 - 1024 - 512 - 512 - 128 < 128 by omega), dif_pos (show 4096 + j.val - 512 - 256 - 512 - 512 - 1024 - 512 - 512 - 128 - 128 < 64 by omega)]
  exact congrArg (fun q => a9 (ix2 k q)) (Fin.ext (by show 4096 + j.val - 512 - 256 - 512 - 512 - 1024 - 512 - 512 - 128 - 128 = j.val; omega))

/-- The columns of the keys' lanes to rotate, exchanged. -/
theorem cols_rt (a0 : FVec Ideal S2048x512 .f32) (a1 : FVec Ideal S2048x256 .f32) (a2 : FVec Ideal S2048x512 .f32) (a3 : FVec Ideal S2048x512 .f32) (a4 : FVec Ideal S2048x1024 .f32) (a5 : FVec Ideal S2048x512 .f32) (a6 : FVec Ideal S2048x512 .f32) (a7 : FVec Ideal S2048x128 .f32) (a8 : FVec Ideal S2048x128 .f32) (a9 : FVec Ideal S2048x64 .f32) (a10 : FVec Ideal S2048x64 .f32) (k : Fin 2048) (j : Fin 64) : cols a0 a1 a2 a3 a4 a5 a6 a7 a8 a9 a10 (ix2 k ⟨4160 + j.val, by omega⟩) = a10 (ix2 k j) := by
  rw [cols_at]
  dsimp only
  rw [dif_neg (show ¬4160 + j.val < 512 by omega), dif_neg (show ¬4160 + j.val - 512 < 256 by omega), dif_neg (show ¬4160 + j.val - 512 - 256 < 512 by omega), dif_neg (show ¬4160 + j.val - 512 - 256 - 512 < 512 by omega), dif_neg (show ¬4160 + j.val - 512 - 256 - 512 - 512 < 1024 by omega), dif_neg (show ¬4160 + j.val - 512 - 256 - 512 - 512 - 1024 < 512 by omega), dif_neg (show ¬4160 + j.val - 512 - 256 - 512 - 512 - 1024 - 512 < 512 by omega), dif_neg (show ¬4160 + j.val - 512 - 256 - 512 - 512 - 1024 - 512 - 512 < 128 by omega), dif_neg (show ¬4160 + j.val - 512 - 256 - 512 - 512 - 1024 - 512 - 512 - 128 < 128 by omega), dif_neg (show ¬4160 + j.val - 512 - 256 - 512 - 512 - 1024 - 512 - 512 - 128 - 128 < 64 by omega)]
  exact congrArg (fun q => a10 (ix2 k q)) (Fin.ext (by show 4160 + j.val - 512 - 256 - 512 - 512 - 1024 - 512 - 512 - 128 - 128 - 64 = j.val; omega))

/-- Columns of the input projection. -/
def colsPe (w : FVec Ideal S1x2048x4160 .f32) : FVec Ideal S2048x64 .f32 := extractStridedSlice S2048x64 ![0, 768] (shapeCast S2048x4160 w shapeCasts_S1x2048x4160_S2048x4160) slices_S2048x4160_S2048x64_0_768

/-- The exchanged lanes, the second half first and negated. -/
def colsRot (p : FVec Ideal S2048x64 .f32) : FVec Ideal S2048x64 .f32 :=
  concatenate S2048x64 1 [⟨S2048x32, Host.negf (extractStridedSlice S2048x32 ![0, 32] p slices_S2048x64_S2048x32_0_32)⟩, ⟨S2048x32, extractStridedSlice S2048x32 ![0, 0] p slices_S2048x64_S2048x32_0_0⟩] concatenates_S2048x32_S2048x32_S2048x64_d1

/-- The input projection's columns of the queries' latent. -/
def colsCq (w : FVec Ideal S1x2048x4160 .f32) : FVec Ideal S2048x512 .f32 := extractStridedSlice S2048x512 ![0, 0] (shapeCast S2048x4160 w shapeCasts_S1x2048x4160_S2048x4160) slices_S2048x4160_S2048x512_0_0

/-- The input projection's columns of the queries' latent at one element. -/
theorem colsCq_at (w : FVec Ideal S1x2048x4160 .f32) (k : Fin 2048) (j : Fin 512) : colsCq w (ix2 k j) = w (ix3 0 k ⟨0 + j.val, by omega⟩) := by
  pointwise [colsCq]

/-- The input projection's columns of the keys' and values' latent. -/
def colsCkv (w : FVec Ideal S1x2048x4160 .f32) : FVec Ideal S2048x256 .f32 := extractStridedSlice S2048x256 ![0, 512] (shapeCast S2048x4160 w shapeCasts_S1x2048x4160_S2048x4160) slices_S2048x4160_S2048x256_0_512

/-- The input projection's columns of the keys' and values' latent at one element. -/
theorem colsCkv_at (w : FVec Ideal S1x2048x4160 .f32) (k : Fin 2048) (j : Fin 256) : colsCkv w (ix2 k j) = w (ix3 0 k ⟨512 + j.val, by omega⟩) := by
  pointwise [colsCkv]

/-- The input projection's columns of the local attention's queries. -/
def colsQs (w : FVec Ideal S1x2048x4160 .f32) : FVec Ideal S2048x512 .f32 := extractStridedSlice S2048x512 ![0, 1856] (shapeCast S2048x4160 w shapeCasts_S1x2048x4160_S2048x4160) slices_S2048x4160_S2048x512_0_1856

/-- The input projection's columns of the local attention's queries at one element. -/
theorem colsQs_at (w : FVec Ideal S1x2048x4160 .f32) (k : Fin 2048) (j : Fin 512) : colsQs w (ix2 k j) = w (ix3 0 k ⟨1856 + j.val, by omega⟩) := by
  pointwise [colsQs]

/-- The input projection's columns of the memory attention's queries. -/
def colsQm (w : FVec Ideal S1x2048x4160 .f32) : FVec Ideal S2048x512 .f32 := extractStridedSlice S2048x512 ![0, 3136] (shapeCast S2048x4160 w shapeCasts_S1x2048x4160_S2048x4160) slices_S2048x4160_S2048x512_0_3136

/-- The input projection's columns of the memory attention's queries at one element. -/
theorem colsQm_at (w : FVec Ideal S1x2048x4160 .f32) (k : Fin 2048) (j : Fin 512) : colsQm w (ix2 k j) = w (ix3 0 k ⟨3136 + j.val, by omega⟩) := by
  pointwise [colsQm]

/-- The input projection's columns of the first gates. -/
def colsZm (w : FVec Ideal S1x2048x4160 .f32) : FVec Ideal S2048x1024 .f32 := extractStridedSlice S2048x1024 ![0, 832] (shapeCast S2048x4160 w shapeCasts_S1x2048x4160_S2048x4160) slices_S2048x4160_S2048x1024_0_832

/-- The input projection's columns of the first gates at one element. -/
theorem colsZm_at (w : FVec Ideal S1x2048x4160 .f32) (k : Fin 2048) (j : Fin 1024) : colsZm w (ix2 k j) = w (ix3 0 k ⟨832 + j.val, by omega⟩) := by
  pointwise [colsZm]

/-- The input projection's columns of the second gates. -/
def colsZs (w : FVec Ideal S1x2048x4160 .f32) : FVec Ideal S2048x512 .f32 := extractStridedSlice S2048x512 ![0, 2624] (shapeCast S2048x4160 w shapeCasts_S1x2048x4160_S2048x4160) slices_S2048x4160_S2048x512_0_2624

/-- The input projection's columns of the second gates at one element. -/
theorem colsZs_at (w : FVec Ideal S1x2048x4160 .f32) (k : Fin 2048) (j : Fin 512) : colsZs w (ix2 k j) = w (ix3 0 k ⟨2624 + j.val, by omega⟩) := by
  pointwise [colsZs]

/-- The input projection's columns of the third gates. -/
def colsZr (w : FVec Ideal S1x2048x4160 .f32) : FVec Ideal S2048x512 .f32 := extractStridedSlice S2048x512 ![0, 3648] (shapeCast S2048x4160 w shapeCasts_S1x2048x4160_S2048x4160) slices_S2048x4160_S2048x512_0_3648

/-- The input projection's columns of the third gates at one element. -/
theorem colsZr_at (w : FVec Ideal S1x2048x4160 .f32) (k : Fin 2048) (j : Fin 512) : colsZr w (ix2 k j) = w (ix3 0 k ⟨3648 + j.val, by omega⟩) := by
  pointwise [colsZr]

/-- The input projection's columns of the local attention's keys. -/
def colsKs (w : FVec Ideal S1x2048x4160 .f32) : FVec Ideal S2048x128 .f32 := extractStridedSlice S2048x128 ![0, 2368] (shapeCast S2048x4160 w shapeCasts_S1x2048x4160_S2048x4160) slices_S2048x4160_S2048x128_0_2368

/-- The input projection's columns of the local attention's keys at one element. -/
theorem colsKs_at (w : FVec Ideal S1x2048x4160 .f32) (k : Fin 2048) (j : Fin 128) : colsKs w (ix2 k j) = w (ix3 0 k ⟨2368 + j.val, by omega⟩) := by
  pointwise [colsKs]

/-- The input projection's columns of the local attention's values. -/
def colsVs (w : FVec Ideal S1x2048x4160 .f32) : FVec Ideal S2048x128 .f32 := extractStridedSlice S2048x128 ![0, 2496] (shapeCast S2048x4160 w shapeCasts_S1x2048x4160_S2048x4160) slices_S2048x4160_S2048x128_0_2496

/-- The input projection's columns of the local attention's values at one element. -/
theorem colsVs_at (w : FVec Ideal S1x2048x4160 .f32) (k : Fin 2048) (j : Fin 128) : colsVs w (ix2 k j) = w (ix3 0 k ⟨2496 + j.val, by omega⟩) := by
  pointwise [colsVs]

/-- The input projection's columns of the keys' lanes to rotate at one element. -/
theorem colsPe_at (w : FVec Ideal S1x2048x4160 .f32) (k : Fin 2048) (j : Fin 64) : colsPe w (ix2 k j) = w (ix3 0 k ⟨768 + j.val, by omega⟩) := by
  pointwise [colsPe]

/-- The exchanged lanes' first half at one element. -/
theorem colsRot_1 (p : FVec Ideal S2048x64 .f32) (k : Fin 2048) (j : Fin 32) : colsRot p (ix2 k ⟨j.val, by omega⟩) = -p (ix2 k ⟨32 + j.val, by omega⟩) := by
  pointwise [colsRot]

/-- The exchanged lanes' second half at one element. -/
theorem colsRot_2 (p : FVec Ideal S2048x64 .f32) (k : Fin 2048) (j : Fin 32) : colsRot p (ix2 k ⟨32 + j.val, by omega⟩) = p (ix2 k ⟨j.val, by omega⟩) := by
  pointwise [colsRot]

/-- The reordered input projection. -/
def w1of (w : FVec Ideal S1x2048x4160 .f32) : FVec Ideal S2048x4224 .bf16 :=
  truncf .bf16 (cols (colsCq w) (colsCkv w) (colsQs w) (colsQm w) (colsZm w) (colsZs w) (colsZr w) (colsKs w) (colsVs w) (colsPe w) (colsRot (colsPe w))) bitsLt_bf16_f32

/-- Rounding keeps an element. -/
theorem w1of_at (w : FVec Ideal S1x2048x4160 .f32) (i : S2048x4224.Idx) :
    w1of w i = cols (colsCq w) (colsCkv w) (colsQs w) (colsQm w) (colsZm w) (colsZs w) (colsZr w) (colsKs w) (colsVs w) (colsPe w) (colsRot (colsPe w)) i := rfl

/-- The queries' up-projection, head by head. -/
def heads (u : FVec Ideal S1x512x1536 .f32) : FVec Ideal S512x8x192 .f32 := shapeCast S512x8x192 (shapeCast S512x1536 u shapeCasts_S1x512x1536_S512x1536) shapeCasts_S512x1536_S512x8x192

/-- The queries' up-projection, head by head, at one element. -/
theorem heads_at (u : FVec Ideal S1x512x1536 .f32) (k : Fin 512) (h : Fin 8) (e : Fin 192) : heads u (ix3 k h e) = u (ix3 0 k ⟨h.val * 192 + e.val, by omega⟩) := by
  pointwise [heads]

/-- The lanes to rotate. -/
def headsPe (v : FVec Ideal S512x8x192 .f32) : FVec Ideal S512x8x64 .f32 := extractStridedSlice S512x8x64 ![0, 0, 128] v slices_S512x8x192_S512x8x64_0_0_128

/-- The lanes to rotate at one element. -/
theorem headsPe_at (v : FVec Ideal S512x8x192 .f32) (k : Fin 512) (h : Fin 8) (e : Fin 64) : headsPe v (ix3 k h e) = v (ix3 k h ⟨128 + e.val, by omega⟩) := by
  pointwise [headsPe]

/-- The plain lanes. -/
def headsPl (v : FVec Ideal S512x8x192 .f32) : FVec Ideal S512x8x128 .f32 := extractStridedSlice S512x8x128 ![0, 0, 0] v slices_S512x8x192_S512x8x128_0_0_0

/-- The plain lanes at one element. -/
theorem headsPl_at (v : FVec Ideal S512x8x192 .f32) (k : Fin 512) (h : Fin 8) (e : Fin 128) : headsPl v (ix3 k h e) = v (ix3 k h ⟨e.val, by omega⟩) := by
  pointwise [headsPl]

/-- The exchanged lanes, the second half first and negated. -/
def headsRot (p : FVec Ideal S512x8x64 .f32) : FVec Ideal S512x8x64 .f32 :=
  concatenate S512x8x64 2 [⟨S512x8x32, Host.negf (extractStridedSlice S512x8x32 ![0, 0, 32] p slices_S512x8x64_S512x8x32_0_0_32)⟩, ⟨S512x8x32, extractStridedSlice S512x8x32 ![0, 0, 0] p slices_S512x8x64_S512x8x32_0_0_0⟩] concatenates_S512x8x32_S512x8x32_S512x8x64_d2

/-- The exchanged lanes' first half at one element. -/
theorem headsRot_1 (p : FVec Ideal S512x8x64 .f32) (k : Fin 512) (h : Fin 8) (j : Fin 32) : headsRot p (ix3 k h ⟨j.val, by omega⟩) = -p (ix3 k h ⟨32 + j.val, by omega⟩) := by
  pointwise [headsRot]

/-- The exchanged lanes' second half at one element. -/
theorem headsRot_2 (p : FVec Ideal S512x8x64 .f32) (k : Fin 512) (h : Fin 8) (j : Fin 32) : headsRot p (ix3 k h ⟨32 + j.val, by omega⟩) = p (ix3 k h ⟨j.val, by omega⟩) := by
  pointwise [headsRot]

/-- Plain lanes, lanes to rotate and exchanged lanes side by side. -/
def headsCat (a : FVec Ideal S512x8x128 .f32) (b d : FVec Ideal S512x8x64 .f32) : FVec Ideal S512x8x256 .f32 :=
  concatenate S512x8x256 2 [⟨S512x8x128, a⟩, ⟨S512x8x64, b⟩, ⟨S512x8x64, d⟩] concatenates_S512x8x128_S512x8x64_S512x8x64_S512x8x256_d2

/-- The lanes side by side at one element. -/
theorem headsCat_at (a : FVec Ideal S512x8x128 .f32) (b d : FVec Ideal S512x8x64 .f32) (k : Fin 512) (h : Fin 8) (e : Fin 256) :
    headsCat a b d (ix3 k h e) = if h' : e.val < 128 then a (ix3 k h ⟨e.val, h'⟩) else if h' : e.val - 128 < 64 then b (ix3 k h ⟨e.val - 128, h'⟩) else d (ix3 k h ⟨e.val - 128 - 64, by omega⟩) := by
  pointwise [headsCat]

/-- The heads laid end to end, rounded. -/
def headsFlat (x : FVec Ideal S512x8x256 .f32) : FVec Ideal S512x2048 .bf16 := truncf .bf16 (shapeCast S512x2048 x shapeCasts_S512x8x256_S512x2048) bitsLt_bf16_f32

/-- The heads laid end to end at one element. -/
theorem headsFlat_at (x : FVec Ideal S512x8x256 .f32) (k : Fin 512) (h : Fin 8) (e : Fin 256) : headsFlat x (ix2 k ⟨256 * h.val + e.val, by omega⟩) = x (ix3 k h e) := by
  refine Idealize.ShloMosaic.shapeCast_apply x _ _ _ ?_
  rw [Shape.rowMajor_val_three, Shape.rowMajor_val_two]
  show (k.val * 8 + h.val) * 256 + e.val = k.val * 2048 + (256 * h.val + e.val)
  omega

/-- The reordered queries' up-projection. -/
def w5of (u : FVec Ideal S1x512x1536 .f32) : FVec Ideal S512x2048 .bf16 := headsFlat (headsCat (headsPl (heads u)) (headsPe (heads u)) (headsRot (headsPe (heads u))))

/-- The keys' and values' up-projection. -/
def w6of (u : FVec Ideal S1x256x2048 .f32) : FVec Ideal S256x2048 .bf16 := truncf .bf16 (shapeCast S256x2048 u shapeCasts_S1x256x2048_S256x2048) bitsLt_bf16_f32

/-- The keys' and values' up-projection at one element. -/
theorem w6of_at (u : FVec Ideal S1x256x2048 .f32) (k : Fin 256) (n : Fin 2048) : w6of u (ix2 k n) = u (ix3 0 k n) := by
  pointwise [w6of]

/-- A table: twice the values, then nothing. -/
def table (x : FVec Ideal S4096x32 .f32) : FVec Ideal S4096x128 .f32 :=
  concatenate S4096x128 1 [⟨S4096x32, x⟩, ⟨S4096x32, x⟩, ⟨S4096x32, broadcastInDim S4096x32 ![] bcast_S_S4096x32 (constant S_ .f32 0x00000000#32)⟩, ⟨S4096x32, broadcastInDim S4096x32 ![] bcast_S_S4096x32 (constant S_ .f32 0x00000000#32)⟩] concatenates_S4096x32_S4096x32_S4096x32_S4096x32_S4096x128_d1

/-- A table at one element. -/
theorem table_at (x : FVec Ideal S4096x32 .f32) (r : Fin 4096) (e : Fin 128) :
    table x (ix2 r e) = if h : e.val < 32 then x (ix2 r ⟨e.val, h⟩) else if h : e.val - 32 < 32 then x (ix2 r ⟨e.val - 32, h⟩) else 0 := by
  pointwise [table]
  split_ifs <;> rfl

end Cert.ProjIdeal.Hand

end
-- ==== Proof.ProjHostEq.lean ====
/- The arrays the host hands to the input projections. -/
module

public import proofs.«01_k».proof.Proof.ProjHost
public import Idealize.ShloMosaic.Lib.Claim
public import Idealize.ShloMosaic.Lib.StableHlo.RunRead

@[expose] public section

set_option maxRecDepth 16384

noncomputable section

namespace Cert.ProjIdeal.Hand

open Cert.ProjIdeal Cert.ProjIdeal.Gen Idealize.ShloMosaic Idealize.ShloMosaic.TcCoe Idealize.SL.Sem

variable (m : (ℓ : Loc nD τ sig) → Buf (Elt Ideal) ℓ)

/-- The input. -/
abbrev X (c : Dev nD) : FVec Ideal S2x4096x2048 .f32 := m ((c : Thread nD τ).loc main_arg0)
/-- The input norm's factors. -/
abbrev Gi (c : Dev nD) : FVec Ideal S1x2048 .f32 := m ((c : Thread nD τ).loc main_arg1)
/-- The input projection. -/
abbrev W (c : Dev nD) : FVec Ideal S1x2048x4160 .f32 := m ((c : Thread nD τ).loc main_arg2)
/-- The queries' norm's factors. -/
abbrev Gq (c : Dev nD) : FVec Ideal S1x512 .f32 := m ((c : Thread nD τ).loc main_arg3)
/-- The keys' and values' norm's factors. -/
abbrev Gk (c : Dev nD) : FVec Ideal S1x256 .f32 := m ((c : Thread nD τ).loc main_arg4)
/-- The queries' up-projection. -/
abbrev Uq (c : Dev nD) : FVec Ideal S1x512x1536 .f32 := m ((c : Thread nD τ).loc main_arg5)
/-- The keys' and values' up-projection. -/
abbrev Uk (c : Dev nD) : FVec Ideal S1x256x2048 .f32 := m ((c : Thread nD τ).loc main_arg6)

set_option maxHeartbeats 8000000 in
/-- The reordered input projection. -/
theorem w1_entry (c : Dev nD) : (V m c main_v16 : Vec Ideal S2048x4224 .bf16) = w1of (W m c) := by
  unfold_abbrev_sides
  after_reads_simp
  rfl

set_option maxHeartbeats 8000000 in
/-- The reordered up-projection of the queries. -/
theorem w5_entry (c : Dev nD) : (V m c main_v27 : Vec Ideal S512x2048 .bf16) = w5of (Uq m c) := by
  unfold_abbrev_sides
  after_reads_simp
  rfl

set_option maxHeartbeats 8000000 in
/-- The up-projection of the keys and values. -/
theorem w6_entry (c : Dev nD) : (V m c main_v29 : Vec Ideal S256x2048 .bf16) = w6of (Uk m c) := by
  unfold_abbrev_sides
  after_reads_simp
  rfl

set_option maxHeartbeats 8000000 in
/-- The table of cosines. -/
theorem t7_entry (c : Dev nD) : (V m c main_v50 : Vec Ideal S4096x128 .f32) = table (Host.cos Cert.ProjRefIdeal.Hand.ang) := by
  unfold_abbrev_sides
  after_reads_simp
  rfl

set_option maxHeartbeats 8000000 in
/-- The table of sines. -/
theorem t8_entry (c : Dev nD) : (V m c main_v51 : Vec Ideal S4096x128 .f32) = table (Host.sin Cert.ProjRefIdeal.Hand.ang) := by
  unfold_abbrev_sides
  after_reads_simp
  rfl

end Cert.ProjIdeal.Hand

end
-- ==== Proof.ProjPay.lean ====
/- What is stored by one block of the input projections, read at one element. -/
module

public import proofs.«01_k».proof.Proof.Gen.ProjIdeal.Frame
public import Idealize.ShloMosaic.Lib.Pipeline.ValueKit
public import Idealize.ShloMosaic.Lib.Pointwise
public import Idealize.ShloMosaic.Lib.IdealHost

@[expose] public section

set_option maxRecDepth 16384

noncomputable section

namespace Cert.ProjIdeal.Hand

open Cert.ProjIdeal Cert.ProjIdeal.Gen Idealize.ShloMosaic Idealize.ShloMosaic.TcCoe Idealize.SL.Sem

/-- An element of the root mean square norm of the row `x` with the factors `g`. -/
def rms {n : ℕ} (c : BitVec 32) (x g : Fin n → EReal) (k : Fin n) : EReal :=
  x k * Ideal.rsqrt (Ideal.div (∑ k, x k * x k) (Ideal.ofBits .f32 c) + Ideal.ofBits .f32 0x358637BD#32) * g k

/-- A lane of the rotation with the tables' rows `C` and `S`. -/
def rotP (p C S : Fin 128 → EReal) (e : Fin 128) : EReal := p e * C e + p ⟨(e.val + 128 - 64) % 128, by omega⟩ * S e

/-- The block's normed input, at one element. -/
theorem pay2_at (x : Vec Ideal S1x256x2048 .f32) (g : Vec Ideal S1x2048 .f32) (r : Fin 256) (k : Fin 2048) :
    k0_pay2 x g (ix2 r k) = rms 0x45000000#32 (fun k => x (ix3 0 r k)) (fun k => g (ix2 0 k)) k := by
  unfold rms
  pointwise [k0_pay2]

/-- The latents before their norms, at one element. -/
theorem pay5_at (x : Vec Ideal S1x256x2048 .f32) (g : Vec Ideal S1x2048 .f32) (w : Vec Ideal S2048x768 .bf16) (r : Fin 256) (n : Fin 768) :
    k0_pay5 x g w (ix2 r n) = ∑ k, k0_pay2 x g (ix2 r k) * w (ix2 k n) := by
  unfold k0_pay5
  generalize k0_pay2 x g = h
  pointwise []

/-- The queries' normed latent, at one element. -/
theorem pay6_at (x : Vec Ideal S1x256x2048 .f32) (g : Vec Ideal S1x2048 .f32) (w : Vec Ideal S2048x768 .bf16) (q : Vec Ideal S1x512 .f32) (r : Fin 256) (k : Fin 512) :
    k0_pay6 x g w q (ix2 r k) = rms 0x44000000#32 (fun k => k0_pay5 x g w (ix2 r ⟨k.val, by omega⟩)) (fun k => q (ix2 0 k)) k := by
  unfold k0_pay6
  generalize k0_pay5 x g w = l
  unfold rms
  pointwise []

/-- The keys' and values' normed latent, at one element. -/
theorem pay7_at (l : FVec Ideal S256x768 .f32) (g : Vec Ideal S1x256 .f32) (r : Fin 256) (k : Fin 256) :
    k0_pay7 l g (ix2 r k) = rms 0x43800000#32 (fun k => l (ix2 r ⟨512 + k.val, by omega⟩)) (fun k => g (ix2 0 k)) k := by
  unfold rms
  pointwise [k0_pay7]

/-- The tables' blocks are kept. -/
theorem pay3_at (x : Vec Ideal S256x128 .f32) (r : Fin 256) (e : Fin 128) : k0_pay3 x (ix2 r e) = x (ix2 r e) := by
  pointwise [k0_pay3]

/-- The tables' blocks are kept. -/
theorem pay4_at (x : Vec Ideal S256x128 .f32) (r : Fin 256) (e : Fin 128) : k0_pay4 x (ix2 r e) = x (ix2 r e) := by
  pointwise [k0_pay4]

/-- The other two attentions' queries, at one element. -/
theorem pay8_at (h : FVec Ideal S256x2048 .bf16) (w : Vec Ideal S2048x1024 .bf16) (r : Fin 256) (n : Fin 1024) :
    k0_pay8 h w (ix3 0 r n) = ∑ k, h (ix2 r k) * w (ix2 k n) := by
  pointwise [k0_pay8]

/-- The gates, at one element. -/
theorem pay9_at (h : FVec Ideal S256x2048 .bf16) (w : Vec Ideal S2048x2048 .bf16) (r : Fin 256) (n : Fin 2048) :
    k0_pay9 h w (ix3 0 r n) = ∑ k, h (ix2 r k) * w (ix2 k n) := by
  pointwise [k0_pay9]

/-- The narrow projections, at one element. -/
theorem pay10_at (h : FVec Ideal S256x2048 .bf16) (w : Vec Ideal S2048x384 .bf16) (r : Fin 256) (n : Fin 384) :
    k0_pay10 h w (ix2 r n) = ∑ k, h (ix2 r k) * w (ix2 k n) := by
  pointwise [k0_pay10]

/-- The local attention's keys, at one element. -/
theorem pay12_at (h : FVec Ideal S256x2048 .bf16) (w : Vec Ideal S2048x384 .bf16) (r : Fin 256) (n : Fin 128) :
    k0_pay12 (k0_pay11 h w) (ix3 0 r n) = k0_pay10 h w (ix2 r ⟨n.val, by omega⟩) := by
  unfold k0_pay12 k0_pay11
  generalize k0_pay10 h w = l
  pointwise []

/-- The local attention's values, at one element. -/
theorem pay13_at (l : FVec Ideal S256x384 .f32) (r : Fin 256) (n : Fin 128) :
    k0_pay13 l (ix3 0 r n) = l (ix2 r ⟨128 + n.val, by omega⟩) := by
  pointwise [k0_pay13]

/-- The keys' rotated lanes, at one element. -/
theorem pay14_at (C S : FVec Ideal S256x128 .f32) (l : FVec Ideal S256x384 .f32) (r : Fin 256) (e : Fin 128) :
    k0_pay14 C S l (ix2 r e) = rotP (fun e => l (ix2 r ⟨256 + e.val, by omega⟩)) (fun e => C (ix2 r e)) (fun e => S (ix2 r e)) e := by
  unfold rotP
  pointwise [k0_pay14]

/-- The heads' queries, at one element. -/
theorem pay15_at (h : FVec Ideal S256x512 .bf16) (w : Vec Ideal S512x2048 .bf16) (r : Fin 256) (n : Fin 2048) :
    k0_pay15 h w (ix2 r n) = ∑ k, h (ix2 r k) * w (ix2 k n) := by
  pointwise [k0_pay15]

/-- The heads' keys and values, at one element. -/
theorem pay16_at (h : FVec Ideal S256x256 .bf16) (w : Vec Ideal S256x2048 .bf16) (r : Fin 256) (n : Fin 2048) :
    k0_pay16 h w (ix2 r n) = ∑ k, h (ix2 r k) * w (ix2 k n) := by
  pointwise [k0_pay16]

end Cert.ProjIdeal.Hand

end
-- ==== Proof.ProjBlocks.lean ====
/- The blocks of the input projections: what a point of the grid reads. -/
module

public import proofs.«01_k».proof.Proof.ProjHostEq
public import proofs.«01_k».proof.Proof.ProjPay
public import proofs.«01_k».proof.Proof.Gen.ProjIdeal.Value
public import Idealize.ShloMosaic.Lib.Pipeline.ValueKit
public import Idealize.ShloMosaic.Lib.Pointwise

@[expose] public section

set_option maxRecDepth 16384

noncomputable section

namespace Cert.ProjIdeal.Hand

open Cert.ProjIdeal Cert.ProjIdeal.Gen Idealize.ShloMosaic Idealize.ShloMosaic.TcCoe Idealize.SL.Sem

/-- Where point `t` of the grid lies: the blocks of its windows. -/
theorem idx : ∀ t : Fin cfg0.N, win0_0.index t = ![t.val / 16, t.val % 16, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![t.val % 16, 0] ∧ win0_8.index t = ![t.val % 16, 0] ∧ win0_9.index t = ![t.val / 16, t.val % 16, 0] ∧ win0_10.index t = ![t.val / 16, t.val % 16, 0] ∧ win0_11.index t = ![t.val / 16, t.val % 16, 0] ∧ win0_12.index t = ![t.val / 16, t.val % 16, 0] ∧ win0_13.index t = ![t.val / 16, t.val % 16, 0] ∧ win0_14.index t = ![t.val / 16, t.val % 16, 0] ∧ win0_15.index t = ![t.val / 16, t.val % 16, 0] :=
  (by decide +kernel : ∀ t : Fin grid0.N, _)

variable (m : (ℓ : Loc nD τ sig) → Buf (Elt Ideal) ℓ)

/-- The batch of point `t`. -/
abbrev bt (t : Fin cfg0.N) : Fin 2 := ⟨t.val / 16, by have : t.val < 32 := t.isLt; omega⟩
/-- The row of the array in row `r` of point `t`'s tile. -/
abbrev row (t : Fin cfg0.N) (r : Fin 256) : Fin 4096 := ⟨256 * (t.val % 16) + r.val, by omega⟩

/-- The input's block. -/
theorem x_blk (c : Dev nD) (t : Fin cfg0.N) (r : Fin 256) (n : Fin 2048) :
    (View.ld (iblk m c 0 t : Vec Ideal S1x256x2048 .f32) r0_0 : Vec Ideal S1x256x2048 .f32) (ix3 0 r n) = X m c (ix3 (bt t) (row t r) n) := by
  blk_point [iblk, V, X, idx t]

/-- The input norm's factors. -/
theorem gi_blk (c : Dev nD) (t : Fin cfg0.N) (n : Fin 2048) :
    (View.ld (iblk m c 1 t : Vec Ideal S1x2048 .f32) r0_1 : Vec Ideal S1x2048 .f32) (ix2 0 n) = Gi m c (ix2 0 n) := by
  blk_point [iblk, V, Gi, idx t]

/-- The queries' norm's factors. -/
theorem gq_blk (c : Dev nD) (t : Fin cfg0.N) (n : Fin 512) :
    (View.ld (iblk m c 3 t : Vec Ideal S1x512 .f32) r0_4 : Vec Ideal S1x512 .f32) (ix2 0 n) = Gq m c (ix2 0 n) := by
  blk_point [iblk, V, Gq, idx t]

/-- The keys' and values' norm's factors. -/
theorem gk_blk (c : Dev nD) (t : Fin cfg0.N) (n : Fin 256) :
    (View.ld (iblk m c 4 t : Vec Ideal S1x256 .f32) r0_5 : Vec Ideal S1x256 .f32) (ix2 0 n) = Gk m c (ix2 0 n) := by
  blk_point [iblk, V, Gk, idx t]

/-- The reordered input projection: the whole matrix. -/
theorem w1_blk (c : Dev nD) (t : Fin cfg0.N) (k : Fin 2048) (n : Fin 4224) :
    (iblk m c 2 t : Vec Ideal S2048x4224 .bf16) (ix2 k n) = w1of (W m c) (ix2 k n) := by
  refine Eq.trans (b := (V m c main_v16 : Vec Ideal S2048x4224 .bf16) (ix2 k n)) ?_ (congrFun (w1_entry m c) _)
  generalize hA : (V m c main_v16 : Vec Ideal S2048x4224 .bf16) = A
  have h : (iblk m c 2 t : Vec Ideal S2048x4224 .bf16) = ((cfg0.win 2).blk t).view.read (Elt Ideal) A := by subst hA; rfl
  rw [h]
  blk_point [idx t]

/-- The reordered up-projection of the queries: the whole matrix. -/
theorem w5_blk (c : Dev nD) (t : Fin cfg0.N) (k : Fin 512) (n : Fin 2048) :
    (iblk m c 5 t : Vec Ideal S512x2048 .bf16) (ix2 k n) = w5of (Uq m c) (ix2 k n) := by
  refine Eq.trans (b := (V m c main_v27 : Vec Ideal S512x2048 .bf16) (ix2 k n)) ?_ (congrFun (w5_entry m c) _)
  generalize hA : (V m c main_v27 : Vec Ideal S512x2048 .bf16) = A
  have h : (iblk m c 5 t : Vec Ideal S512x2048 .bf16) = ((cfg0.win 5).blk t).view.read (Elt Ideal) A := by subst hA; rfl
  rw [h]
  blk_point [idx t]

/-- The up-projection of the keys and values: the whole matrix. -/
theorem w6_blk (c : Dev nD) (t : Fin cfg0.N) (k : Fin 256) (n : Fin 2048) :
    (iblk m c 6 t : Vec Ideal S256x2048 .bf16) (ix2 k n) = w6of (Uk m c) (ix2 k n) := by
  refine Eq.trans (b := (V m c main_v29 : Vec Ideal S256x2048 .bf16) (ix2 k n)) ?_ (congrFun (w6_entry m c) _)
  generalize hA : (V m c main_v29 : Vec Ideal S256x2048 .bf16) = A
  have h : (iblk m c 6 t : Vec Ideal S256x2048 .bf16) = ((cfg0.win 6).blk t).view.read (Elt Ideal) A := by subst hA; rfl
  rw [h]
  blk_point [idx t]

/-- The cosines of the tile's rows. -/
theorem t7_blk (c : Dev nD) (t : Fin cfg0.N) (k : Fin 256) (n : Fin 128) :
    (iblk m c 7 t : Vec Ideal S256x128 .f32) (ix2 k n) = table (Host.cos Cert.ProjRefIdeal.Hand.ang) (ix2 (row t k) n) := by
  refine Eq.trans (b := (V m c main_v50 : Vec Ideal S4096x128 .f32) (ix2 (row t k) n)) ?_ (congrFun (t7_entry m c) _)
  generalize hA : (V m c main_v50 : Vec Ideal S4096x128 .f32) = A
  have h : (iblk m c 7 t : Vec Ideal S256x128 .f32) = ((cfg0.win 7).blk t).view.read (Elt Ideal) A := by subst hA; rfl
  rw [h]
  blk_point [idx t]

/-- The sines of the tile's rows. -/
theorem t8_blk (c : Dev nD) (t : Fin cfg0.N) (k : Fin 256) (n : Fin 128) :
    (iblk m c 8 t : Vec Ideal S256x128 .f32) (ix2 k n) = table (Host.sin Cert.ProjRefIdeal.Hand.ang) (ix2 (row t k) n) := by
  refine Eq.trans (b := (V m c main_v51 : Vec Ideal S4096x128 .f32) (ix2 (row t k) n)) ?_ (congrFun (t8_entry m c) _)
  generalize hA : (V m c main_v51 : Vec Ideal S4096x128 .f32) = A
  have h : (iblk m c 8 t : Vec Ideal S256x128 .f32) = ((cfg0.win 8).blk t).view.read (Elt Ideal) A := by subst hA; rfl
  rw [h]
  blk_point [idx t]

/-- Reading 768 columns of the reordered input projection. -/
theorem w1_ld3 (w : Vec Ideal S2048x4224 .bf16) (k : Fin 2048) (n : Fin 768) : (View.ld w r0_3 : Vec Ideal S2048x768 .bf16) (ix2 k n) = w (ix2 k ⟨0 + n.val, by omega⟩) := by
  unfold r0_3
  rw [View.ld_unit]
  pointwise

/-- Reading 1024 columns of the reordered input projection. -/
theorem w1_ld6 (w : Vec Ideal S2048x4224 .bf16) (k : Fin 2048) (n : Fin 1024) : (View.ld w r0_6 : Vec Ideal S2048x1024 .bf16) (ix2 k n) = w (ix2 k ⟨768 + n.val, by omega⟩) := by
  unfold r0_6
  rw [View.ld_unit]
  pointwise

/-- Reading 2048 columns of the reordered input projection. -/
theorem w1_ld8 (w : Vec Ideal S2048x4224 .bf16) (k : Fin 2048) (n : Fin 2048) : (View.ld w r0_8 : Vec Ideal S2048x2048 .bf16) (ix2 k n) = w (ix2 k ⟨1792 + n.val, by omega⟩) := by
  unfold r0_8
  rw [View.ld_unit]
  pointwise

/-- Reading 384 columns of the reordered input projection. -/
theorem w1_ld9 (w : Vec Ideal S2048x4224 .bf16) (k : Fin 2048) (n : Fin 384) : (View.ld w r0_9 : Vec Ideal S2048x384 .bf16) (ix2 k n) = w (ix2 k ⟨3840 + n.val, by omega⟩) := by
  unfold r0_9
  rw [View.ld_unit]
  pointwise

/-- Reading the whole of the queries' up-projection. -/
theorem ld11 (w : Vec Ideal S512x2048 .bf16) (k : Fin 512) (n : Fin 2048) : (View.ld w r0_11 : Vec Ideal S512x2048 .bf16) (ix2 k n) = w (ix2 k n) := by
  unfold r0_11
  rw [View.ld_unit]
  pointwise

/-- Reading the whole of the keys' and values' up-projection. -/
theorem ld12 (w : Vec Ideal S256x2048 .bf16) (k : Fin 256) (n : Fin 2048) : (View.ld w r0_12 : Vec Ideal S256x2048 .bf16) (ix2 k n) = w (ix2 k n) := by
  unfold r0_12
  rw [View.ld_unit]
  pointwise

/-- Reading the whole of the tables. -/
theorem ld2 (w : Vec Ideal S256x128 .f32) (k : Fin 256) (n : Fin 128) : (View.ld w r0_2 : Vec Ideal S256x128 .f32) (ix2 k n) = w (ix2 k n) := by
  unfold r0_2
  rw [View.ld_unit]
  pointwise

/-- An element of the reordered input projection, under other names of its column. -/
theorem w1_via (c : Dev nD) (t : Fin cfg0.N) (k : Fin 2048) (n n' : Fin 4224) (s s' : Fin 4160) (h : (iblk m c 2 t : Vec Ideal S2048x4224 .bf16) (ix2 k n') = W m c (ix3 0 k s'))
    (e : n.val = n'.val) (e' : s.val = s'.val) : (iblk m c 2 t : Vec Ideal S2048x4224 .bf16) (ix2 k n) = W m c (ix3 0 k s) := by
  obtain rfl := Fin.ext e
  obtain rfl := Fin.ext e'
  exact h

/-- The columns from 0 on of the reordered input projection. -/
theorem w1_cq (c : Dev nD) (t : Fin cfg0.N) (k : Fin 2048) (j : Fin 512) :
    (iblk m c 2 t : Vec Ideal S2048x4224 .bf16) (ix2 k ⟨0 + j.val, by omega⟩) = W m c (ix3 0 k ⟨0 + j.val, by omega⟩) :=
  (w1_blk m c t k _).trans ((w1of_at _ _).trans ((cols_cq _ _ _ _ _ _ _ _ _ _ _ k j).trans (colsCq_at (W m c) k j)))

/-- The columns from 512 on of the reordered input projection. -/
theorem w1_ckv (c : Dev nD) (t : Fin cfg0.N) (k : Fin 2048) (j : Fin 256) :
    (iblk m c 2 t : Vec Ideal S2048x4224 .bf16) (ix2 k ⟨512 + j.val, by omega⟩) = W m c (ix3 0 k ⟨512 + j.val, by omega⟩) :=
  (w1_blk m c t k _).trans ((w1of_at _ _).trans ((cols_ckv _ _ _ _ _ _ _ _ _ _ _ k j).trans (colsCkv_at (W m c) k j)))

/-- The columns from 768 on of the reordered input projection. -/
theorem w1_qs (c : Dev nD) (t : Fin cfg0.N) (k : Fin 2048) (j : Fin 512) :
    (iblk m c 2 t : Vec Ideal S2048x4224 .bf16) (ix2 k ⟨768 + j.val, by omega⟩) = W m c (ix3 0 k ⟨1856 + j.val, by omega⟩) :=
  (w1_blk m c t k _).trans ((w1of_at _ _).trans ((cols_qs _ _ _ _ _ _ _ _ _ _ _ k j).trans (colsQs_at (W m c) k j)))

/-- The columns from 1280 on of the reordered input projection. -/
theorem w1_qm (c : Dev nD) (t : Fin cfg0.N) (k : Fin 2048) (j : Fin 512) :
    (iblk m c 2 t : Vec Ideal S2048x4224 .bf16) (ix2 k ⟨1280 + j.val, by omega⟩) = W m c (ix3 0 k ⟨3136 + j.val, by omega⟩) :=
  (w1_blk m c t k _).trans ((w1of_at _ _).trans ((cols_qm _ _ _ _ _ _ _ _ _ _ _ k j).trans (colsQm_at (W m c) k j)))

/-- The columns from 1792 on of the reordered input projection. -/
theorem w1_zm (c : Dev nD) (t : Fin cfg0.N) (k : Fin 2048) (j : Fin 1024) :
    (iblk m c 2 t : Vec Ideal S2048x4224 .bf16) (ix2 k ⟨1792 + j.val, by omega⟩) = W m c (ix3 0 k ⟨832 + j.val, by omega⟩) :=
  (w1_blk m c t k _).trans ((w1of_at _ _).trans ((cols_zm _ _ _ _ _ _ _ _ _ _ _ k j).trans (colsZm_at (W m c) k j)))

/-- The columns from 2816 on of the reordered input projection. -/
theorem w1_zs (c : Dev nD) (t : Fin cfg0.N) (k : Fin 2048) (j : Fin 512) :
    (iblk m c 2 t : Vec Ideal S2048x4224 .bf16) (ix2 k ⟨2816 + j.val, by omega⟩) = W m c (ix3 0 k ⟨2624 + j.val, by omega⟩) :=
  (w1_blk m c t k _).trans ((w1of_at _ _).trans ((cols_zs _ _ _ _ _ _ _ _ _ _ _ k j).trans (colsZs_at (W m c) k j)))

/-- The columns from 3328 on of the reordered input projection. -/
theorem w1_zr (c : Dev nD) (t : Fin cfg0.N) (k : Fin 2048) (j : Fin 512) :
    (iblk m c 2 t : Vec Ideal S2048x4224 .bf16) (ix2 k ⟨3328 + j.val, by omega⟩) = W m c (ix3 0 k ⟨3648 + j.val, by omega⟩) :=
  (w1_blk m c t k _).trans ((w1of_at _ _).trans ((cols_zr _ _ _ _ _ _ _ _ _ _ _ k j).trans (colsZr_at (W m c) k j)))

/-- The columns from 3840 on of the reordered input projection. -/
theorem w1_ks (c : Dev nD) (t : Fin cfg0.N) (k : Fin 2048) (j : Fin 128) :
    (iblk m c 2 t : Vec Ideal S2048x4224 .bf16) (ix2 k ⟨3840 + j.val, by omega⟩) = W m c (ix3 0 k ⟨2368 + j.val, by omega⟩) :=
  (w1_blk m c t k _).trans ((w1of_at _ _).trans ((cols_ks _ _ _ _ _ _ _ _ _ _ _ k j).trans (colsKs_at (W m c) k j)))

/-- The columns from 3968 on of the reordered input projection. -/
theorem w1_vs (c : Dev nD) (t : Fin cfg0.N) (k : Fin 2048) (j : Fin 128) :
    (iblk m c 2 t : Vec Ideal S2048x4224 .bf16) (ix2 k ⟨3968 + j.val, by omega⟩) = W m c (ix3 0 k ⟨2496 + j.val, by omega⟩) :=
  (w1_blk m c t k _).trans ((w1of_at _ _).trans ((cols_vs _ _ _ _ _ _ _ _ _ _ _ k j).trans (colsVs_at (W m c) k j)))

/-- The columns from 4096 on of the reordered input projection. -/
theorem w1_pe (c : Dev nD) (t : Fin cfg0.N) (k : Fin 2048) (j : Fin 64) :
    (iblk m c 2 t : Vec Ideal S2048x4224 .bf16) (ix2 k ⟨4096 + j.val, by omega⟩) = W m c (ix3 0 k ⟨768 + j.val, by omega⟩) :=
  (w1_blk m c t k _).trans ((w1of_at _ _).trans ((cols_pe _ _ _ _ _ _ _ _ _ _ _ k j).trans (colsPe_at (W m c) k j)))

/-- The exchanged columns, negated. -/
theorem w1_r1 (c : Dev nD) (t : Fin cfg0.N) (k : Fin 2048) (j : Fin 32) :
    (iblk m c 2 t : Vec Ideal S2048x4224 .bf16) (ix2 k ⟨4160 + j.val, by omega⟩) = -W m c (ix3 0 k ⟨800 + j.val, by omega⟩) := by
  refine (w1_blk m c t k _).trans ((w1of_at _ _).trans (Eq.trans (b := colsRot (colsPe (W m c)) (ix2 k ⟨j.val, by omega⟩)) ?_ ?_))
  · refine Eq.trans ?_ (cols_rt (colsCq (W m c)) (colsCkv (W m c)) (colsQs (W m c)) (colsQm (W m c)) (colsZm (W m c)) (colsZs (W m c)) (colsZr (W m c)) (colsKs (W m c)) (colsVs (W m c)) (colsPe (W m c)) (colsRot (colsPe (W m c))) k ⟨j.val, by omega⟩)
    exact congrArg (fun q => cols (colsCq (W m c)) (colsCkv (W m c)) (colsQs (W m c)) (colsQm (W m c)) (colsZm (W m c)) (colsZs (W m c)) (colsZr (W m c)) (colsKs (W m c)) (colsVs (W m c)) (colsPe (W m c)) (colsRot (colsPe (W m c))) (ix2 k q)) (Fin.ext (by show 4160 + j.val = 4160 + (j.val); omega))
  · rw [colsRot_1, colsPe_at]
    exact congrArg (fun q => -W m c (ix3 0 k q)) (Fin.ext (by show 768 + (32 + j.val) = 800 + j.val; omega))

/-- The exchanged columns, kept. -/
theorem w1_r2 (c : Dev nD) (t : Fin cfg0.N) (k : Fin 2048) (j : Fin 32) :
    (iblk m c 2 t : Vec Ideal S2048x4224 .bf16) (ix2 k ⟨4192 + j.val, by omega⟩) = W m c (ix3 0 k ⟨768 + j.val, by omega⟩) := by
  refine (w1_blk m c t k _).trans ((w1of_at _ _).trans (Eq.trans (b := colsRot (colsPe (W m c)) (ix2 k ⟨32 + j.val, by omega⟩)) ?_ ?_))
  · refine Eq.trans ?_ (cols_rt (colsCq (W m c)) (colsCkv (W m c)) (colsQs (W m c)) (colsQm (W m c)) (colsZm (W m c)) (colsZs (W m c)) (colsZr (W m c)) (colsKs (W m c)) (colsVs (W m c)) (colsPe (W m c)) (colsRot (colsPe (W m c))) k ⟨32 + j.val, by omega⟩)
    exact congrArg (fun q => cols (colsCq (W m c)) (colsCkv (W m c)) (colsQs (W m c)) (colsQm (W m c)) (colsZm (W m c)) (colsZs (W m c)) (colsZr (W m c)) (colsKs (W m c)) (colsVs (W m c)) (colsPe (W m c)) (colsRot (colsPe (W m c))) (ix2 k q)) (Fin.ext (by show 4192 + j.val = 4160 + (32 + j.val); omega))
  · rw [colsRot_2, colsPe_at]

/-- The reordered up-projection of the queries, the lanes from 0 on of head `h`. -/
theorem w5_p (c : Dev nD) (t : Fin cfg0.N) (k : Fin 512) (h : Fin 8) (j : Fin 128) :
    (iblk m c 5 t : Vec Ideal S512x2048 .bf16) (ix2 k ⟨256 * h.val + (j.val), by omega⟩) = Uq m c (ix3 0 k ⟨h.val * 192 + (j.val), by omega⟩) := by
  refine (w5_blk m c t k _).trans ?_
  unfold w5of
  refine (headsFlat_at _ k h ⟨j.val, by omega⟩).trans ((headsCat_at _ _ _ k h _).trans ?_)
  dsimp only
  rw [dif_pos (show j.val < 128 by omega), headsPl_at, heads_at]

/-- The reordered up-projection of the queries, the lanes from 128 on of head `h`. -/
theorem w5_r (c : Dev nD) (t : Fin cfg0.N) (k : Fin 512) (h : Fin 8) (j : Fin 64) :
    (iblk m c 5 t : Vec Ideal S512x2048 .bf16) (ix2 k ⟨256 * h.val + (128 + j.val), by omega⟩) = Uq m c (ix3 0 k ⟨h.val * 192 + (128 + j.val), by omega⟩) := by
  refine (w5_blk m c t k _).trans ?_
  unfold w5of
  refine (headsFlat_at _ k h ⟨128 + j.val, by omega⟩).trans ((headsCat_at _ _ _ k h _).trans ?_)
  dsimp only
  rw [dif_neg (show ¬128 + j.val < 128 by omega), dif_pos (show 128 + j.val - 128 < 64 by omega), headsPe_at, heads_at]
  exact congrArg (fun q => Uq m c (ix3 0 k q)) (Fin.ext (by show h.val * 192 + (128 + (128 + j.val - 128)) = h.val * 192 + (128 + j.val); omega))

/-- The reordered up-projection of the queries, the lanes from 192 on of head `h`. -/
theorem w5_r1 (c : Dev nD) (t : Fin cfg0.N) (k : Fin 512) (h : Fin 8) (j : Fin 32) :
    (iblk m c 5 t : Vec Ideal S512x2048 .bf16) (ix2 k ⟨256 * h.val + (192 + j.val), by omega⟩) = -Uq m c (ix3 0 k ⟨h.val * 192 + (160 + j.val), by omega⟩) := by
  refine (w5_blk m c t k _).trans ?_
  unfold w5of
  refine (headsFlat_at _ k h ⟨192 + j.val, by omega⟩).trans ((headsCat_at _ _ _ k h _).trans ?_)
  dsimp only
  rw [dif_neg (show ¬192 + j.val < 128 by omega), dif_neg (show ¬192 + j.val - 128 < 64 by omega), show (⟨192 + j.val - 128 - 64, by omega⟩ : Fin 64) = ⟨j.val, by omega⟩ from Fin.ext (by show 192 + j.val - 128 - 64 = j.val; omega), headsRot_1, headsPe_at, heads_at]
  exact congrArg (fun q => -Uq m c (ix3 0 k q)) (Fin.ext (by show h.val * 192 + (128 + (32 + j.val)) = h.val * 192 + (160 + j.val); omega))

/-- The reordered up-projection of the queries, the lanes from 224 on of head `h`. -/
theorem w5_r2 (c : Dev nD) (t : Fin cfg0.N) (k : Fin 512) (h : Fin 8) (j : Fin 32) :
    (iblk m c 5 t : Vec Ideal S512x2048 .bf16) (ix2 k ⟨256 * h.val + (224 + j.val), by omega⟩) = Uq m c (ix3 0 k ⟨h.val * 192 + (128 + j.val), by omega⟩) := by
  refine (w5_blk m c t k _).trans ?_
  unfold w5of
  refine (headsFlat_at _ k h ⟨224 + j.val, by omega⟩).trans ((headsCat_at _ _ _ k h _).trans ?_)
  dsimp only
  rw [dif_neg (show ¬224 + j.val < 128 by omega), dif_neg (show ¬224 + j.val - 128 < 64 by omega), show (⟨224 + j.val - 128 - 64, by omega⟩ : Fin 64) = ⟨32 + j.val, by omega⟩ from Fin.ext (by show 224 + j.val - 128 - 64 = 32 + j.val; omega), headsRot_2, headsPe_at, heads_at]

end Cert.ProjIdeal.Hand

end
-- ==== Proof.ProjReal.lean ====
/- Which values of the input projections are reals, and the rotation with its signs in the weights. -/
module

public import proofs.«01_k».proof.Proof.ProjPay
public import proofs.«01_k».proof.Proof.ProjRef

@[expose] public section

set_option maxRecDepth 16384

noncomputable section

namespace Cert.ProjIdeal.Hand

open Cert.ProjIdeal Cert.ProjIdeal.Gen Idealize.ShloMosaic Idealize.ShloMosaic.TcCoe Idealize.SL.Sem

/-- A value that is a real number. -/
def IsReal (x : EReal) : Prop := ∃ r : ℝ, x = (r : EReal)

/-- A sum of reals, summed as reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A product of reals. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A sum of reals. -/
theorem IsReal.sum {ι : Type*} [Fintype ι] {f : ι → EReal} (h : ∀ i, IsReal (f i)) : IsReal (∑ i, f i) := by
  choose g hg using h
  exact ⟨∑ i, g i, by rw [coe_sum]; exact Finset.sum_congr rfl fun i _ => hg i⟩

/-- The norms' widths are positive. -/
theorem width_pos : (∃ a : ℝ, 0 < a ∧ Ideal.ofBits .f32 0x45000000#32 = (a : EReal)) ∧ (∃ a : ℝ, 0 < a ∧ Ideal.ofBits .f32 0x44000000#32 = (a : EReal)) := by
  simp only [Ideal.ofBits, Ideal.ieee]
  refine ⟨⟨_, ?_, rfl⟩, ⟨_, ?_, rfl⟩⟩
  · simp
  · simp

/-- The norms' small term is positive. -/
theorem eps_pos : ∃ a : ℝ, 0 < a ∧ Ideal.ofBits .f32 0x358637BD#32 = (a : EReal) := by
  simp only [Ideal.ofBits, Ideal.ieee]
  refine ⟨_, ?_, rfl⟩
  simp

/-- A norm of reals is real. -/
theorem rms_real {n : ℕ} (c : BitVec 32) (hc : ∃ a : ℝ, 0 < a ∧ Ideal.ofBits .f32 c = (a : EReal)) (x g : Fin n → EReal)
    (hx : ∀ k, IsReal (x k)) (hg : ∀ k, IsReal (g k)) (k : Fin n) : IsReal (rms c x g k) := by
  refine IsReal.mul (IsReal.mul (hx k) ?_) (hg k)
  obtain ⟨a, ha, hc⟩ := hc
  obtain ⟨e, he, hee⟩ := eps_pos
  choose x' hx' using hx
  have hs : (∑ k, x k * x k) = ((∑ k, x' k * x' k : ℝ) : EReal) := by
    rw [coe_sum]
    exact Finset.sum_congr rfl fun i _ => by rw [hx' i, ← EReal.coe_mul]
  have h0 : 0 ≤ ∑ k, x' k * x' k := Finset.sum_nonneg fun i _ => mul_self_nonneg _
  have hd : Ideal.div (∑ k, x k * x k) (Ideal.ofBits .f32 c) = (((∑ k, x' k * x' k) * a⁻¹ : ℝ) : EReal) := by
    rw [hs, hc]
    unfold Ideal.div
    rw [if_neg (by exact_mod_cast ha.ne'), ← EReal.coe_inv, ← EReal.coe_mul]
  rw [hd, hee, ← EReal.coe_add]
  have hp : 0 < (∑ k, x' k * x' k) * a⁻¹ + e := add_pos_of_nonneg_of_pos (mul_nonneg h0 (inv_nonneg.2 ha.le)) he
  refine ⟨(Real.sqrt ((∑ k, x' k * x' k) * a⁻¹ + e))⁻¹, ?_⟩
  show (if _ then _ else _) = _
  rw [if_neg (not_lt.2 hp.le), if_neg hp.ne']

/-- A product with negated weights is the negated product. -/
theorem sum_neg {ι : Type*} [Fintype ι] (h w : ι → EReal) (hh : ∀ i, IsReal (h i)) (hw : ∀ i, IsReal (w i)) :
    ∑ i, h i * -(w i) = -∑ i, h i * w i := by
  choose h' hh using hh
  choose w' hw using hw
  have e1 : ∀ i, h i * -(w i) = ((-(h' i * w' i) : ℝ) : EReal) := fun i => by rw [hh i, hw i, ← EReal.coe_neg, ← EReal.coe_mul, mul_neg]
  have e2 : ∀ i, h i * w i = ((h' i * w' i : ℝ) : EReal) := fun i => by rw [hh i, hw i, ← EReal.coe_mul]
  rw [Finset.sum_congr rfl fun i _ => e1 i, Finset.sum_congr rfl fun i _ => e2 i, ← coe_sum, ← coe_sum, ← EReal.coe_neg,
    Finset.sum_neg_distrib]

/-- The rotation of lanes whose other half holds them exchanged and with the sign is the rotation. -/
theorem rotP_eq (p C S : Fin 128 → EReal) (u : Fin 64 → EReal) (cs sn : Fin 32 → EReal)
    (h0 : ∀ j : Fin 64, p ⟨j.val, by omega⟩ = u j) (h1 : ∀ j : Fin 32, p ⟨64 + j.val, by omega⟩ = -u ⟨32 + j.val, by omega⟩)
    (h2 : ∀ j : Fin 32, p ⟨96 + j.val, by omega⟩ = u ⟨j.val, by omega⟩)
    (c0 : ∀ j : Fin 32, C ⟨j.val, by omega⟩ = cs j) (c1 : ∀ j : Fin 32, C ⟨32 + j.val, by omega⟩ = cs j) (c2 : ∀ j : Fin 64, C ⟨64 + j.val, by omega⟩ = 0)
    (s0 : ∀ j : Fin 32, S ⟨j.val, by omega⟩ = sn j) (s1 : ∀ j : Fin 32, S ⟨32 + j.val, by omega⟩ = sn j) (s2 : ∀ j : Fin 64, S ⟨64 + j.val, by omega⟩ = 0)
    (e : Fin 128) : rotP p C S e = if h : e.val < 64 then Cert.ProjRefIdeal.Hand.rot u cs sn ⟨e.val, h⟩ else 0 := by
  unfold rotP Cert.ProjRefIdeal.Hand.rot
  by_cases h : e.val < 32
  · have hm : (e.val + 128 - 64) % 128 = 64 + e.val := by omega
    have k0 := h0 ⟨e.val, by omega⟩
    have k1 := h1 ⟨e.val, h⟩
    have kc := c0 ⟨e.val, h⟩
    have ks := s0 ⟨e.val, h⟩
    rw [dif_pos (show e.val < 64 by omega), dif_pos h]
    rw [show (⟨(e.val + 128 - 64) % 128, by omega⟩ : Fin 128) = ⟨64 + e.val, by omega⟩ from Fin.ext hm]
    rw [k1, show p e = _ from k0, show C e = _ from kc, show S e = _ from ks, EReal.neg_mul, sub_eq_add_neg]
  · by_cases h' : e.val < 64
    · have k0 := h0 ⟨e.val, h'⟩
      have k2 := h2 ⟨e.val - 32, by omega⟩
      have kc := c1 ⟨e.val - 32, by omega⟩
      have ks := s1 ⟨e.val - 32, by omega⟩
      rw [dif_pos h', dif_neg h]
      rw [show (⟨(e.val + 128 - 64) % 128, by omega⟩ : Fin 128) = ⟨96 + (e.val - 32), by omega⟩ from Fin.ext (by show (e.val + 128 - 64) % 128 = 96 + (e.val - 32); omega)]
      rw [show (⟨32 + (e.val - 32), by omega⟩ : Fin 128) = e from Fin.ext (by show 32 + (e.val - 32) = e.val; omega)] at kc ks
      rw [k2, show p e = _ from k0, kc, ks]
      congr 2
      exact congrArg u (Fin.ext (by show e.val = 32 + (e.val - 32); omega))
    · have kc := c2 ⟨e.val - 64, by omega⟩
      have ks := s2 ⟨e.val - 64, by omega⟩
      rw [show (⟨64 + (e.val - 64), by omega⟩ : Fin 128) = e from Fin.ext (by show 64 + (e.val - 64) = e.val; omega)] at kc ks
      rw [dif_neg h', kc, ks, mul_zero, mul_zero, add_zero]

end Cert.ProjIdeal.Hand

end
-- ==== Proof.ProjRes.lean ====
/- The results of the input projections' reference, in terms of its parts. -/
module

public import proofs.«01_k».proof.Proof.ProjRef

@[expose] public section

set_option maxRecDepth 16384

noncomputable section

namespace Cert.ProjRefIdeal.Hand

open Cert.ProjRefIdeal Cert.ProjRefIdeal.Gen Idealize.ShloMosaic Idealize.ShloMosaic.TcCoe Idealize.SL.Sem

variable (m : (ℓ : Loc nD τ sig) → Buf (Elt Ideal) ℓ) (c : Dev nD)

/-- The projections. -/
def linA (x : FVec Ideal S2x4096x2048 .f32) (g : FVec Ideal S1x2048 .f32) (w : FVec Ideal S1x2048x4160 .f32) : FVec Ideal S2x4096x4160 .f32 := lin (hid x g) w

/-- The heads' queries. -/
def upQA (l : FVec Ideal S2x4096x4160 .f32) (g : FVec Ideal S1x512 .f32) (w : FVec Ideal S1x512x1536 .f32) : FVec Ideal S2x4096x1536 .f32 := upQ (normQ (sliceQ l) g) w

/-- The heads' keys and values. -/
def upKA (l : FVec Ideal S2x4096x4160 .f32) (g : FVec Ideal S1x256 .f32) (w : FVec Ideal S1x256x2048 .f32) : FVec Ideal S2x4096x2048 .f32 := upK (normK (sliceK l) g) w

/-- The queries are the reference's first result. -/
theorem resQ_eq : Value.res_main_v129 m c = resQ (upQA (linA (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg5))) (ropeQ (peQ (upQA (linA (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg5)))) (Host.cos ang) (Host.sin ang)) := by
  unfold Value.res_main_v129 resQ flatten catQ cat ropeQ peQ pad upQA upQ normQ sliceQ linA lin hid ang
  rfl

/-- The keys are the reference's second result. -/
theorem resK_eq : Value.res_main_v130 m c = resK (upKA (linA (m ((c.tc : Thread nD τ).loc main_arg0)) (m ((c.tc : Thread nD τ).loc main_arg1)) (m ((c.tc : Thread nD τ).loc main_arg2))) (m ((c.tc : Thread nD τ).loc main_arg4)) (m ((c.tc : Thread nD τ).loc main_arg6))) (ropeK (peK (linA (m ((c.tc : Thread nD τ).loc main_arg0)) (m ((c.tc : Thread nD τ).loc main_arg1)) (m ((c.tc : Thread nD τ).loc main_arg2)))) (Host.cos ang) (Host.sin ang)) := by
  unfold Value.res_main_v130 resK flatten catK cat ropeK peK pad upKA upK normK sliceK linA lin hid ang
  rfl

/-- The values are the reference's third result. -/
theorem resV_eq : Value.res_main_v131 m c = resV (upKA (linA (m ((c.tc : Thread nD τ).loc main_arg0)) (m ((c.tc : Thread nD τ).loc main_arg1)) (m ((c.tc : Thread nD τ).loc main_arg2))) (m ((c.tc : Thread nD τ).loc main_arg4)) (m ((c.tc : Thread nD τ).loc main_arg6))) := by
  unfold Value.res_main_v131 resV upKA upK normK sliceK linA lin hid
  rfl

end Cert.ProjRefIdeal.Hand

end
-- ==== Proof.ProjRefLin.lean ====
/- The norms and products of the input projections' reference, each read at one element. -/
module

public import proofs.«01_k».proof.Proof.ProjRef
public import Idealize.ShloMosaic.Lib.Pipeline.ValueKit
public import Idealize.ShloMosaic.Lib.Pointwise
public import Idealize.ShloMosaic.Lib.IdealHost

@[expose] public section

set_option maxRecDepth 16384

noncomputable section

namespace Cert.ProjRefIdeal.Hand

open Cert.ProjRefIdeal Cert.ProjRefIdeal.Gen Idealize.ShloMosaic Idealize.ShloMosaic.TcCoe Idealize.SL.Sem

/-- The normed input at one element. -/
theorem hid_at (x : FVec Ideal S2x4096x2048 .f32) (g : FVec Ideal S1x2048 .f32) (b : Fin 2) (r : Fin 4096) (k : Fin 2048) :
    hid x g (ix3 b r k) = x (ix3 b r k) * Ideal.rsqrt (Ideal.div (∑ k, x (ix3 b r k) * x (ix3 b r k)) (Ideal.ofBits .f32 0x45000000#32) + Ideal.ofBits .f32 0x358637BD#32) * g (ix2 0 k) := by
  pointwise [hid]

/-- A projection at one element. -/
theorem lin_at (h : FVec Ideal S2x4096x2048 .f32) (w : FVec Ideal S1x2048x4160 .f32) (b : Fin 2) (r : Fin 4096) (n : Fin 4160) :
    lin h w (ix3 b r n) = ∑ k, h (ix3 b r k) * w (ix3 0 k n) := by
  pointwise [lin]

/-- The queries' normed latent at one element. -/
theorem normQ_at (x : FVec Ideal S2x4096x512 .f32) (g : FVec Ideal S1x512 .f32) (b : Fin 2) (r : Fin 4096) (k : Fin 512) :
    normQ x g (ix3 b r k) = x (ix3 b r k) * Ideal.rsqrt (Ideal.div (∑ k, x (ix3 b r k) * x (ix3 b r k)) (Ideal.ofBits .f32 0x44000000#32) + Ideal.ofBits .f32 0x358637BD#32) * g (ix2 0 k) := by
  pointwise [normQ]

/-- The keys' and values' normed latent at one element. -/
theorem normK_at (x : FVec Ideal S2x4096x256 .f32) (g : FVec Ideal S1x256 .f32) (b : Fin 2) (r : Fin 4096) (k : Fin 256) :
    normK x g (ix3 b r k) = x (ix3 b r k) * Ideal.rsqrt (Ideal.div (∑ k, x (ix3 b r k) * x (ix3 b r k)) (Ideal.ofBits .f32 0x43800000#32) + Ideal.ofBits .f32 0x358637BD#32) * g (ix2 0 k) := by
  pointwise [normK]

/-- The heads' queries at one element. -/
theorem upQ_at (h : FVec Ideal S2x4096x512 .f32) (w : FVec Ideal S1x512x1536 .f32) (b : Fin 2) (r : Fin 4096) (n : Fin 1536) :
    upQ h w (ix3 b r n) = ∑ k, h (ix3 b r k) * w (ix3 0 k n) := by
  pointwise [upQ]

/-- The heads' keys and values at one element. -/
theorem upK_at (h : FVec Ideal S2x4096x256 .f32) (w : FVec Ideal S1x256x2048 .f32) (b : Fin 2) (r : Fin 4096) (n : Fin 2048) :
    upK h w (ix3 b r n) = ∑ k, h (ix3 b r k) * w (ix3 0 k n) := by
  pointwise [upK]

end Cert.ProjRefIdeal.Hand

end
-- ==== Proof.ProjRefRot.lean ====
/- The rotations of the input projections' reference, read at one element. -/
module

public import proofs.«01_k».proof.Proof.ProjRef
public import Idealize.ShloMosaic.Lib.Pipeline.ValueKit
public import Idealize.ShloMosaic.Lib.Pointwise
public import Idealize.ShloMosaic.Lib.IdealHost

@[expose] public section

set_option maxRecDepth 16384

noncomputable section

namespace Cert.ProjRefIdeal.Hand

open Cert.ProjRefIdeal Cert.ProjRefIdeal.Gen Idealize.ShloMosaic Idealize.ShloMosaic.TcCoe Idealize.SL.Sem

/-- The lanes to rotate, at one element. -/
theorem peQ_at (u : FVec Ideal S2x4096x1536 .f32) (b : Fin 2) (r : Fin 4096) (h : Fin 8) (j : Fin 64) :
    peQ u (ix4 b r h j) = u (ix3 b r ⟨h.val * 192 + (128 + j.val), by omega⟩) := by
  pointwise [peQ]

/-- The rotated lanes at one element. -/
theorem ropeQ_at (p : FVec Ideal S2x4096x8x64 .f32) (C S : FVec Ideal S4096x32 .f32) (b : Fin 2) (r : Fin 4096) (h : Fin 8) (e : Fin 64) :
    ropeQ p C S (ix4 b r h e) = rot (fun j => p (ix4 b r h j)) (fun j => C (ix2 r j)) (fun j => S (ix2 r j)) e := by
  unfold rot
  pointwise [ropeQ]

/-- The rotated lanes of the keys at one element. -/
theorem ropeK_at (p : FVec Ideal S2x4096x64 .f32) (C S : FVec Ideal S4096x32 .f32) (b : Fin 2) (r : Fin 4096) (e : Fin 64) :
    ropeK p C S (ix3 b r e) = rot (fun j => p (ix3 b r j)) (fun j => C (ix2 r j)) (fun j => S (ix2 r j)) e := by
  unfold rot
  pointwise [ropeK]

/-- The keys' lanes to rotate, at one element. -/
theorem peK_at (l : FVec Ideal S2x4096x4160 .f32) (b : Fin 2) (r : Fin 4096) (j : Fin 64) :
    peK l (ix3 b r j) = l (ix3 b r ⟨768 + j.val, by omega⟩) := by
  pointwise [peK]

end Cert.ProjRefIdeal.Hand

end
-- ==== Proof.ProjRefHead.lean ====
/- The heads of the input projections' reference, read at one element. -/
module

public import proofs.«01_k».proof.Proof.ProjRef
public import Idealize.ShloMosaic.Lib.Pipeline.ValueKit
public import Idealize.ShloMosaic.Lib.Pointwise
public import Idealize.ShloMosaic.Lib.IdealHost

@[expose] public section

set_option maxRecDepth 16384

noncomputable section

namespace Cert.ProjRefIdeal.Hand

open Cert.ProjRefIdeal Cert.ProjRefIdeal.Gen Idealize.ShloMosaic Idealize.ShloMosaic.TcCoe Idealize.SL.Sem

/-- The heads' lanes laid end to end, at one element. -/
theorem flat_at (X : FVec Ideal S2x4096x8x256 .f32) (h : S2x4096x8x256.ShapeCasts S2x4096x2048) (b : Fin 2) (r : Fin 4096) (n : Fin 2048) :
    shapeCast S2x4096x2048 X h (ix3 b r n) = X (ix4 b r ⟨n.val / 256, by omega⟩ ⟨n.val % 256, by omega⟩) := by
  refine Idealize.ShloMosaic.shapeCast_apply X h _ _ ?_
  rw [Shape.rowMajor_val_four, Shape.rowMajor_val_three]
  show ((b.val * 4096 + r.val) * 8 + n.val / 256) * 256 + n.val % 256 = (b.val * 4096 + r.val) * 2048 + n.val
  omega

/-- The rounded lanes laid end to end, at one element. -/
theorem flatten_at (X : FVec Ideal S2x4096x8x256 .f32) (b : Fin 2) (r : Fin 4096) (n : Fin 2048) :
    flatten X (ix3 b r n) = X (ix4 b r ⟨n.val / 256, by omega⟩ ⟨n.val % 256, by omega⟩) :=
  flat_at X _ b r n

/-- Head by head, what lies side by side, at one element. -/
theorem cat_at (a : FVec Ideal S2x4096x8x128 .f32) (p z : FVec Ideal S2x4096x8x64 .f32) (b : Fin 2) (r : Fin 4096) (h : Fin 8) (e : Fin 256) :
    cat a p z (ix4 b r h e) = if h' : e.val < 128 then a (ix4 b r h ⟨e.val, h'⟩)
      else if h' : e.val - 128 < 64 then p (ix4 b r h ⟨e.val - 128, h'⟩) else z (ix4 b r h ⟨e.val - 128 - 64, by omega⟩) := by
  pointwise [cat]

/-- Head by head, the queries at one element. -/
theorem catQ_at (u : FVec Ideal S2x4096x1536 .f32) (p : FVec Ideal S2x4096x8x64 .f32) (b : Fin 2) (r : Fin 4096) (h : Fin 8) (e : Fin 256) :
    catQ u p (ix4 b r h e) = if h' : e.val < 128 then u (ix3 b r ⟨h.val * 192 + e.val, by omega⟩)
      else if h' : e.val - 128 < 64 then p (ix4 b r h ⟨e.val - 128, h'⟩) else 0 := by
  unfold catQ
  rw [cat_at]
  pointwise [pad]

/-- The queries at one element. -/
theorem resQ_at (u : FVec Ideal S2x4096x1536 .f32) (p : FVec Ideal S2x4096x8x64 .f32) (b : Fin 2) (r : Fin 4096) (n : Fin 2048) :
    resQ u p (ix3 b r n) = catQ u p (ix4 b r ⟨n.val / 256, by omega⟩ ⟨n.val % 256, by omega⟩) := by
  unfold resQ
  exact flatten_at (catQ u p) b r n

/-- Head by head, the keys at one element. -/
theorem catK_at (v : FVec Ideal S2x4096x2048 .f32) (p : FVec Ideal S2x4096x64 .f32) (b : Fin 2) (r : Fin 4096) (h : Fin 8) (e : Fin 256) :
    catK v p (ix4 b r h e) = if h' : e.val < 128 then v (ix3 b r ⟨h.val * 256 + e.val, by omega⟩)
      else if h' : e.val - 128 < 64 then p (ix3 b r ⟨e.val - 128, h'⟩) else 0 := by
  unfold catK
  rw [cat_at]
  pointwise [pad]

/-- The keys at one element. -/
theorem resK_at (v : FVec Ideal S2x4096x2048 .f32) (p : FVec Ideal S2x4096x64 .f32) (b : Fin 2) (r : Fin 4096) (n : Fin 2048) :
    resK v p (ix3 b r n) = catK v p (ix4 b r ⟨n.val / 256, by omega⟩ ⟨n.val % 256, by omega⟩) := by
  unfold resK
  exact flatten_at (catK v p) b r n

end Cert.ProjRefIdeal.Hand

end
-- ==== Proof.ProjRefSide.lean ====
/- The other results of the input projections' reference, read at one element. -/
module

public import proofs.«01_k».proof.Proof.ProjRef
public import Idealize.ShloMosaic.Lib.Pipeline.ValueKit
public import Idealize.ShloMosaic.Lib.Pointwise
public import Idealize.ShloMosaic.Lib.IdealHost

@[expose] public section

set_option maxRecDepth 16384

noncomputable section

namespace Cert.ProjRefIdeal.Hand

open Cert.ProjRefIdeal Cert.ProjRefIdeal.Gen Idealize.ShloMosaic Idealize.ShloMosaic.TcCoe Idealize.SL.Sem

/-- The values at one element. -/
theorem resV_at (v : FVec Ideal S2x4096x2048 .f32) (b : Fin 2) (r : Fin 4096) (n : Fin 1024) :
    resV v (ix3 b r n) = v (ix3 b r ⟨n.val / 128 * 256 + (128 + n.val % 128), by omega⟩) := by
  pointwise [resV]

/-- The other two attentions' queries at one element. -/
theorem resQs_at (l : FVec Ideal S2x4096x4160 .f32) (b : Fin 2) (r : Fin 4096) (n : Fin 1024) :
    resQs l (ix3 b r n) = if h : n.val < 512 then l (ix3 b r ⟨1856 + n.val, by omega⟩) else l (ix3 b r ⟨3136 + (n.val - 512), by omega⟩) := by
  pointwise [resQs]

/-- The gates at one element. -/
theorem resZ_at (l : FVec Ideal S2x4096x4160 .f32) (b : Fin 2) (r : Fin 4096) (n : Fin 2048) :
    resZ l (ix3 b r n) = if h : n.val < 1024 then l (ix3 b r ⟨832 + n.val, by omega⟩)
      else if h : n.val - 1024 < 512 then l (ix3 b r ⟨2624 + (n.val - 1024), by omega⟩) else l (ix3 b r ⟨3648 + (n.val - 1024 - 512), by omega⟩) := by
  pointwise [resZ]

/-- The local attention's keys at one element. -/
theorem resKs_at (l : FVec Ideal S2x4096x4160 .f32) (b : Fin 2) (r : Fin 4096) (n : Fin 128) :
    resKs l (ix3 b r n) = l (ix3 b r ⟨2368 + n.val, by omega⟩) := by
  pointwise [resKs]

/-- The local attention's values at one element. -/
theorem resVs_at (l : FVec Ideal S2x4096x4160 .f32) (b : Fin 2) (r : Fin 4096) (n : Fin 128) :
    resVs l (ix3 b r n) = l (ix3 b r ⟨2496 + n.val, by omega⟩) := by
  pointwise [resVs]

end Cert.ProjRefIdeal.Hand

end
-- ==== Proof.ProjRows.lean ====
/- The rows of the input projections: what a block's products are in terms of the reference. -/
module

public import proofs.«01_k».proof.Proof.ProjBlocks
public import proofs.«01_k».proof.Proof.ProjReal
public import proofs.«01_k».proof.Proof.ProjRes
public import proofs.«01_k».proof.Proof.ProjRefLin
public import proofs.«01_k».proof.Proof.ProjRefRot
public import proofs.«01_k».proof.Proof.ProjRefHead
public import proofs.«01_k».proof.Proof.ProjRefSide
public import proofs.«01_k».proof.Proof.Gen.ProjIdeal.Value
public import Idealize.ShloMosaic.Lib.Pipeline.ValueKit
public import Idealize.ShloMosaic.Lib.Pointwise

@[expose] public section

set_option maxRecDepth 16384

noncomputable section

namespace Cert.ProjIdeal.Hand

open Cert.ProjIdeal Cert.ProjIdeal.Gen Idealize.ShloMosaic Idealize.ShloMosaic.TcCoe Idealize.SL.Sem

open Cert.ProjRefIdeal.Hand (hid lin linA sliceQ sliceK normQ normK upQ upK upQA upKA resQs resZ resKs resVs hid_at lin_at normQ_at normK_at upQ_at upK_at resQs_at resZ_at resKs_at resVs_at)

variable (m : (ℓ : Loc nD τ sig) → Buf (Elt Ideal) ℓ)

/-- A norm depends on the elements of its row and factors. -/
theorem rms_congr {n : ℕ} (c : BitVec 32) (x x' g g' : Fin n → EReal) (k : Fin n) (hx : ∀ k, x k = x' k) (hg : ∀ k, g k = g' k) : rms c x g k = rms c x' g' k := by
  rw [funext hx, funext hg]

/-- The arguments that the claim needs to be real. -/
structure Reals (c : Dev nD) : Prop where
  x : ∀ i, IsReal (X m c i)
  gi : ∀ i, IsReal (Gi m c i)
  w : ∀ i, IsReal (W m c i)
  gq : ∀ i, IsReal (Gq m c i)
  uq : ∀ i, IsReal (Uq m c i)

/-- The normed input of the reference, projected. -/
abbrev La (c : Dev nD) : FVec Ideal Cert.ProjRefIdeal.S2x4096x4160 .f32 := linA (X m c) (Gi m c) (W m c)

/-- The block's normed input. -/
abbrev h63 (c : Dev nD) (t : Fin cfg0.N) : FVec Ideal S256x2048 .bf16 := k0_pay63 (iblk m c 0 t) (iblk m c 1 t) (iblk m c 2 t) (iblk m c 3 t) (iblk m c 4 t) (iblk m c 5 t) (iblk m c 6 t) (iblk m c 7 t) (iblk m c 8 t)
/-- The block's queries' latent. -/
abbrev h66 (c : Dev nD) (t : Fin cfg0.N) : FVec Ideal S256x512 .bf16 := k0_pay66 (iblk m c 0 t) (iblk m c 1 t) (iblk m c 2 t) (iblk m c 3 t) (iblk m c 4 t) (iblk m c 5 t) (iblk m c 6 t) (iblk m c 7 t) (iblk m c 8 t)
/-- The block's keys' and values' latent. -/
abbrev h67 (c : Dev nD) (t : Fin cfg0.N) : FVec Ideal S256x256 .bf16 := k0_pay67 (iblk m c 0 t) (iblk m c 1 t) (iblk m c 2 t) (iblk m c 3 t) (iblk m c 4 t) (iblk m c 5 t) (iblk m c 6 t) (iblk m c 7 t) (iblk m c 8 t)
/-- The block's narrow projections. -/
abbrev h68 (c : Dev nD) (t : Fin cfg0.N) : FVec Ideal S256x384 .f32 := k0_pay68 (iblk m c 0 t) (iblk m c 1 t) (iblk m c 2 t) (iblk m c 3 t) (iblk m c 4 t) (iblk m c 5 t) (iblk m c 6 t) (iblk m c 7 t) (iblk m c 8 t)
/-- The block's heads' queries. -/
abbrev h70 (c : Dev nD) (t : Fin cfg0.N) : FVec Ideal S256x2048 .f32 := k0_pay70 (iblk m c 0 t) (iblk m c 1 t) (iblk m c 2 t) (iblk m c 3 t) (iblk m c 4 t) (iblk m c 5 t) (iblk m c 6 t) (iblk m c 7 t) (iblk m c 8 t)
/-- The block's heads' keys and values. -/
abbrev h71 (c : Dev nD) (t : Fin cfg0.N) : FVec Ideal S256x2048 .f32 := k0_pay71 (iblk m c 0 t) (iblk m c 1 t) (iblk m c 2 t) (iblk m c 3 t) (iblk m c 4 t) (iblk m c 5 t) (iblk m c 6 t) (iblk m c 7 t) (iblk m c 8 t)

/-- The block's normed input, as a norm of the input's row. -/
theorem h63_rms (c : Dev nD) (t : Fin cfg0.N) (r : Fin 256) (k : Fin 2048) :
    h63 m c t (ix2 r k) = rms 0x45000000#32 (fun k => X m c (ix3 (bt t) (row t r) k)) (fun k => Gi m c (ix2 0 k)) k := by
  unfold h63 k0_pay63
  refine (pay2_at _ _ r k).trans ?_
  rw [show (fun k : Fin 2048 => (View.ld (iblk m c 0 t : Vec Ideal S1x256x2048 .f32) r0_0 : Vec Ideal S1x256x2048 .f32) (ix3 0 r k)) = fun k => X m c (ix3 (bt t) (row t r) k) from funext fun k => x_blk m c t r k,
    show (fun k : Fin 2048 => (View.ld (iblk m c 1 t : Vec Ideal S1x2048 .f32) r0_1 : Vec Ideal S1x2048 .f32) (ix2 0 k)) = fun k => Gi m c (ix2 0 k) from funext fun k => gi_blk m c t k]

/-- The block's normed input is the reference's. -/
theorem h63_eq (c : Dev nD) (t : Fin cfg0.N) (r : Fin 256) (k : Fin 2048) :
    h63 m c t (ix2 r k) = hid (X m c) (Gi m c) (ix3 (bt t) (row t r) k) :=
  (h63_rms m c t r k).trans (hid_at (X m c) (Gi m c) (bt t) (row t r) k).symm

/-- The block's normed input is real. -/
theorem h63_real (c : Dev nD) (H : Reals m c) (t : Fin cfg0.N) (r : Fin 256) (k : Fin 2048) : IsReal (h63 m c t (ix2 r k)) := by
  rw [h63_rms]
  exact rms_real _ width_pos.1 _ _ (fun k => H.x _) (fun k => H.gi _) k

/-- A column of a product with the projection. -/
theorem col (c : Dev nD) (t : Fin cfg0.N) (r : Fin 256) (f : Fin 2048 → EReal) (n : Fin 4160) (hf : ∀ k, f k = W m c (ix3 0 k n)) :
    ∑ k, h63 m c t (ix2 r k) * f k = La m c (ix3 (bt t) (row t r) n) := by
  unfold La linA
  rw [lin_at]
  exact Finset.sum_congr rfl fun k _ => by rw [h63_eq, hf]

/-- A column of a product with the negated projection. -/
theorem col_neg (c : Dev nD) (H : Reals m c) (t : Fin cfg0.N) (r : Fin 256) (f : Fin 2048 → EReal) (n : Fin 4160) (hf : ∀ k, f k = -W m c (ix3 0 k n)) :
    ∑ k, h63 m c t (ix2 r k) * f k = -La m c (ix3 (bt t) (row t r) n) := by
  rw [← col m c t r (fun k => W m c (ix3 0 k n)) n fun _ => rfl, ← sum_neg _ _ (fun k => h63_real m c H t r k) fun k => H.w _]
  exact Finset.sum_congr rfl fun k _ => by rw [hf]

/-- The block's latents before their norms. -/
abbrev h5 (c : Dev nD) (t : Fin cfg0.N) : FVec Ideal S256x768 .f32 :=
  k0_pay5 (View.ld (iblk m c 0 t : Vec Ideal S1x256x2048 .f32) r0_0) (View.ld (iblk m c 1 t : Vec Ideal S1x2048 .f32) r0_1) (View.ld (iblk m c 2 t : Vec Ideal S2048x4224 .bf16) r0_3)

/-- The queries' latent before its norm. -/
theorem h5_q (c : Dev nD) (t : Fin cfg0.N) (r : Fin 256) (k : Fin 512) : h5 m c t (ix2 r ⟨k.val, by omega⟩) = La m c (ix3 (bt t) (row t r) ⟨k.val, by omega⟩) := by
  unfold h5
  refine (pay5_at _ _ _ r _).trans ?_
  exact col m c t r _ _ fun i => (w1_ld3 _ i _).trans (w1_via m c t i _ _ _ _ (w1_cq m c t i k) (by show 0 + k.val = 0 + k.val; rfl) (by show k.val = 0 + k.val; omega))

/-- The keys' and values' latent before its norm. -/
theorem h5_k (c : Dev nD) (t : Fin cfg0.N) (r : Fin 256) (k : Fin 256) : h5 m c t (ix2 r ⟨512 + k.val, by omega⟩) = La m c (ix3 (bt t) (row t r) ⟨512 + k.val, by omega⟩) := by
  unfold h5
  refine (pay5_at _ _ _ r _).trans ?_
  exact col m c t r _ _ fun i => (w1_ld3 _ i _).trans (w1_via m c t i _ _ _ _ (w1_ckv m c t i k) (by show 0 + (512 + k.val) = 512 + k.val; omega) rfl)

/-- The reference's queries' latent before its norm. -/
theorem sliceQ_at (l : FVec Ideal Cert.ProjRefIdeal.S2x4096x4160 .f32) (b : Fin 2) (r : Fin 4096) (k : Fin 512) : sliceQ l (ix3 b r k) = l (ix3 b r ⟨k.val, by omega⟩) := by
  pointwise [sliceQ]

/-- The reference's keys' and values' latent before its norm. -/
theorem sliceK_at (l : FVec Ideal Cert.ProjRefIdeal.S2x4096x4160 .f32) (b : Fin 2) (r : Fin 4096) (k : Fin 256) : sliceK l (ix3 b r k) = l (ix3 b r ⟨512 + k.val, by omega⟩) := by
  pointwise [sliceK]

/-- The queries' latent, as a norm. -/
theorem h66_rms (c : Dev nD) (t : Fin cfg0.N) (r : Fin 256) (k : Fin 512) :
    h66 m c t (ix2 r k) = rms 0x44000000#32 (fun k => sliceQ (La m c) (ix3 (bt t) (row t r) k)) (fun k => Gq m c (ix2 0 k)) k := by
  unfold h66 k0_pay66
  refine (pay6_at _ _ _ _ r k).trans ?_
  exact rms_congr _ _ _ _ _ k (fun k => (h5_q m c t r k).trans (sliceQ_at _ _ _ k).symm) fun k => gq_blk m c t k

/-- The queries' latent is the reference's. -/
theorem h66_eq (c : Dev nD) (t : Fin cfg0.N) (r : Fin 256) (k : Fin 512) :
    h66 m c t (ix2 r k) = normQ (sliceQ (La m c)) (Gq m c) (ix3 (bt t) (row t r) k) :=
  (h66_rms m c t r k).trans (normQ_at (sliceQ (La m c)) (Gq m c) (bt t) (row t r) k).symm

/-- The queries' latent is real. -/
theorem h66_real (c : Dev nD) (H : Reals m c) (t : Fin cfg0.N) (r : Fin 256) (k : Fin 512) : IsReal (h66 m c t (ix2 r k)) := by
  rw [h66_rms]
  refine rms_real _ width_pos.2 _ _ (fun k => ?_) (fun k => H.gq _) k
  rw [sliceQ_at, ← h5_q]
  unfold h5
  rw [show k0_pay5 (View.ld (iblk m c 0 t : Vec Ideal S1x256x2048 .f32) r0_0) (View.ld (iblk m c 1 t : Vec Ideal S1x2048 .f32) r0_1) (View.ld (iblk m c 2 t : Vec Ideal S2048x4224 .bf16) r0_3) (ix2 r ⟨k.val, by omega⟩) = _ from h5_q m c t r k,
    ← col m c t r (fun i => W m c (ix3 0 i ⟨k.val, by omega⟩)) _ fun _ => rfl]
  exact IsReal.sum fun i => (h63_real m c H t r i).mul (H.w _)

/-- The keys' and values' latent is the reference's. -/
theorem h67_eq (c : Dev nD) (t : Fin cfg0.N) (r : Fin 256) (k : Fin 256) :
    h67 m c t (ix2 r k) = normK (sliceK (La m c)) (Gk m c) (ix3 (bt t) (row t r) k) := by
  unfold h67 k0_pay67
  refine (pay7_at _ _ r k).trans (Eq.trans (b := rms 0x43800000#32 (fun k => sliceK (La m c) (ix3 (bt t) (row t r) k)) (fun k => Gk m c (ix2 0 k)) k) ?_ (normK_at (sliceK (La m c)) (Gk m c) (bt t) (row t r) k).symm)
  exact rms_congr _ _ _ _ _ k (fun k => (h5_k m c t r k).trans (sliceK_at _ _ _ k).symm) fun k => gk_blk m c t k

/-- The heads' keys and values are the reference's. -/
theorem h71_eq (c : Dev nD) (t : Fin cfg0.N) (r : Fin 256) (n : Fin 2048) :
    h71 m c t (ix2 r n) = upKA (La m c) (Gk m c) (Uk m c) (ix3 (bt t) (row t r) n) := by
  unfold h71 k0_pay71 upKA
  rw [upK_at]
  refine (pay16_at _ _ r n).trans (Finset.sum_congr rfl fun k _ => ?_)
  exact congrArg₂ (· * ·) (h67_eq m c t r k) ((ld12 _ k n).trans ((w6_blk m c t k n).trans (w6of_at _ k n)))

/-- A column of the heads' queries. -/
theorem h70_col (c : Dev nD) (t : Fin cfg0.N) (r : Fin 256) (n : Fin 2048) (n' : Fin 1536) (hf : ∀ k, (iblk m c 5 t : Vec Ideal S512x2048 .bf16) (ix2 k n) = Uq m c (ix3 0 k n')) :
    h70 m c t (ix2 r n) = upQA (La m c) (Gq m c) (Uq m c) (ix3 (bt t) (row t r) n') := by
  unfold h70 k0_pay70 upQA
  rw [upQ_at]
  refine (pay15_at _ _ r n).trans (Finset.sum_congr rfl fun k _ => ?_)
  exact congrArg₂ (· * ·) (h66_eq m c t r k) ((ld11 _ k n).trans (hf k))

/-- A negated column of the heads' queries. -/
theorem h70_neg (c : Dev nD) (H : Reals m c) (t : Fin cfg0.N) (r : Fin 256) (n : Fin 2048) (n' : Fin 1536) (hf : ∀ k, (iblk m c 5 t : Vec Ideal S512x2048 .bf16) (ix2 k n) = -Uq m c (ix3 0 k n')) :
    h70 m c t (ix2 r n) = -upQA (La m c) (Gq m c) (Uq m c) (ix3 (bt t) (row t r) n') := by
  unfold h70 k0_pay70 upQA
  rw [upQ_at]
  refine (pay15_at _ _ r n).trans (Eq.trans (b := ∑ k, h66 m c t (ix2 r k) * -Uq m c (ix3 0 k n')) (Finset.sum_congr rfl fun k _ => ?_) ?_)
  · exact congrArg₂ (· * ·) rfl ((ld11 _ k n).trans (hf k))
  · rw [sum_neg _ _ (fun k => h66_real m c H t r k) fun k => H.uq _]
    exact congrArg (fun x => -x) (Finset.sum_congr rfl fun k _ => by rw [h66_eq])

/-- The local attention's keys. -/
theorem h68_ks (c : Dev nD) (t : Fin cfg0.N) (r : Fin 256) (j : Fin 128) :
    h68 m c t (ix2 r ⟨j.val, by omega⟩) = La m c (ix3 (bt t) (row t r) ⟨2368 + j.val, by omega⟩) := by
  unfold h68 k0_pay68
  refine (pay10_at _ _ r _).trans ?_
  exact col m c t r _ _ fun i => (w1_ld9 _ i _).trans (w1_via m c t i _ _ _ _ (w1_ks m c t i j) (by show 3840 + (j.val) = 3840 + j.val; omega) rfl)

/-- The local attention's values. -/
theorem h68_vs (c : Dev nD) (t : Fin cfg0.N) (r : Fin 256) (j : Fin 128) :
    h68 m c t (ix2 r ⟨128 + j.val, by omega⟩) = La m c (ix3 (bt t) (row t r) ⟨2496 + j.val, by omega⟩) := by
  unfold h68 k0_pay68
  refine (pay10_at _ _ r _).trans ?_
  exact col m c t r _ _ fun i => (w1_ld9 _ i _).trans (w1_via m c t i _ _ _ _ (w1_vs m c t i j) (by show 3840 + (128 + j.val) = 3968 + j.val; omega) rfl)

/-- The keys' lanes to rotate. -/
theorem h68_pe (c : Dev nD) (t : Fin cfg0.N) (r : Fin 256) (j : Fin 64) :
    h68 m c t (ix2 r ⟨256 + j.val, by omega⟩) = La m c (ix3 (bt t) (row t r) ⟨768 + j.val, by omega⟩) := by
  unfold h68 k0_pay68
  refine (pay10_at _ _ r _).trans ?_
  exact col m c t r _ _ fun i => (w1_ld9 _ i _).trans (w1_via m c t i _ _ _ _ (w1_pe m c t i j) (by show 3840 + (256 + j.val) = 4096 + j.val; omega) rfl)

/-- The exchanged lanes, first half. -/
theorem h68_r1 (c : Dev nD) (H : Reals m c) (t : Fin cfg0.N) (r : Fin 256) (j : Fin 32) :
    h68 m c t (ix2 r ⟨320 + j.val, by omega⟩) = -La m c (ix3 (bt t) (row t r) ⟨800 + j.val, by omega⟩) := by
  unfold h68 k0_pay68
  refine (pay10_at _ _ r _).trans ?_
  exact col_neg m c H t r _ _ fun i => (w1_ld9 _ i _).trans (Eq.trans (congrArg (fun q => (iblk m c 2 t : Vec Ideal S2048x4224 .bf16) (ix2 i q)) (Fin.ext (by show 3840 + (320 + j.val) = 4160 + j.val; omega))) (w1_r1 m c t i j))

/-- The exchanged lanes, second half. -/
theorem h68_r2 (c : Dev nD) (t : Fin cfg0.N) (r : Fin 256) (j : Fin 32) :
    h68 m c t (ix2 r ⟨352 + j.val, by omega⟩) = La m c (ix3 (bt t) (row t r) ⟨768 + j.val, by omega⟩) := by
  unfold h68 k0_pay68
  refine (pay10_at _ _ r _).trans ?_
  exact col m c t r _ _ fun i => (w1_ld9 _ i _).trans (w1_via m c t i _ _ _ _ (w1_r2 m c t i j) (by show 3840 + (352 + j.val) = 4192 + j.val; omega) rfl)

/-- The other two attentions' queries. -/
theorem qs_blk (c : Dev nD) (t : Fin cfg0.N) (r : Fin 256) (n : Fin 1024) :
    k0_pay8 (h63 m c t) (View.ld (iblk m c 2 t : Vec Ideal S2048x4224 .bf16) r0_6) (ix3 0 r n) = resQs (La m c) (ix3 (bt t) (row t r) n) := by
  rw [resQs_at]
  refine (pay8_at _ _ r n).trans ?_
  by_cases h : n.val < 512
  · rw [dif_pos h]
    exact col m c t r _ _ fun i => (w1_ld6 _ i _).trans (w1_via m c t i _ _ _ _ (w1_qs m c t i ⟨n.val, h⟩) rfl rfl)
  · rw [dif_neg h]
    exact col m c t r _ _ fun i => (w1_ld6 _ i _).trans (w1_via m c t i _ _ _ _ (w1_qm m c t i ⟨n.val - 512, by omega⟩) (by show 768 + n.val = 1280 + (n.val - 512); omega) rfl)

/-- The gates. -/
theorem z_blk (c : Dev nD) (t : Fin cfg0.N) (r : Fin 256) (n : Fin 2048) :
    k0_pay9 (h63 m c t) (View.ld (iblk m c 2 t : Vec Ideal S2048x4224 .bf16) r0_8) (ix3 0 r n) = resZ (La m c) (ix3 (bt t) (row t r) n) := by
  rw [resZ_at]
  refine (pay9_at _ _ r n).trans ?_
  by_cases h : n.val < 1024
  · rw [dif_pos h]
    exact col m c t r _ _ fun i => (w1_ld8 _ i _).trans (w1_via m c t i _ _ _ _ (w1_zm m c t i ⟨n.val, h⟩) rfl rfl)
  · rw [dif_neg h]
    by_cases h' : n.val - 1024 < 512
    · rw [dif_pos h']
      exact col m c t r _ _ fun i => (w1_ld8 _ i _).trans (w1_via m c t i _ _ _ _ (w1_zs m c t i ⟨n.val - 1024, h'⟩) (by show 1792 + n.val = 2816 + (n.val - 1024); omega) rfl)
    · rw [dif_neg h']
      exact col m c t r _ _ fun i => (w1_ld8 _ i _).trans (w1_via m c t i _ _ _ _ (w1_zr m c t i ⟨n.val - 1024 - 512, by omega⟩) (by show 1792 + n.val = 3328 + (n.val - 1024 - 512); omega) rfl)

/-- The local attention's keys. -/
theorem ks_blk (c : Dev nD) (t : Fin cfg0.N) (r : Fin 256) (n : Fin 128) :
    k0_pay12 (k0_pay11 (h63 m c t) (View.ld (iblk m c 2 t : Vec Ideal S2048x4224 .bf16) r0_9)) (ix3 0 r n) = resKs (La m c) (ix3 (bt t) (row t r) n) := by
  rw [resKs_at]
  exact (pay12_at _ _ r n).trans (h68_ks m c t r n)

/-- The local attention's values. -/
theorem vs_blk (c : Dev nD) (t : Fin cfg0.N) (r : Fin 256) (n : Fin 128) :
    k0_pay13 (h68 m c t) (ix3 0 r n) = resVs (La m c) (ix3 (bt t) (row t r) n) := by
  rw [resVs_at]
  exact (pay13_at _ r n).trans (h68_vs m c t r n)

end Cert.ProjIdeal.Hand

end
-- ==== Proof.ProjPieces.lean ====
/- The heads' pieces stored by one block of the input projections, read at one element. -/
module

public import proofs.«01_k».proof.Proof.ProjPay

@[expose] public section

set_option maxRecDepth 16384

noncomputable section

namespace Cert.ProjIdeal.Hand

open Cert.ProjIdeal Cert.ProjIdeal.Gen Idealize.ShloMosaic Idealize.ShloMosaic.TcCoe Idealize.SL.Sem

/-- The queries' plain lanes of head 0, at one element. -/
theorem qp0_at (h : FVec Ideal S256x512 .bf16) (w : Vec Ideal S512x2048 .bf16) (r : Fin 256) (e : Fin 128) :
    k0_pay17 h w (ix3 0 r e) = (k0_pay15 h w) (ix2 r ⟨0 + e.val, by omega⟩) := by
  unfold k0_pay17
  generalize k0_pay15 h w = a
  pointwise []

/-- The queries' plain lanes of head 1, at one element. -/
theorem qp1_at (a : FVec Ideal S256x2048 .f32) (r : Fin 256) (e : Fin 128) :
    k0_pay23 a (ix3 0 r e) = a (ix2 r ⟨256 + e.val, by omega⟩) := by
  unfold k0_pay23
  pointwise []

/-- The queries' plain lanes of head 2, at one element. -/
theorem qp2_at (a : FVec Ideal S256x2048 .f32) (r : Fin 256) (e : Fin 128) :
    k0_pay29 a (ix3 0 r e) = a (ix2 r ⟨512 + e.val, by omega⟩) := by
  unfold k0_pay29
  pointwise []

/-- The queries' plain lanes of head 3, at one element. -/
theorem qp3_at (a : FVec Ideal S256x2048 .f32) (r : Fin 256) (e : Fin 128) :
    k0_pay35 (k0_pay34 a) (ix3 0 r e) = a (ix2 r ⟨768 + e.val, by omega⟩) := by
  unfold k0_pay35 k0_pay34
  pointwise []

/-- The queries' plain lanes of head 4, at one element. -/
theorem qp4_at (a : FVec Ideal S256x2048 .f32) (r : Fin 256) (e : Fin 128) :
    k0_pay40 a (ix3 0 r e) = a (ix2 r ⟨1024 + e.val, by omega⟩) := by
  unfold k0_pay40
  pointwise []

/-- The queries' plain lanes of head 5, at one element. -/
theorem qp5_at (a : FVec Ideal S256x2048 .f32) (r : Fin 256) (e : Fin 128) :
    k0_pay46 a (ix3 0 r e) = a (ix2 r ⟨1280 + e.val, by omega⟩) := by
  unfold k0_pay46
  pointwise []

/-- The queries' plain lanes of head 6, at one element. -/
theorem qp6_at (a : FVec Ideal S256x2048 .f32) (r : Fin 256) (e : Fin 128) :
    k0_pay52 a (ix3 0 r e) = a (ix2 r ⟨1536 + e.val, by omega⟩) := by
  unfold k0_pay52
  pointwise []

/-- The queries' plain lanes of head 7, at one element. -/
theorem qp7_at (a : FVec Ideal S256x2048 .f32) (r : Fin 256) (e : Fin 128) :
    k0_pay58 a (ix3 0 r e) = a (ix2 r ⟨1792 + e.val, by omega⟩) := by
  unfold k0_pay58
  pointwise []

/-- The queries' rotated lanes of head 0, at one element. -/
theorem qr0_at (C S : FVec Ideal S256x128 .f32) (h : FVec Ideal S256x512 .bf16) (w : Vec Ideal S512x2048 .bf16) (r : Fin 256) (e : Fin 128) :
    k0_pay18 C S h w (ix3 0 r e) = rotP (fun e => (k0_pay15 h w) (ix2 r ⟨128 + e.val, by omega⟩)) (fun e => C (ix2 r e)) (fun e => S (ix2 r e)) e := by
  unfold k0_pay18
  generalize k0_pay15 h w = a
  unfold rotP
  pointwise []

/-- The queries' rotated lanes of head 1, at one element. -/
theorem qr1_at (C S : FVec Ideal S256x128 .f32) (a : FVec Ideal S256x2048 .f32) (r : Fin 256) (e : Fin 128) :
    k0_pay24 C S a (ix3 0 r e) = rotP (fun e => a (ix2 r ⟨384 + e.val, by omega⟩)) (fun e => C (ix2 r e)) (fun e => S (ix2 r e)) e := by
  unfold k0_pay24
  unfold rotP
  pointwise []

/-- The queries' rotated lanes of head 2, at one element. -/
theorem qr2_at (C S : FVec Ideal S256x128 .f32) (a : FVec Ideal S256x2048 .f32) (r : Fin 256) (e : Fin 128) :
    k0_pay30 C S a (ix3 0 r e) = rotP (fun e => a (ix2 r ⟨640 + e.val, by omega⟩)) (fun e => C (ix2 r e)) (fun e => S (ix2 r e)) e := by
  unfold k0_pay30
  unfold rotP
  pointwise []

/-- The queries' rotated lanes of head 3, at one element. -/
theorem qr3_at (C S : FVec Ideal S256x128 .f32) (a : FVec Ideal S256x2048 .f32) (r : Fin 256) (e : Fin 128) :
    k0_pay36 C S a (ix3 0 r e) = rotP (fun e => a (ix2 r ⟨896 + e.val, by omega⟩)) (fun e => C (ix2 r e)) (fun e => S (ix2 r e)) e := by
  unfold k0_pay36
  unfold rotP
  pointwise []

/-- The queries' rotated lanes of head 4, at one element. -/
theorem qr4_at (C S : FVec Ideal S256x128 .f32) (a : FVec Ideal S256x2048 .f32) (r : Fin 256) (e : Fin 128) :
    k0_pay42 (k0_pay41 C S a) (ix3 0 r e) = rotP (fun e => a (ix2 r ⟨1152 + e.val, by omega⟩)) (fun e => C (ix2 r e)) (fun e => S (ix2 r e)) e := by
  unfold k0_pay42 k0_pay41
  unfold rotP
  pointwise []

/-- The queries' rotated lanes of head 5, at one element. -/
theorem qr5_at (C S : FVec Ideal S256x128 .f32) (a : FVec Ideal S256x2048 .f32) (r : Fin 256) (e : Fin 128) :
    k0_pay47 C S a (ix3 0 r e) = rotP (fun e => a (ix2 r ⟨1408 + e.val, by omega⟩)) (fun e => C (ix2 r e)) (fun e => S (ix2 r e)) e := by
  unfold k0_pay47
  unfold rotP
  pointwise []

/-- The queries' rotated lanes of head 6, at one element. -/
theorem qr6_at (C S : FVec Ideal S256x128 .f32) (a : FVec Ideal S256x2048 .f32) (r : Fin 256) (e : Fin 128) :
    k0_pay53 C S a (ix3 0 r e) = rotP (fun e => a (ix2 r ⟨1664 + e.val, by omega⟩)) (fun e => C (ix2 r e)) (fun e => S (ix2 r e)) e := by
  unfold k0_pay53
  unfold rotP
  pointwise []

/-- The queries' rotated lanes of head 7, at one element. -/
theorem qr7_at (C S : FVec Ideal S256x128 .f32) (a : FVec Ideal S256x2048 .f32) (r : Fin 256) (e : Fin 128) :
    k0_pay59 C S a (ix3 0 r e) = rotP (fun e => a (ix2 r ⟨1920 + e.val, by omega⟩)) (fun e => C (ix2 r e)) (fun e => S (ix2 r e)) e := by
  unfold k0_pay59
  unfold rotP
  pointwise []

/-- The keys' plain lanes of head 0, at one element. -/
theorem kp0_at (h : FVec Ideal S256x256 .bf16) (w : Vec Ideal S256x2048 .bf16) (r : Fin 256) (e : Fin 128) :
    k0_pay20 (k0_pay19 h w) (ix3 0 r e) = (k0_pay16 h w) (ix2 r ⟨0 + e.val, by omega⟩) := by
  unfold k0_pay20 k0_pay19
  generalize k0_pay16 h w = a
  pointwise []

/-- The keys' plain lanes of head 1, at one element. -/
theorem kp1_at (a : FVec Ideal S256x2048 .f32) (r : Fin 256) (e : Fin 128) :
    k0_pay25 a (ix3 0 r e) = a (ix2 r ⟨256 + e.val, by omega⟩) := by
  unfold k0_pay25
  pointwise []

/-- The keys' plain lanes of head 2, at one element. -/
theorem kp2_at (a : FVec Ideal S256x2048 .f32) (r : Fin 256) (e : Fin 128) :
    k0_pay31 a (ix3 0 r e) = a (ix2 r ⟨512 + e.val, by omega⟩) := by
  unfold k0_pay31
  pointwise []

/-- The keys' plain lanes of head 3, at one element. -/
theorem kp3_at (a : FVec Ideal S256x2048 .f32) (r : Fin 256) (e : Fin 128) :
    k0_pay37 a (ix3 0 r e) = a (ix2 r ⟨768 + e.val, by omega⟩) := by
  unfold k0_pay37
  pointwise []

/-- The keys' plain lanes of head 4, at one element. -/
theorem kp4_at (a : FVec Ideal S256x2048 .f32) (r : Fin 256) (e : Fin 128) :
    k0_pay43 a (ix3 0 r e) = a (ix2 r ⟨1024 + e.val, by omega⟩) := by
  unfold k0_pay43
  pointwise []

/-- The keys' plain lanes of head 5, at one element. -/
theorem kp5_at (a : FVec Ideal S256x2048 .f32) (r : Fin 256) (e : Fin 128) :
    k0_pay49 (k0_pay48 a) (ix3 0 r e) = a (ix2 r ⟨1280 + e.val, by omega⟩) := by
  unfold k0_pay49 k0_pay48
  pointwise []

/-- The keys' plain lanes of head 6, at one element. -/
theorem kp6_at (a : FVec Ideal S256x2048 .f32) (r : Fin 256) (e : Fin 128) :
    k0_pay54 a (ix3 0 r e) = a (ix2 r ⟨1536 + e.val, by omega⟩) := by
  unfold k0_pay54
  pointwise []

/-- The keys' plain lanes of head 7, at one element. -/
theorem kp7_at (a : FVec Ideal S256x2048 .f32) (r : Fin 256) (e : Fin 128) :
    k0_pay60 a (ix3 0 r e) = a (ix2 r ⟨1792 + e.val, by omega⟩) := by
  unfold k0_pay60
  pointwise []

/-- The values of head 0, at one element. -/
theorem vp0_at (a : FVec Ideal S256x2048 .f32) (r : Fin 256) (e : Fin 128) :
    k0_pay22 a (ix3 0 r e) = a (ix2 r ⟨128 + e.val, by omega⟩) := by
  unfold k0_pay22
  pointwise []

/-- The values of head 1, at one element. -/
theorem vp1_at (a : FVec Ideal S256x2048 .f32) (r : Fin 256) (e : Fin 128) :
    k0_pay28 (k0_pay27 a) (ix3 0 r e) = a (ix2 r ⟨384 + e.val, by omega⟩) := by
  unfold k0_pay28 k0_pay27
  pointwise []

/-- The values of head 2, at one element. -/
theorem vp2_at (a : FVec Ideal S256x2048 .f32) (r : Fin 256) (e : Fin 128) :
    k0_pay33 a (ix3 0 r e) = a (ix2 r ⟨640 + e.val, by omega⟩) := by
  unfold k0_pay33
  pointwise []

/-- The values of head 3, at one element. -/
theorem vp3_at (a : FVec Ideal S256x2048 .f32) (r : Fin 256) (e : Fin 128) :
    k0_pay39 a (ix3 0 r e) = a (ix2 r ⟨896 + e.val, by omega⟩) := by
  unfold k0_pay39
  pointwise []

/-- The values of head 4, at one element. -/
theorem vp4_at (a : FVec Ideal S256x2048 .f32) (r : Fin 256) (e : Fin 128) :
    k0_pay45 a (ix3 0 r e) = a (ix2 r ⟨1152 + e.val, by omega⟩) := by
  unfold k0_pay45
  pointwise []

/-- The values of head 5, at one element. -/
theorem vp5_at (a : FVec Ideal S256x2048 .f32) (r : Fin 256) (e : Fin 128) :
    k0_pay51 a (ix3 0 r e) = a (ix2 r ⟨1408 + e.val, by omega⟩) := by
  unfold k0_pay51
  pointwise []

/-- The values of head 6, at one element. -/
theorem vp6_at (a : FVec Ideal S256x2048 .f32) (r : Fin 256) (e : Fin 128) :
    k0_pay57 (k0_pay56 a) (ix3 0 r e) = a (ix2 r ⟨1664 + e.val, by omega⟩) := by
  unfold k0_pay57 k0_pay56
  pointwise []

/-- The values of head 7, at one element. -/
theorem vp7_at (a : FVec Ideal S256x2048 .f32) (r : Fin 256) (e : Fin 128) :
    k0_pay1 (k0_pay62 a) (ix3 0 r e) = a (ix2 r ⟨1920 + e.val, by omega⟩) := by
  unfold k0_pay1 k0_pay62
  pointwise []

/-- The keys' rotated lanes of head 0, at one element. -/
theorem kr0_at (a : FVec Ideal S256x128 .bf16) (r : Fin 256) (e : Fin 128) : k0_pay21 a (ix3 0 r e) = a (ix2 r e) := by
  pointwise [k0_pay21]

/-- The keys' rotated lanes of head 1, at one element. -/
theorem kr1_at (a : FVec Ideal S256x128 .bf16) (r : Fin 256) (e : Fin 128) : k0_pay26 a (ix3 0 r e) = a (ix2 r e) := by
  pointwise [k0_pay26]

/-- The keys' rotated lanes of head 2, at one element. -/
theorem kr2_at (a : FVec Ideal S256x128 .bf16) (r : Fin 256) (e : Fin 128) : k0_pay32 a (ix3 0 r e) = a (ix2 r e) := by
  pointwise [k0_pay32]

/-- The keys' rotated lanes of head 3, at one element. -/
theorem kr3_at (a : FVec Ideal S256x128 .bf16) (r : Fin 256) (e : Fin 128) : k0_pay38 a (ix3 0 r e) = a (ix2 r e) := by
  pointwise [k0_pay38]

/-- The keys' rotated lanes of head 4, at one element. -/
theorem kr4_at (a : FVec Ideal S256x128 .bf16) (r : Fin 256) (e : Fin 128) : k0_pay44 a (ix3 0 r e) = a (ix2 r e) := by
  pointwise [k0_pay44]

/-- The keys' rotated lanes of head 5, at one element. -/
theorem kr5_at (a : FVec Ideal S256x128 .bf16) (r : Fin 256) (e : Fin 128) : k0_pay50 a (ix3 0 r e) = a (ix2 r e) := by
  pointwise [k0_pay50]

/-- The keys' rotated lanes of head 6, at one element. -/
theorem kr6_at (a : FVec Ideal S256x128 .bf16) (r : Fin 256) (e : Fin 128) : k0_pay55 a (ix3 0 r e) = a (ix2 r e) := by
  pointwise [k0_pay55]

/-- The keys' rotated lanes of head 7, at one element. -/
theorem kr7_at (a : FVec Ideal S256x128 .bf16) (r : Fin 256) (e : Fin 128) : k0_pay61 a (ix3 0 r e) = a (ix2 r e) := by
  pointwise [k0_pay61]

end Cert.ProjIdeal.Hand

end
-- ==== Proof.ProjHeads.lean ====
/- The heads of the input projections: what a block's rows of queries, keys and values are in terms of the reference. -/
module

public import proofs.«01_k».proof.Proof.ProjRows
public import proofs.«01_k».proof.Proof.ProjPieces

@[expose] public section

set_option maxRecDepth 16384

noncomputable section

namespace Cert.ProjIdeal.Hand

open Cert.ProjIdeal Cert.ProjIdeal.Gen Idealize.ShloMosaic Idealize.ShloMosaic.TcCoe Idealize.SL.Sem

open Cert.ProjRefIdeal.Hand (ang rot peQ peK ropeQ ropeK catQ catK resQ resK resV upQA upKA peQ_at peK_at ropeQ_at ropeK_at catQ_at catK_at resQ_at resK_at resV_at)

variable (m : (ℓ : Loc nD τ sig) → Buf (Elt Ideal) ℓ)

/-- A table's first quarter. -/
theorem table_0 (x : FVec Ideal S4096x32 .f32) (r : Fin 4096) (j : Fin 32) : table x (ix2 r ⟨j.val, by omega⟩) = x (ix2 r j) := by
  rw [table_at, dif_pos (show j.val < 32 from j.isLt)]

/-- A table's second quarter. -/
theorem table_1 (x : FVec Ideal S4096x32 .f32) (r : Fin 4096) (j : Fin 32) : table x (ix2 r ⟨32 + j.val, by omega⟩) = x (ix2 r j) := by
  rw [table_at, dif_neg (show ¬32 + j.val < 32 by omega), dif_pos (show 32 + j.val - 32 < 32 by omega)]
  exact congrArg (fun q => x (ix2 r q)) (Fin.ext (by show 32 + j.val - 32 = j.val; omega))

/-- A table's second half. -/
theorem table_2 (x : FVec Ideal S4096x32 .f32) (r : Fin 4096) (j : Fin 64) : table x (ix2 r ⟨64 + j.val, by omega⟩) = 0 := by
  rw [table_at, dif_neg (show ¬64 + j.val < 32 by omega), dif_neg (show ¬64 + j.val - 32 < 32 by omega)]

/-- The block's cosines. -/
abbrev h64 (c : Dev nD) (t : Fin cfg0.N) : FVec Ideal S256x128 .f32 := k0_pay64 (iblk m c 0 t) (iblk m c 1 t) (iblk m c 2 t) (iblk m c 3 t) (iblk m c 4 t) (iblk m c 5 t) (iblk m c 6 t) (iblk m c 7 t) (iblk m c 8 t)

/-- The block's cosines are the table's rows. -/
theorem h64_eq (c : Dev nD) (t : Fin cfg0.N) (r : Fin 256) (e : Fin 128) : h64 m c t (ix2 r e) = table (Host.cos ang) (ix2 (row t r) e) := by
  unfold h64 k0_pay64
  exact (pay3_at _ r e).trans ((ld2 _ r e).trans (t7_blk m c t r e))

/-- The block's sines. -/
abbrev h65 (c : Dev nD) (t : Fin cfg0.N) : FVec Ideal S256x128 .f32 := k0_pay65 (iblk m c 0 t) (iblk m c 1 t) (iblk m c 2 t) (iblk m c 3 t) (iblk m c 4 t) (iblk m c 5 t) (iblk m c 6 t) (iblk m c 7 t) (iblk m c 8 t)

/-- The block's sines are the table's rows. -/
theorem h65_eq (c : Dev nD) (t : Fin cfg0.N) (r : Fin 256) (e : Fin 128) : h65 m c t (ix2 r e) = table (Host.sin ang) (ix2 (row t r) e) := by
  unfold h65 k0_pay65
  exact (pay4_at _ r e).trans ((ld2 _ r e).trans (t8_blk m c t r e))

/-- The block's keys' rotated lanes. -/
abbrev h69 (c : Dev nD) (t : Fin cfg0.N) : FVec Ideal S256x128 .bf16 := k0_pay69 (iblk m c 0 t) (iblk m c 1 t) (iblk m c 2 t) (iblk m c 3 t) (iblk m c 4 t) (iblk m c 5 t) (iblk m c 6 t) (iblk m c 7 t) (iblk m c 8 t)

/-- The heads' queries of the reference. -/
abbrev Ua (c : Dev nD) : FVec Ideal Cert.ProjRefIdeal.S2x4096x1536 .f32 := upQA (La m c) (Gq m c) (Uq m c)
/-- The heads' keys and values of the reference. -/
abbrev Va (c : Dev nD) : FVec Ideal S2x4096x2048 .f32 := upKA (La m c) (Gk m c) (Uk m c)

/-- Rotation with the block's tables: the reference's rotation, then nothing. -/
theorem rope_blk (c : Dev nD) (t : Fin cfg0.N) (r : Fin 256) (p : Fin 128 → EReal) (u : Fin 64 → EReal)
    (h0 : ∀ j : Fin 64, p ⟨j.val, by omega⟩ = u j) (h1 : ∀ j : Fin 32, p ⟨64 + j.val, by omega⟩ = -u ⟨32 + j.val, by omega⟩)
    (h2 : ∀ j : Fin 32, p ⟨96 + j.val, by omega⟩ = u ⟨j.val, by omega⟩) (e : Fin 128) :
    rotP p (fun e => h64 m c t (ix2 r e)) (fun e => h65 m c t (ix2 r e)) e
      = if h : e.val < 64 then rot u (fun j => Host.cos ang (ix2 (row t r) j)) (fun j => Host.sin ang (ix2 (row t r) j)) ⟨e.val, h⟩ else 0 := by
  have c0 : ∀ j : Fin 32, h64 m c t (ix2 r ⟨j.val, by omega⟩) = Host.cos ang (ix2 (row t r) j) := fun j => (h64_eq m c t r ⟨j.val, by omega⟩).trans (table_0 _ (row t r) j)
  have c1 : ∀ j : Fin 32, h64 m c t (ix2 r ⟨32 + j.val, by omega⟩) = Host.cos ang (ix2 (row t r) j) := fun j => (h64_eq m c t r ⟨32 + j.val, by omega⟩).trans (table_1 _ (row t r) j)
  have c2 : ∀ j : Fin 64, h64 m c t (ix2 r ⟨64 + j.val, by omega⟩) = 0 := fun j => (h64_eq m c t r ⟨64 + j.val, by omega⟩).trans (table_2 _ (row t r) j)
  have s0 : ∀ j : Fin 32, h65 m c t (ix2 r ⟨j.val, by omega⟩) = Host.sin ang (ix2 (row t r) j) := fun j => (h65_eq m c t r ⟨j.val, by omega⟩).trans (table_0 _ (row t r) j)
  have s1 : ∀ j : Fin 32, h65 m c t (ix2 r ⟨32 + j.val, by omega⟩) = Host.sin ang (ix2 (row t r) j) := fun j => (h65_eq m c t r ⟨32 + j.val, by omega⟩).trans (table_1 _ (row t r) j)
  have s2 : ∀ j : Fin 64, h65 m c t (ix2 r ⟨64 + j.val, by omega⟩) = 0 := fun j => (h65_eq m c t r ⟨64 + j.val, by omega⟩).trans (table_2 _ (row t r) j)
  generalize h64 m c t = T at c0 c1 c2 ⊢
  generalize h65 m c t = T' at s0 s1 s2 ⊢
  generalize Host.cos (F := Ideal) ang = C at c0 c1 c2 ⊢
  generalize Host.sin (F := Ideal) ang = S at s0 s1 s2 ⊢
  exact rotP_eq p (fun e => T (ix2 r e)) (fun e => T' (ix2 r e)) u (fun j => C (ix2 (row t r) j)) (fun j => S (ix2 (row t r) j)) h0 h1 h2 c0 c1 c2 s0 s1 s2 e

/-- The keys' rotated lanes. -/
theorem h69_eq (c : Dev nD) (H : Reals m c) (t : Fin cfg0.N) (r : Fin 256) (e : Fin 128) :
    h69 m c t (ix2 r e) = if h : e.val < 64 then ropeK (peK (La m c)) (Host.cos ang) (Host.sin ang) (ix3 (bt t) (row t r) ⟨e.val, h⟩) else 0 := by
  unfold h69 k0_pay69
  refine (pay14_at _ _ _ r e).trans ((rope_blk m c t r (fun e => h68 m c t (ix2 r ⟨256 + e.val, by omega⟩)) (fun j => peK (La m c) (ix3 (bt t) (row t r) j)) ?_ ?_ ?_ e).trans ?_)
  · exact fun j => (h68_pe m c t r j).trans (peK_at _ _ _ j).symm
  · refine fun j => Eq.trans (congrArg (fun q => h68 m c t (ix2 r q)) (Fin.ext (by show 256 + (64 + j.val) = 320 + j.val; omega))) ((h68_r1 m c H t r j).trans ?_)
    rw [peK_at]
    exact congrArg (fun q => -La m c (ix3 (bt t) (row t r) q)) (Fin.ext (by show 800 + j.val = 768 + (32 + j.val); omega))
  · refine fun j => Eq.trans (congrArg (fun q => h68 m c t (ix2 r q)) (Fin.ext (by show 256 + (96 + j.val) = 352 + j.val; omega))) ((h68_r2 m c t r j).trans ?_)
    rw [peK_at]
  · by_cases h : e.val < 64
    · rw [dif_pos h, dif_pos h, ropeK_at]
    · rw [dif_neg h, dif_neg h]

/-- The rotated lanes of head `h` of the queries. -/
theorem h70_rope (c : Dev nD) (H : Reals m c) (t : Fin cfg0.N) (r : Fin 256) (h : Fin 8) (f : Fin 128 → Fin 2048) (hf : ∀ e, (f e).val = 256 * h.val + (128 + e.val)) (e : Fin 128) :
    rotP (fun e => h70 m c t (ix2 r (f e))) (fun e => h64 m c t (ix2 r e)) (fun e => h65 m c t (ix2 r e)) e
      = if h' : e.val < 64 then ropeQ (peQ (Ua m c)) (Host.cos ang) (Host.sin ang) (ix4 (bt t) (row t r) h ⟨e.val, h'⟩) else 0 := by
  refine (rope_blk m c t r (fun e => h70 m c t (ix2 r (f e))) (fun j => peQ (Ua m c) (ix4 (bt t) (row t r) h j)) ?_ ?_ ?_ e).trans ?_
  · intro j
    rw [peQ_at]
    refine h70_col m c t r _ _ fun k => Eq.trans ?_ (w5_r m c t k h j)
    exact congrArg (fun q => (iblk m c 5 t : Vec Ideal S512x2048 .bf16) (ix2 k q)) (Fin.ext (hf _))
  · intro j
    rw [peQ_at]
    refine (h70_neg m c H t r _ _ fun k => Eq.trans ?_ (w5_r1 m c t k h j)).trans ?_
    · exact congrArg (fun q => (iblk m c 5 t : Vec Ideal S512x2048 .bf16) (ix2 k q)) (Fin.ext ((hf _).trans (by show 256 * h.val + (128 + (64 + j.val)) = 256 * h.val + (192 + j.val); omega)))
    · exact congrArg (fun q => -Ua m c (ix3 (bt t) (row t r) q)) (Fin.ext (by show h.val * 192 + (160 + j.val) = h.val * 192 + (128 + (32 + j.val)); omega))
  · intro j
    rw [peQ_at]
    refine h70_col m c t r _ _ fun k => Eq.trans ?_ (w5_r2 m c t k h j)
    exact congrArg (fun q => (iblk m c 5 t : Vec Ideal S512x2048 .bf16) (ix2 k q)) (Fin.ext ((hf _).trans (by show 256 * h.val + (128 + (96 + j.val)) = 256 * h.val + (224 + j.val); omega)))
  · by_cases h' : e.val < 64
    · rw [dif_pos h', dif_pos h', ropeQ_at]
    · rw [dif_neg h', dif_neg h']

/-- The reference's queries. -/
abbrev RQ (c : Dev nD) : FVec Ideal S2x4096x2048 .bf16 := resQ (Ua m c) (ropeQ (peQ (Ua m c)) (Host.cos ang) (Host.sin ang))
/-- The reference's keys. -/
abbrev RK (c : Dev nD) : FVec Ideal S2x4096x2048 .bf16 := resK (Va m c) (ropeK (peK (La m c)) (Host.cos ang) (Host.sin ang))
/-- The reference's values. -/
abbrev RV (c : Dev nD) : FVec Ideal S2x4096x1024 .bf16 := resV (Va m c)

/-- The reference's queries, lane `e` of head `h`. -/
theorem RQ_head (c : Dev nD) (b : Fin 2) (r : Fin 4096) (h : Fin 8) (e : Fin 256) (n : Fin 2048) (hn : n.val = 256 * h.val + e.val) :
    RQ m c (ix3 b r n) = catQ (Ua m c) (ropeQ (peQ (Ua m c)) (Host.cos ang) (Host.sin ang)) (ix4 b r h e) := by
  unfold RQ
  rw [resQ_at]
  rw [show (⟨n.val / 256, by omega⟩ : Fin 8) = h from Fin.ext (by show n.val / 256 = h.val; omega),
    show (⟨n.val % 256, by omega⟩ : Fin 256) = e from Fin.ext (by show n.val % 256 = e.val; omega)]

/-- The reference's keys, lane `e` of head `h`. -/
theorem RK_head (c : Dev nD) (b : Fin 2) (r : Fin 4096) (h : Fin 8) (e : Fin 256) (n : Fin 2048) (hn : n.val = 256 * h.val + e.val) :
    RK m c (ix3 b r n) = catK (Va m c) (ropeK (peK (La m c)) (Host.cos ang) (Host.sin ang)) (ix4 b r h e) := by
  unfold RK
  rw [resK_at]
  rw [show (⟨n.val / 256, by omega⟩ : Fin 8) = h from Fin.ext (by show n.val / 256 = h.val; omega),
    show (⟨n.val % 256, by omega⟩ : Fin 256) = e from Fin.ext (by show n.val % 256 = e.val; omega)]

/-- The plain lanes of head `h` of the queries. -/
theorem q_plain (c : Dev nD) (t : Fin cfg0.N) (r : Fin 256) (h : Fin 8) (e : Fin 128) (n : Fin 2048) (hn : n.val = 256 * h.val + e.val) :
    h70 m c t (ix2 r n) = RQ m c (ix3 (bt t) (row t r) n) := by
  rw [RQ_head m c _ _ h ⟨e.val, by omega⟩ n hn, catQ_at]
  rw [dif_pos (show e.val < 128 from e.isLt)]
  refine h70_col m c t r _ _ fun k => Eq.trans ?_ (w5_p m c t k h e)
  exact congrArg (fun q => (iblk m c 5 t : Vec Ideal S512x2048 .bf16) (ix2 k q)) (Fin.ext hn)

/-- The rotated lanes of head `h` of the queries are the reference's. -/
theorem q_rope (c : Dev nD) (H : Reals m c) (t : Fin cfg0.N) (r : Fin 256) (h : Fin 8) (f : Fin 128 → Fin 2048) (hf : ∀ e, (f e).val = 256 * h.val + (128 + e.val)) (e : Fin 128) (n : Fin 2048) (hn : n.val = 256 * h.val + (128 + e.val)) :
    rotP (fun e => h70 m c t (ix2 r (f e))) (fun e => h64 m c t (ix2 r e)) (fun e => h65 m c t (ix2 r e)) e = RQ m c (ix3 (bt t) (row t r) n) := by
  rw [h70_rope m c H t r h f hf e, RQ_head m c _ _ h ⟨128 + e.val, by omega⟩ n hn, catQ_at, dif_neg (show ¬128 + e.val < 128 by omega)]
  by_cases h' : e.val < 64
  · rw [dif_pos h', dif_pos (show 128 + e.val - 128 < 64 by omega)]
    exact congrArg (fun q => ropeQ (peQ (Ua m c)) (Host.cos ang) (Host.sin ang) (ix4 (bt t) (row t r) h q)) (Fin.ext (by show e.val = 128 + e.val - 128; omega))
  · rw [dif_neg h', dif_neg (show ¬128 + e.val - 128 < 64 by omega)]

/-- The plain lanes of head `h` of the keys. -/
theorem k_plain (c : Dev nD) (t : Fin cfg0.N) (r : Fin 256) (h : Fin 8) (e : Fin 128) (n : Fin 2048) (hn : n.val = 256 * h.val + e.val) :
    h71 m c t (ix2 r n) = RK m c (ix3 (bt t) (row t r) n) := by
  rw [RK_head m c _ _ h ⟨e.val, by omega⟩ n hn, catK_at, h71_eq]
  rw [dif_pos (show e.val < 128 from e.isLt)]
  exact congrArg (fun q => Va m c (ix3 (bt t) (row t r) q)) (Fin.ext (by show n.val = h.val * 256 + e.val; omega))

/-- The rotated lanes of head `h` of the keys, the same for every head. -/
theorem k_rope (c : Dev nD) (H : Reals m c) (t : Fin cfg0.N) (r : Fin 256) (h : Fin 8) (e : Fin 128) (n : Fin 2048) (hn : n.val = 256 * h.val + (128 + e.val)) :
    h69 m c t (ix2 r e) = RK m c (ix3 (bt t) (row t r) n) := by
  rw [h69_eq m c H t r e, RK_head m c _ _ h ⟨128 + e.val, by omega⟩ n hn, catK_at, dif_neg (show ¬128 + e.val < 128 by omega)]
  by_cases h' : e.val < 64
  · rw [dif_pos h', dif_pos (show 128 + e.val - 128 < 64 by omega)]
    exact congrArg (fun q => ropeK (peK (La m c)) (Host.cos ang) (Host.sin ang) (ix3 (bt t) (row t r) q)) (Fin.ext (by show e.val = 128 + e.val - 128; omega))
  · rw [dif_neg h', dif_neg (show ¬128 + e.val - 128 < 64 by omega)]

/-- The values of head `h`. -/
theorem v_plain (c : Dev nD) (t : Fin cfg0.N) (r : Fin 256) (h : Fin 8) (e : Fin 128) (n : Fin 1024) (hn : n.val = 128 * h.val + e.val) (n' : Fin 2048) (hn' : n'.val = 256 * h.val + (128 + e.val)) :
    h71 m c t (ix2 r n') = RV m c (ix3 (bt t) (row t r) n) := by
  unfold RV
  rw [resV_at, h71_eq]
  exact congrArg (fun q => Va m c (ix3 (bt t) (row t r) q)) (Fin.ext (by show n'.val = n.val / 128 * 256 + (128 + n.val % 128); omega))

end Cert.ProjIdeal.Hand

end
-- ==== Proof.ProjOut.lean ====
/- The stores of the input projections: what each output block holds. -/
module

public import proofs.«01_k».proof.Proof.ProjHeads
public import proofs.«01_k».proof.Proof.Gen.ProjIdeal.Value
public import Idealize.ShloMosaic.Lib.Pipeline.ValueKit
public import Idealize.ShloMosaic.Lib.Pointwise

@[expose] public section

set_option maxRecDepth 16384

noncomputable section

namespace Cert.ProjIdeal.Hand

open Cert.ProjIdeal Cert.ProjIdeal.Gen Idealize.ShloMosaic Idealize.ShloMosaic.TcCoe Idealize.SL.Sem

open Cert.ProjRefIdeal.Hand (resQs resZ resKs resVs)

variable (m : (ℓ : Loc nD τ sig) → Buf (Elt Ideal) ℓ)

/-- An index of a block of 128 columns, by its row and column. -/
theorem ex128 (x : S1x256x128.Idx) : ∃ (r : Fin 256) (e : Fin 128), x = ix3 0 r e :=
  ⟨x 1, x 2, by
    funext a
    match a with
    | ⟨0, _⟩ => exact Subsingleton.elim (α := Fin 1) _ _
    | ⟨1, _⟩ => rfl
    | ⟨2, _⟩ => rfl⟩

/-- An index of a block of 1024 columns, by its row and column. -/
theorem ex1024 (x : S1x256x1024.Idx) : ∃ (r : Fin 256) (e : Fin 1024), x = ix3 0 r e :=
  ⟨x 1, x 2, by
    funext a
    match a with
    | ⟨0, _⟩ => exact Subsingleton.elim (α := Fin 1) _ _
    | ⟨1, _⟩ => rfl
    | ⟨2, _⟩ => rfl⟩

/-- An index of a block of 2048 columns, by its row and column. -/
theorem ex2048 (x : S1x256x2048.Idx) : ∃ (r : Fin 256) (e : Fin 2048), x = ix3 0 r e :=
  ⟨x 1, x 2, by
    funext a
    match a with
    | ⟨0, _⟩ => exact Subsingleton.elim (α := Fin 1) _ _
    | ⟨1, _⟩ => rfl
    | ⟨2, _⟩ => rfl⟩

/-- Where the store at column 0 of 2048 puts an element. -/
theorem emb13 (r : Fin 256) (e : Fin 128) : r0_13.emb (ix3 0 r e) = (ix3 0 r ⟨0 + e.val, by omega⟩ : S1x256x2048.Idx) := by
  funext a
  match a with
  | ⟨0, _⟩ => exact Subsingleton.elim (α := Fin 1) _ _
  | ⟨1, _⟩ => exact Fin.ext (by show 0 + 1 * r.val = r.val; omega)
  | ⟨2, _⟩ => exact Fin.ext (by show 0 + 1 * e.val = 0 + e.val; omega)

/-- Where the store at column 128 of 2048 puts an element. -/
theorem emb14 (r : Fin 256) (e : Fin 128) : r0_14.emb (ix3 0 r e) = (ix3 0 r ⟨128 + e.val, by omega⟩ : S1x256x2048.Idx) := by
  funext a
  match a with
  | ⟨0, _⟩ => exact Subsingleton.elim (α := Fin 1) _ _
  | ⟨1, _⟩ => exact Fin.ext (by show 0 + 1 * r.val = r.val; omega)
  | ⟨2, _⟩ => exact Fin.ext (by show 128 + 1 * e.val = 128 + e.val; omega)

/-- Where the store at column 0 of 1024 puts an element. -/
theorem emb15 (r : Fin 256) (e : Fin 128) : r0_15.emb (ix3 0 r e) = (ix3 0 r ⟨0 + e.val, by omega⟩ : S1x256x1024.Idx) := by
  funext a
  match a with
  | ⟨0, _⟩ => exact Subsingleton.elim (α := Fin 1) _ _
  | ⟨1, _⟩ => exact Fin.ext (by show 0 + 1 * r.val = r.val; omega)
  | ⟨2, _⟩ => exact Fin.ext (by show 0 + 1 * e.val = 0 + e.val; omega)

/-- Where the store at column 256 of 2048 puts an element. -/
theorem emb16 (r : Fin 256) (e : Fin 128) : r0_16.emb (ix3 0 r e) = (ix3 0 r ⟨256 + e.val, by omega⟩ : S1x256x2048.Idx) := by
  funext a
  match a with
  | ⟨0, _⟩ => exact Subsingleton.elim (α := Fin 1) _ _
  | ⟨1, _⟩ => exact Fin.ext (by show 0 + 1 * r.val = r.val; omega)
  | ⟨2, _⟩ => exact Fin.ext (by show 256 + 1 * e.val = 256 + e.val; omega)

/-- Where the store at column 384 of 2048 puts an element. -/
theorem emb17 (r : Fin 256) (e : Fin 128) : r0_17.emb (ix3 0 r e) = (ix3 0 r ⟨384 + e.val, by omega⟩ : S1x256x2048.Idx) := by
  funext a
  match a with
  | ⟨0, _⟩ => exact Subsingleton.elim (α := Fin 1) _ _
  | ⟨1, _⟩ => exact Fin.ext (by show 0 + 1 * r.val = r.val; omega)
  | ⟨2, _⟩ => exact Fin.ext (by show 384 + 1 * e.val = 384 + e.val; omega)

/-- Where the store at column 128 of 1024 puts an element. -/
theorem emb18 (r : Fin 256) (e : Fin 128) : r0_18.emb (ix3 0 r e) = (ix3 0 r ⟨128 + e.val, by omega⟩ : S1x256x1024.Idx) := by
  funext a
  match a with
  | ⟨0, _⟩ => exact Subsingleton.elim (α := Fin 1) _ _
  | ⟨1, _⟩ => exact Fin.ext (by show 0 + 1 * r.val = r.val; omega)
  | ⟨2, _⟩ => exact Fin.ext (by show 128 + 1 * e.val = 128 + e.val; omega)

/-- Where the store at column 512 of 2048 puts an element. -/
theorem emb19 (r : Fin 256) (e : Fin 128) : r0_19.emb (ix3 0 r e) = (ix3 0 r ⟨512 + e.val, by omega⟩ : S1x256x2048.Idx) := by
  funext a
  match a with
  | ⟨0, _⟩ => exact Subsingleton.elim (α := Fin 1) _ _
  | ⟨1, _⟩ => exact Fin.ext (by show 0 + 1 * r.val = r.val; omega)
  | ⟨2, _⟩ => exact Fin.ext (by show 512 + 1 * e.val = 512 + e.val; omega)

/-- Where the store at column 640 of 2048 puts an element. -/
theorem emb20 (r : Fin 256) (e : Fin 128) : r0_20.emb (ix3 0 r e) = (ix3 0 r ⟨640 + e.val, by omega⟩ : S1x256x2048.Idx) := by
  funext a
  match a with
  | ⟨0, _⟩ => exact Subsingleton.elim (α := Fin 1) _ _
  | ⟨1, _⟩ => exact Fin.ext (by show 0 + 1 * r.val = r.val; omega)
  | ⟨2, _⟩ => exact Fin.ext (by show 640 + 1 * e.val = 640 + e.val; omega)

/-- Where the store at column 256 of 1024 puts an element. -/
theorem emb21 (r : Fin 256) (e : Fin 128) : r0_21.emb (ix3 0 r e) = (ix3 0 r ⟨256 + e.val, by omega⟩ : S1x256x1024.Idx) := by
  funext a
  match a with
  | ⟨0, _⟩ => exact Subsingleton.elim (α := Fin 1) _ _
  | ⟨1, _⟩ => exact Fin.ext (by show 0 + 1 * r.val = r.val; omega)
  | ⟨2, _⟩ => exact Fin.ext (by show 256 + 1 * e.val = 256 + e.val; omega)

/-- Where the store at column 768 of 2048 puts an element. -/
theorem emb22 (r : Fin 256) (e : Fin 128) : r0_22.emb (ix3 0 r e) = (ix3 0 r ⟨768 + e.val, by omega⟩ : S1x256x2048.Idx) := by
  funext a
  match a with
  | ⟨0, _⟩ => exact Subsingleton.elim (α := Fin 1) _ _
  | ⟨1, _⟩ => exact Fin.ext (by show 0 + 1 * r.val = r.val; omega)
  | ⟨2, _⟩ => exact Fin.ext (by show 768 + 1 * e.val = 768 + e.val; omega)

/-- Where the store at column 896 of 2048 puts an element. -/
theorem emb23 (r : Fin 256) (e : Fin 128) : r0_23.emb (ix3 0 r e) = (ix3 0 r ⟨896 + e.val, by omega⟩ : S1x256x2048.Idx) := by
  funext a
  match a with
  | ⟨0, _⟩ => exact Subsingleton.elim (α := Fin 1) _ _
  | ⟨1, _⟩ => exact Fin.ext (by show 0 + 1 * r.val = r.val; omega)
  | ⟨2, _⟩ => exact Fin.ext (by show 896 + 1 * e.val = 896 + e.val; omega)

/-- Where the store at column 384 of 1024 puts an element. -/
theorem emb24 (r : Fin 256) (e : Fin 128) : r0_24.emb (ix3 0 r e) = (ix3 0 r ⟨384 + e.val, by omega⟩ : S1x256x1024.Idx) := by
  funext a
  match a with
  | ⟨0, _⟩ => exact Subsingleton.elim (α := Fin 1) _ _
  | ⟨1, _⟩ => exact Fin.ext (by show 0 + 1 * r.val = r.val; omega)
  | ⟨2, _⟩ => exact Fin.ext (by show 384 + 1 * e.val = 384 + e.val; omega)

/-- Where the store at column 1024 of 2048 puts an element. -/
theorem emb25 (r : Fin 256) (e : Fin 128) : r0_25.emb (ix3 0 r e) = (ix3 0 r ⟨1024 + e.val, by omega⟩ : S1x256x2048.Idx) := by
  funext a
  match a with
  | ⟨0, _⟩ => exact Subsingleton.elim (α := Fin 1) _ _
  | ⟨1, _⟩ => exact Fin.ext (by show 0 + 1 * r.val = r.val; omega)
  | ⟨2, _⟩ => exact Fin.ext (by show 1024 + 1 * e.val = 1024 + e.val; omega)

/-- Where the store at column 1152 of 2048 puts an element. -/
theorem emb26 (r : Fin 256) (e : Fin 128) : r0_26.emb (ix3 0 r e) = (ix3 0 r ⟨1152 + e.val, by omega⟩ : S1x256x2048.Idx) := by
  funext a
  match a with
  | ⟨0, _⟩ => exact Subsingleton.elim (α := Fin 1) _ _
  | ⟨1, _⟩ => exact Fin.ext (by show 0 + 1 * r.val = r.val; omega)
  | ⟨2, _⟩ => exact Fin.ext (by show 1152 + 1 * e.val = 1152 + e.val; omega)

/-- Where the store at column 512 of 1024 puts an element. -/
theorem emb27 (r : Fin 256) (e : Fin 128) : r0_27.emb (ix3 0 r e) = (ix3 0 r ⟨512 + e.val, by omega⟩ : S1x256x1024.Idx) := by
  funext a
  match a with
  | ⟨0, _⟩ => exact Subsingleton.elim (α := Fin 1) _ _
  | ⟨1, _⟩ => exact Fin.ext (by show 0 + 1 * r.val = r.val; omega)
  | ⟨2, _⟩ => exact Fin.ext (by show 512 + 1 * e.val = 512 + e.val; omega)

/-- Where the store at column 1280 of 2048 puts an element. -/
theorem emb28 (r : Fin 256) (e : Fin 128) : r0_28.emb (ix3 0 r e) = (ix3 0 r ⟨1280 + e.val, by omega⟩ : S1x256x2048.Idx) := by
  funext a
  match a with
  | ⟨0, _⟩ => exact Subsingleton.elim (α := Fin 1) _ _
  | ⟨1, _⟩ => exact Fin.ext (by show 0 + 1 * r.val = r.val; omega)
  | ⟨2, _⟩ => exact Fin.ext (by show 1280 + 1 * e.val = 1280 + e.val; omega)

/-- Where the store at column 1408 of 2048 puts an element. -/
theorem emb29 (r : Fin 256) (e : Fin 128) : r0_29.emb (ix3 0 r e) = (ix3 0 r ⟨1408 + e.val, by omega⟩ : S1x256x2048.Idx) := by
  funext a
  match a with
  | ⟨0, _⟩ => exact Subsingleton.elim (α := Fin 1) _ _
  | ⟨1, _⟩ => exact Fin.ext (by show 0 + 1 * r.val = r.val; omega)
  | ⟨2, _⟩ => exact Fin.ext (by show 1408 + 1 * e.val = 1408 + e.val; omega)

/-- Where the store at column 640 of 1024 puts an element. -/
theorem emb30 (r : Fin 256) (e : Fin 128) : r0_30.emb (ix3 0 r e) = (ix3 0 r ⟨640 + e.val, by omega⟩ : S1x256x1024.Idx) := by
  funext a
  match a with
  | ⟨0, _⟩ => exact Subsingleton.elim (α := Fin 1) _ _
  | ⟨1, _⟩ => exact Fin.ext (by show 0 + 1 * r.val = r.val; omega)
  | ⟨2, _⟩ => exact Fin.ext (by show 640 + 1 * e.val = 640 + e.val; omega)

/-- Where the store at column 1536 of 2048 puts an element. -/
theorem emb31 (r : Fin 256) (e : Fin 128) : r0_31.emb (ix3 0 r e) = (ix3 0 r ⟨1536 + e.val, by omega⟩ : S1x256x2048.Idx) := by
  funext a
  match a with
  | ⟨0, _⟩ => exact Subsingleton.elim (α := Fin 1) _ _
  | ⟨1, _⟩ => exact Fin.ext (by show 0 + 1 * r.val = r.val; omega)
  | ⟨2, _⟩ => exact Fin.ext (by show 1536 + 1 * e.val = 1536 + e.val; omega)

/-- Where the store at column 1664 of 2048 puts an element. -/
theorem emb32 (r : Fin 256) (e : Fin 128) : r0_32.emb (ix3 0 r e) = (ix3 0 r ⟨1664 + e.val, by omega⟩ : S1x256x2048.Idx) := by
  funext a
  match a with
  | ⟨0, _⟩ => exact Subsingleton.elim (α := Fin 1) _ _
  | ⟨1, _⟩ => exact Fin.ext (by show 0 + 1 * r.val = r.val; omega)
  | ⟨2, _⟩ => exact Fin.ext (by show 1664 + 1 * e.val = 1664 + e.val; omega)

/-- Where the store at column 768 of 1024 puts an element. -/
theorem emb33 (r : Fin 256) (e : Fin 128) : r0_33.emb (ix3 0 r e) = (ix3 0 r ⟨768 + e.val, by omega⟩ : S1x256x1024.Idx) := by
  funext a
  match a with
  | ⟨0, _⟩ => exact Subsingleton.elim (α := Fin 1) _ _
  | ⟨1, _⟩ => exact Fin.ext (by show 0 + 1 * r.val = r.val; omega)
  | ⟨2, _⟩ => exact Fin.ext (by show 768 + 1 * e.val = 768 + e.val; omega)

/-- Where the store at column 1792 of 2048 puts an element. -/
theorem emb34 (r : Fin 256) (e : Fin 128) : r0_34.emb (ix3 0 r e) = (ix3 0 r ⟨1792 + e.val, by omega⟩ : S1x256x2048.Idx) := by
  funext a
  match a with
  | ⟨0, _⟩ => exact Subsingleton.elim (α := Fin 1) _ _
  | ⟨1, _⟩ => exact Fin.ext (by show 0 + 1 * r.val = r.val; omega)
  | ⟨2, _⟩ => exact Fin.ext (by show 1792 + 1 * e.val = 1792 + e.val; omega)

/-- Where the store at column 1920 of 2048 puts an element. -/
theorem emb35 (r : Fin 256) (e : Fin 128) : r0_35.emb (ix3 0 r e) = (ix3 0 r ⟨1920 + e.val, by omega⟩ : S1x256x2048.Idx) := by
  funext a
  match a with
  | ⟨0, _⟩ => exact Subsingleton.elim (α := Fin 1) _ _
  | ⟨1, _⟩ => exact Fin.ext (by show 0 + 1 * r.val = r.val; omega)
  | ⟨2, _⟩ => exact Fin.ext (by show 1920 + 1 * e.val = 1920 + e.val; omega)

/-- Where the store at column 896 of 1024 puts an element. -/
theorem emb36 (r : Fin 256) (e : Fin 128) : r0_36.emb (ix3 0 r e) = (ix3 0 r ⟨896 + e.val, by omega⟩ : S1x256x1024.Idx) := by
  funext a
  match a with
  | ⟨0, _⟩ => exact Subsingleton.elim (α := Fin 1) _ _
  | ⟨1, _⟩ => exact Fin.ext (by show 0 + 1 * r.val = r.val; omega)
  | ⟨2, _⟩ => exact Fin.ext (by show 896 + 1 * e.val = 896 + e.val; omega)

set_option maxHeartbeats 2000000 in
/-- The queries. -/
theorem out9 (c : Dev nD) (H : Reals m c) (t : Fin cfg0.N) (r : Fin 256) (e : Fin 2048) :
    out0_9 (iblk m c 0 t) (iblk m c 1 t) (iblk m c 2 t) (iblk m c 3 t) (iblk m c 4 t) (iblk m c 5 t) (iblk m c 6 t) (iblk m c 7 t) (iblk m c 8 t) (ix3 0 r e) = RQ m c (ix3 (bt t) (row t r) e) := by
  unfold out0_9
  refine View.canon_apply_of_pieces (Val := Elt Ideal) (fun y : S1x256x2048.Idx => RQ m c (ix3 (bt t) (row t (y 1)) (y 2))) _ ?_ (ix3 0 r e) (cover0_9 _ _ _ _ _ _ _ _ _ _ _ _ _ _ _ _ (ix3 0 r e))
  refine List.forall_mem_cons.2 ⟨?_, ?_⟩
  · intro x
    obtain ⟨r, e, rfl⟩ := ex128 x
    refine Eq.trans ?_ (congrArg (fun y : S1x256x2048.Idx => RQ m c (ix3 (bt t) (row t (y 1)) (y 2))) (emb35 r e)).symm
    exact (qr7_at _ _ _ r e).trans (q_rope m c H t r 7 (fun e => ⟨1920 + e.val, by omega⟩) (fun e => by show 1920 + e.val = 256 * 7 + (128 + e.val); omega) e _ (by show 1920 + e.val = 256 * 7 + (128 + e.val); omega))
  refine List.forall_mem_cons.2 ⟨?_, ?_⟩
  · intro x
    obtain ⟨r, e, rfl⟩ := ex128 x
    refine Eq.trans ?_ (congrArg (fun y : S1x256x2048.Idx => RQ m c (ix3 (bt t) (row t (y 1)) (y 2))) (emb34 r e)).symm
    exact (qp7_at _ r e).trans (q_plain m c t r 7 e _ (by show 1792 + e.val = 256 * 7 + e.val; omega))
  refine List.forall_mem_cons.2 ⟨?_, ?_⟩
  · intro x
    obtain ⟨r, e, rfl⟩ := ex128 x
    refine Eq.trans ?_ (congrArg (fun y : S1x256x2048.Idx => RQ m c (ix3 (bt t) (row t (y 1)) (y 2))) (emb32 r e)).symm
    exact (qr6_at _ _ _ r e).trans (q_rope m c H t r 6 (fun e => ⟨1664 + e.val, by omega⟩) (fun e => by show 1664 + e.val = 256 * 6 + (128 + e.val); omega) e _ (by show 1664 + e.val = 256 * 6 + (128 + e.val); omega))
  refine List.forall_mem_cons.2 ⟨?_, ?_⟩
  · intro x
    obtain ⟨r, e, rfl⟩ := ex128 x
    refine Eq.trans ?_ (congrArg (fun y : S1x256x2048.Idx => RQ m c (ix3 (bt t) (row t (y 1)) (y 2))) (emb31 r e)).symm
    exact (qp6_at _ r e).trans (q_plain m c t r 6 e _ (by show 1536 + e.val = 256 * 6 + e.val; omega))
  refine List.forall_mem_cons.2 ⟨?_, ?_⟩
  · intro x
    obtain ⟨r, e, rfl⟩ := ex128 x
    refine Eq.trans ?_ (congrArg (fun y : S1x256x2048.Idx => RQ m c (ix3 (bt t) (row t (y 1)) (y 2))) (emb29 r e)).symm
    exact (qr5_at _ _ _ r e).trans (q_rope m c H t r 5 (fun e => ⟨1408 + e.val, by omega⟩) (fun e => by show 1408 + e.val = 256 * 5 + (128 + e.val); omega) e _ (by show 1408 + e.val = 256 * 5 + (128 + e.val); omega))
  refine List.forall_mem_cons.2 ⟨?_, ?_⟩
  · intro x
    obtain ⟨r, e, rfl⟩ := ex128 x
    refine Eq.trans ?_ (congrArg (fun y : S1x256x2048.Idx => RQ m c (ix3 (bt t) (row t (y 1)) (y 2))) (emb28 r e)).symm
    exact (qp5_at _ r e).trans (q_plain m c t r 5 e _ (by show 1280 + e.val = 256 * 5 + e.val; omega))
  refine List.forall_mem_cons.2 ⟨?_, ?_⟩
  · intro x
    obtain ⟨r, e, rfl⟩ := ex128 x
    refine Eq.trans ?_ (congrArg (fun y : S1x256x2048.Idx => RQ m c (ix3 (bt t) (row t (y 1)) (y 2))) (emb26 r e)).symm
    exact (qr4_at _ _ _ r e).trans (q_rope m c H t r 4 (fun e => ⟨1152 + e.val, by omega⟩) (fun e => by show 1152 + e.val = 256 * 4 + (128 + e.val); omega) e _ (by show 1152 + e.val = 256 * 4 + (128 + e.val); omega))
  refine List.forall_mem_cons.2 ⟨?_, ?_⟩
  · intro x
    obtain ⟨r, e, rfl⟩ := ex128 x
    refine Eq.trans ?_ (congrArg (fun y : S1x256x2048.Idx => RQ m c (ix3 (bt t) (row t (y 1)) (y 2))) (emb25 r e)).symm
    exact (qp4_at _ r e).trans (q_plain m c t r 4 e _ (by show 1024 + e.val = 256 * 4 + e.val; omega))
  refine List.forall_mem_cons.2 ⟨?_, ?_⟩
  · intro x
    obtain ⟨r, e, rfl⟩ := ex128 x
    refine Eq.trans ?_ (congrArg (fun y : S1x256x2048.Idx => RQ m c (ix3 (bt t) (row t (y 1)) (y 2))) (emb23 r e)).symm
    exact (qr3_at _ _ _ r e).trans (q_rope m c H t r 3 (fun e => ⟨896 + e.val, by omega⟩) (fun e => by show 896 + e.val = 256 * 3 + (128 + e.val); omega) e _ (by show 896 + e.val = 256 * 3 + (128 + e.val); omega))
  refine List.forall_mem_cons.2 ⟨?_, ?_⟩
  · intro x
    obtain ⟨r, e, rfl⟩ := ex128 x
    refine Eq.trans ?_ (congrArg (fun y : S1x256x2048.Idx => RQ m c (ix3 (bt t) (row t (y 1)) (y 2))) (emb22 r e)).symm
    exact (qp3_at _ r e).trans (q_plain m c t r 3 e _ (by show 768 + e.val = 256 * 3 + e.val; omega))
  refine List.forall_mem_cons.2 ⟨?_, ?_⟩
  · intro x
    obtain ⟨r, e, rfl⟩ := ex128 x
    refine Eq.trans ?_ (congrArg (fun y : S1x256x2048.Idx => RQ m c (ix3 (bt t) (row t (y 1)) (y 2))) (emb20 r e)).symm
    exact (qr2_at _ _ _ r e).trans (q_rope m c H t r 2 (fun e => ⟨640 + e.val, by omega⟩) (fun e => by show 640 + e.val = 256 * 2 + (128 + e.val); omega) e _ (by show 640 + e.val = 256 * 2 + (128 + e.val); omega))
  refine List.forall_mem_cons.2 ⟨?_, ?_⟩
  · intro x
    obtain ⟨r, e, rfl⟩ := ex128 x
    refine Eq.trans ?_ (congrArg (fun y : S1x256x2048.Idx => RQ m c (ix3 (bt t) (row t (y 1)) (y 2))) (emb19 r e)).symm
    exact (qp2_at _ r e).trans (q_plain m c t r 2 e _ (by show 512 + e.val = 256 * 2 + e.val; omega))
  refine List.forall_mem_cons.2 ⟨?_, ?_⟩
  · intro x
    obtain ⟨r, e, rfl⟩ := ex128 x
    refine Eq.trans ?_ (congrArg (fun y : S1x256x2048.Idx => RQ m c (ix3 (bt t) (row t (y 1)) (y 2))) (emb17 r e)).symm
    exact (qr1_at _ _ _ r e).trans (q_rope m c H t r 1 (fun e => ⟨384 + e.val, by omega⟩) (fun e => by show 384 + e.val = 256 * 1 + (128 + e.val); omega) e _ (by show 384 + e.val = 256 * 1 + (128 + e.val); omega))
  refine List.forall_mem_cons.2 ⟨?_, ?_⟩
  · intro x
    obtain ⟨r, e, rfl⟩ := ex128 x
    refine Eq.trans ?_ (congrArg (fun y : S1x256x2048.Idx => RQ m c (ix3 (bt t) (row t (y 1)) (y 2))) (emb16 r e)).symm
    exact (qp1_at _ r e).trans (q_plain m c t r 1 e _ (by show 256 + e.val = 256 * 1 + e.val; omega))
  refine List.forall_mem_cons.2 ⟨?_, ?_⟩
  · intro x
    obtain ⟨r, e, rfl⟩ := ex128 x
    refine Eq.trans ?_ (congrArg (fun y : S1x256x2048.Idx => RQ m c (ix3 (bt t) (row t (y 1)) (y 2))) (emb14 r e)).symm
    exact (qr0_at _ _ _ _ r e).trans (q_rope m c H t r 0 (fun e => ⟨128 + e.val, by omega⟩) (fun e => by show 128 + e.val = 256 * 0 + (128 + e.val); omega) e _ (by show 128 + e.val = 256 * 0 + (128 + e.val); omega))
  refine List.forall_mem_cons.2 ⟨?_, ?_⟩
  · intro x
    obtain ⟨r, e, rfl⟩ := ex128 x
    refine Eq.trans ?_ (congrArg (fun y : S1x256x2048.Idx => RQ m c (ix3 (bt t) (row t (y 1)) (y 2))) (emb13 r e)).symm
    exact (qp0_at _ _ r e).trans (q_plain m c t r 0 e _ (by show 0 + e.val = 256 * 0 + e.val; omega))
  exact fun p hp => nomatch hp

set_option maxHeartbeats 2000000 in
/-- The keys. -/
theorem out10 (c : Dev nD) (H : Reals m c) (t : Fin cfg0.N) (r : Fin 256) (e : Fin 2048) :
    out0_10 (iblk m c 0 t) (iblk m c 1 t) (iblk m c 2 t) (iblk m c 3 t) (iblk m c 4 t) (iblk m c 5 t) (iblk m c 6 t) (iblk m c 7 t) (iblk m c 8 t) (ix3 0 r e) = RK m c (ix3 (bt t) (row t r) e) := by
  unfold out0_10
  refine View.canon_apply_of_pieces (Val := Elt Ideal) (fun y : S1x256x2048.Idx => RK m c (ix3 (bt t) (row t (y 1)) (y 2))) _ ?_ (ix3 0 r e) (cover0_10 _ _ _ _ _ _ _ _ _ _ _ _ _ _ _ _ (ix3 0 r e))
  refine List.forall_mem_cons.2 ⟨?_, ?_⟩
  · intro x
    obtain ⟨r, e, rfl⟩ := ex128 x
    refine Eq.trans ?_ (congrArg (fun y : S1x256x2048.Idx => RK m c (ix3 (bt t) (row t (y 1)) (y 2))) (emb35 r e)).symm
    exact (kr7_at _ r e).trans (k_rope m c H t r 7 e _ (by show 1920 + e.val = 256 * 7 + (128 + e.val); omega))
  refine List.forall_mem_cons.2 ⟨?_, ?_⟩
  · intro x
    obtain ⟨r, e, rfl⟩ := ex128 x
    refine Eq.trans ?_ (congrArg (fun y : S1x256x2048.Idx => RK m c (ix3 (bt t) (row t (y 1)) (y 2))) (emb34 r e)).symm
    exact (kp7_at _ r e).trans (k_plain m c t r 7 e _ (by show 1792 + e.val = 256 * 7 + e.val; omega))
  refine List.forall_mem_cons.2 ⟨?_, ?_⟩
  · intro x
    obtain ⟨r, e, rfl⟩ := ex128 x
    refine Eq.trans ?_ (congrArg (fun y : S1x256x2048.Idx => RK m c (ix3 (bt t) (row t (y 1)) (y 2))) (emb32 r e)).symm
    exact (kr6_at _ r e).trans (k_rope m c H t r 6 e _ (by show 1664 + e.val = 256 * 6 + (128 + e.val); omega))
  refine List.forall_mem_cons.2 ⟨?_, ?_⟩
  · intro x
    obtain ⟨r, e, rfl⟩ := ex128 x
    refine Eq.trans ?_ (congrArg (fun y : S1x256x2048.Idx => RK m c (ix3 (bt t) (row t (y 1)) (y 2))) (emb31 r e)).symm
    exact (kp6_at _ r e).trans (k_plain m c t r 6 e _ (by show 1536 + e.val = 256 * 6 + e.val; omega))
  refine List.forall_mem_cons.2 ⟨?_, ?_⟩
  · intro x
    obtain ⟨r, e, rfl⟩ := ex128 x
    refine Eq.trans ?_ (congrArg (fun y : S1x256x2048.Idx => RK m c (ix3 (bt t) (row t (y 1)) (y 2))) (emb29 r e)).symm
    exact (kr5_at _ r e).trans (k_rope m c H t r 5 e _ (by show 1408 + e.val = 256 * 5 + (128 + e.val); omega))
  refine List.forall_mem_cons.2 ⟨?_, ?_⟩
  · intro x
    obtain ⟨r, e, rfl⟩ := ex128 x
    refine Eq.trans ?_ (congrArg (fun y : S1x256x2048.Idx => RK m c (ix3 (bt t) (row t (y 1)) (y 2))) (emb28 r e)).symm
    exact (kp5_at _ r e).trans (k_plain m c t r 5 e _ (by show 1280 + e.val = 256 * 5 + e.val; omega))
  refine List.forall_mem_cons.2 ⟨?_, ?_⟩
  · intro x
    obtain ⟨r, e, rfl⟩ := ex128 x
    refine Eq.trans ?_ (congrArg (fun y : S1x256x2048.Idx => RK m c (ix3 (bt t) (row t (y 1)) (y 2))) (emb26 r e)).symm
    exact (kr4_at _ r e).trans (k_rope m c H t r 4 e _ (by show 1152 + e.val = 256 * 4 + (128 + e.val); omega))
  refine List.forall_mem_cons.2 ⟨?_, ?_⟩
  · intro x
    obtain ⟨r, e, rfl⟩ := ex128 x
    refine Eq.trans ?_ (congrArg (fun y : S1x256x2048.Idx => RK m c (ix3 (bt t) (row t (y 1)) (y 2))) (emb25 r e)).symm
    exact (kp4_at _ r e).trans (k_plain m c t r 4 e _ (by show 1024 + e.val = 256 * 4 + e.val; omega))
  refine List.forall_mem_cons.2 ⟨?_, ?_⟩
  · intro x
    obtain ⟨r, e, rfl⟩ := ex128 x
    refine Eq.trans ?_ (congrArg (fun y : S1x256x2048.Idx => RK m c (ix3 (bt t) (row t (y 1)) (y 2))) (emb23 r e)).symm
    exact (kr3_at _ r e).trans (k_rope m c H t r 3 e _ (by show 896 + e.val = 256 * 3 + (128 + e.val); omega))
  refine List.forall_mem_cons.2 ⟨?_, ?_⟩
  · intro x
    obtain ⟨r, e, rfl⟩ := ex128 x
    refine Eq.trans ?_ (congrArg (fun y : S1x256x2048.Idx => RK m c (ix3 (bt t) (row t (y 1)) (y 2))) (emb22 r e)).symm
    exact (kp3_at _ r e).trans (k_plain m c t r 3 e _ (by show 768 + e.val = 256 * 3 + e.val; omega))
  refine List.forall_mem_cons.2 ⟨?_, ?_⟩
  · intro x
    obtain ⟨r, e, rfl⟩ := ex128 x
    refine Eq.trans ?_ (congrArg (fun y : S1x256x2048.Idx => RK m c (ix3 (bt t) (row t (y 1)) (y 2))) (emb20 r e)).symm
    exact (kr2_at _ r e).trans (k_rope m c H t r 2 e _ (by show 640 + e.val = 256 * 2 + (128 + e.val); omega))
  refine List.forall_mem_cons.2 ⟨?_, ?_⟩
  · intro x
    obtain ⟨r, e, rfl⟩ := ex128 x
    refine Eq.trans ?_ (congrArg (fun y : S1x256x2048.Idx => RK m c (ix3 (bt t) (row t (y 1)) (y 2))) (emb19 r e)).symm
    exact (kp2_at _ r e).trans (k_plain m c t r 2 e _ (by show 512 + e.val = 256 * 2 + e.val; omega))
  refine List.forall_mem_cons.2 ⟨?_, ?_⟩
  · intro x
    obtain ⟨r, e, rfl⟩ := ex128 x
    refine Eq.trans ?_ (congrArg (fun y : S1x256x2048.Idx => RK m c (ix3 (bt t) (row t (y 1)) (y 2))) (emb17 r e)).symm
    exact (kr1_at _ r e).trans (k_rope m c H t r 1 e _ (by show 384 + e.val = 256 * 1 + (128 + e.val); omega))
  refine List.forall_mem_cons.2 ⟨?_, ?_⟩
  · intro x
    obtain ⟨r, e, rfl⟩ := ex128 x
    refine Eq.trans ?_ (congrArg (fun y : S1x256x2048.Idx => RK m c (ix3 (bt t) (row t (y 1)) (y 2))) (emb16 r e)).symm
    exact (kp1_at _ r e).trans (k_plain m c t r 1 e _ (by show 256 + e.val = 256 * 1 + e.val; omega))
  refine List.forall_mem_cons.2 ⟨?_, ?_⟩
  · intro x
    obtain ⟨r, e, rfl⟩ := ex128 x
    refine Eq.trans ?_ (congrArg (fun y : S1x256x2048.Idx => RK m c (ix3 (bt t) (row t (y 1)) (y 2))) (emb14 r e)).symm
    exact (kr0_at _ r e).trans (k_rope m c H t r 0 e _ (by show 128 + e.val = 256 * 0 + (128 + e.val); omega))
  refine List.forall_mem_cons.2 ⟨?_, ?_⟩
  · intro x
    obtain ⟨r, e, rfl⟩ := ex128 x
    refine Eq.trans ?_ (congrArg (fun y : S1x256x2048.Idx => RK m c (ix3 (bt t) (row t (y 1)) (y 2))) (emb13 r e)).symm
    exact (kp0_at _ _ r e).trans (k_plain m c t r 0 e _ (by show 0 + e.val = 256 * 0 + e.val; omega))
  exact fun p hp => nomatch hp

set_option maxHeartbeats 2000000 in
/-- The values. -/
theorem out11 (c : Dev nD) (t : Fin cfg0.N) (r : Fin 256) (e : Fin 1024) :
    out0_11 (iblk m c 0 t) (iblk m c 1 t) (iblk m c 2 t) (iblk m c 3 t) (iblk m c 4 t) (iblk m c 5 t) (iblk m c 6 t) (iblk m c 7 t) (iblk m c 8 t) (ix3 0 r e) = RV m c (ix3 (bt t) (row t r) e) := by
  unfold out0_11
  refine View.canon_apply_of_pieces (Val := Elt Ideal) (fun y : S1x256x1024.Idx => RV m c (ix3 (bt t) (row t (y 1)) (y 2))) _ ?_ (ix3 0 r e) (cover0_11 _ _ _ _ _ _ _ _ (ix3 0 r e))
  refine List.forall_mem_cons.2 ⟨?_, ?_⟩
  · intro x
    obtain ⟨r, e, rfl⟩ := ex128 x
    refine Eq.trans ?_ (congrArg (fun y : S1x256x1024.Idx => RV m c (ix3 (bt t) (row t (y 1)) (y 2))) (emb36 r e)).symm
    exact (vp7_at _ r e).trans (v_plain m c t r 7 e _ (by show 896 + e.val = 128 * 7 + e.val; omega) _ (by show 1920 + e.val = 256 * 7 + (128 + e.val); omega))
  refine List.forall_mem_cons.2 ⟨?_, ?_⟩
  · intro x
    obtain ⟨r, e, rfl⟩ := ex128 x
    refine Eq.trans ?_ (congrArg (fun y : S1x256x1024.Idx => RV m c (ix3 (bt t) (row t (y 1)) (y 2))) (emb33 r e)).symm
    exact (vp6_at _ r e).trans (v_plain m c t r 6 e _ (by show 768 + e.val = 128 * 6 + e.val; omega) _ (by show 1664 + e.val = 256 * 6 + (128 + e.val); omega))
  refine List.forall_mem_cons.2 ⟨?_, ?_⟩
  · intro x
    obtain ⟨r, e, rfl⟩ := ex128 x
    refine Eq.trans ?_ (congrArg (fun y : S1x256x1024.Idx => RV m c (ix3 (bt t) (row t (y 1)) (y 2))) (emb30 r e)).symm
    exact (vp5_at _ r e).trans (v_plain m c t r 5 e _ (by show 640 + e.val = 128 * 5 + e.val; omega) _ (by show 1408 + e.val = 256 * 5 + (128 + e.val); omega))
  refine List.forall_mem_cons.2 ⟨?_, ?_⟩
  · intro x
    obtain ⟨r, e, rfl⟩ := ex128 x
    refine Eq.trans ?_ (congrArg (fun y : S1x256x1024.Idx => RV m c (ix3 (bt t) (row t (y 1)) (y 2))) (emb27 r e)).symm
    exact (vp4_at _ r e).trans (v_plain m c t r 4 e _ (by show 512 + e.val = 128 * 4 + e.val; omega) _ (by show 1152 + e.val = 256 * 4 + (128 + e.val); omega))
  refine List.forall_mem_cons.2 ⟨?_, ?_⟩
  · intro x
    obtain ⟨r, e, rfl⟩ := ex128 x
    refine Eq.trans ?_ (congrArg (fun y : S1x256x1024.Idx => RV m c (ix3 (bt t) (row t (y 1)) (y 2))) (emb24 r e)).symm
    exact (vp3_at _ r e).trans (v_plain m c t r 3 e _ (by show 384 + e.val = 128 * 3 + e.val; omega) _ (by show 896 + e.val = 256 * 3 + (128 + e.val); omega))
  refine List.forall_mem_cons.2 ⟨?_, ?_⟩
  · intro x
    obtain ⟨r, e, rfl⟩ := ex128 x
    refine Eq.trans ?_ (congrArg (fun y : S1x256x1024.Idx => RV m c (ix3 (bt t) (row t (y 1)) (y 2))) (emb21 r e)).symm
    exact (vp2_at _ r e).trans (v_plain m c t r 2 e _ (by show 256 + e.val = 128 * 2 + e.val; omega) _ (by show 640 + e.val = 256 * 2 + (128 + e.val); omega))
  refine List.forall_mem_cons.2 ⟨?_, ?_⟩
  · intro x
    obtain ⟨r, e, rfl⟩ := ex128 x
    refine Eq.trans ?_ (congrArg (fun y : S1x256x1024.Idx => RV m c (ix3 (bt t) (row t (y 1)) (y 2))) (emb18 r e)).symm
    exact (vp1_at _ r e).trans (v_plain m c t r 1 e _ (by show 128 + e.val = 128 * 1 + e.val; omega) _ (by show 384 + e.val = 256 * 1 + (128 + e.val); omega))
  refine List.forall_mem_cons.2 ⟨?_, ?_⟩
  · intro x
    obtain ⟨r, e, rfl⟩ := ex128 x
    refine Eq.trans ?_ (congrArg (fun y : S1x256x1024.Idx => RV m c (ix3 (bt t) (row t (y 1)) (y 2))) (emb15 r e)).symm
    exact (vp0_at _ r e).trans (v_plain m c t r 0 e _ (by show 0 + e.val = 128 * 0 + e.val; omega) _ (by show 128 + e.val = 256 * 0 + (128 + e.val); omega))
  exact fun p hp => nomatch hp

/-- The other two attentions' queries. -/
theorem out12 (c : Dev nD) (t : Fin cfg0.N) (r : Fin 256) (e : Fin 1024) :
    out0_12 (iblk m c 0 t) (iblk m c 1 t) (iblk m c 2 t) (iblk m c 3 t) (iblk m c 4 t) (iblk m c 5 t) (iblk m c 6 t) (iblk m c 7 t) (iblk m c 8 t) (ix3 0 r e) = resQs (La m c) (ix3 (bt t) (row t r) e) := by
  unfold out0_12
  refine View.canon_apply_of_pieces (Val := Elt Ideal) (fun y : S1x256x1024.Idx => resQs (La m c) (ix3 (bt t) (row t (y 1)) (y 2))) _ ?_ (ix3 0 r e) (cover0_12 _ (ix3 0 r e))
  refine List.forall_mem_cons.2 ⟨?_, fun p hp => nomatch hp⟩
  intro x
  obtain ⟨r, e, rfl⟩ := ex1024 x
  refine Eq.trans ?_ (congrArg (fun y : S1x256x1024.Idx => resQs (La m c) (ix3 (bt t) (row t (y 1)) (y 2))) (show r0_7.emb (ix3 0 r e) = (ix3 0 r e : S1x256x1024.Idx) by
    funext a
    match a with
    | ⟨0, _⟩ => exact Subsingleton.elim (α := Fin 1) _ _
    | ⟨1, _⟩ => exact Fin.ext (by show 0 + 1 * r.val = r.val; omega)
    | ⟨2, _⟩ => exact Fin.ext (by show 0 + 1 * e.val = e.val; omega))).symm
  exact qs_blk m c t r e

/-- The gates. -/
theorem out13 (c : Dev nD) (t : Fin cfg0.N) (r : Fin 256) (e : Fin 2048) :
    out0_13 (iblk m c 0 t) (iblk m c 1 t) (iblk m c 2 t) (iblk m c 3 t) (iblk m c 4 t) (iblk m c 5 t) (iblk m c 6 t) (iblk m c 7 t) (iblk m c 8 t) (ix3 0 r e) = resZ (La m c) (ix3 (bt t) (row t r) e) := by
  unfold out0_13
  refine View.canon_apply_of_pieces (Val := Elt Ideal) (fun y : S1x256x2048.Idx => resZ (La m c) (ix3 (bt t) (row t (y 1)) (y 2))) _ ?_ (ix3 0 r e) (cover0_13 _ (ix3 0 r e))
  refine List.forall_mem_cons.2 ⟨?_, fun p hp => nomatch hp⟩
  intro x
  obtain ⟨r, e, rfl⟩ := ex2048 x
  refine Eq.trans ?_ (congrArg (fun y : S1x256x2048.Idx => resZ (La m c) (ix3 (bt t) (row t (y 1)) (y 2))) (show r0_0.emb (ix3 0 r e) = (ix3 0 r e : S1x256x2048.Idx) by
    funext a
    match a with
    | ⟨0, _⟩ => exact Subsingleton.elim (α := Fin 1) _ _
    | ⟨1, _⟩ => exact Fin.ext (by show 0 + 1 * r.val = r.val; omega)
    | ⟨2, _⟩ => exact Fin.ext (by show 0 + 1 * e.val = e.val; omega))).symm
  exact z_blk m c t r e

/-- The local attention's keys. -/
theorem out14 (c : Dev nD) (t : Fin cfg0.N) (r : Fin 256) (e : Fin 128) :
    out0_14 (iblk m c 0 t) (iblk m c 1 t) (iblk m c 2 t) (iblk m c 3 t) (iblk m c 4 t) (iblk m c 5 t) (iblk m c 6 t) (iblk m c 7 t) (iblk m c 8 t) (ix3 0 r e) = resKs (La m c) (ix3 (bt t) (row t r) e) := by
  unfold out0_14
  refine View.canon_apply_of_pieces (Val := Elt Ideal) (fun y : S1x256x128.Idx => resKs (La m c) (ix3 (bt t) (row t (y 1)) (y 2))) _ ?_ (ix3 0 r e) (cover0_14 _ (ix3 0 r e))
  refine List.forall_mem_cons.2 ⟨?_, fun p hp => nomatch hp⟩
  intro x
  obtain ⟨r, e, rfl⟩ := ex128 x
  refine Eq.trans ?_ (congrArg (fun y : S1x256x128.Idx => resKs (La m c) (ix3 (bt t) (row t (y 1)) (y 2))) (show r0_10.emb (ix3 0 r e) = (ix3 0 r e : S1x256x128.Idx) by
    funext a
    match a with
    | ⟨0, _⟩ => exact Subsingleton.elim (α := Fin 1) _ _
    | ⟨1, _⟩ => exact Fin.ext (by show 0 + 1 * r.val = r.val; omega)
    | ⟨2, _⟩ => exact Fin.ext (by show 0 + 1 * e.val = e.val; omega))).symm
  exact ks_blk m c t r e

/-- The local attention's values. -/
theorem out15 (c : Dev nD) (t : Fin cfg0.N) (r : Fin 256) (e : Fin 128) :
    out0_15 (iblk m c 0 t) (iblk m c 1 t) (iblk m c 2 t) (iblk m c 3 t) (iblk m c 4 t) (iblk m c 5 t) (iblk m c 6 t) (iblk m c 7 t) (iblk m c 8 t) (ix3 0 r e) = resVs (La m c) (ix3 (bt t) (row t r) e) := by
  unfold out0_15
  refine View.canon_apply_of_pieces (Val := Elt Ideal) (fun y : S1x256x128.Idx => resVs (La m c) (ix3 (bt t) (row t (y 1)) (y 2))) _ ?_ (ix3 0 r e) (cover0_15 _ (ix3 0 r e))
  refine List.forall_mem_cons.2 ⟨?_, fun p hp => nomatch hp⟩
  intro x
  obtain ⟨r, e, rfl⟩ := ex128 x
  refine Eq.trans ?_ (congrArg (fun y : S1x256x128.Idx => resVs (La m c) (ix3 (bt t) (row t (y 1)) (y 2))) (show r0_10.emb (ix3 0 r e) = (ix3 0 r e : S1x256x128.Idx) by
    funext a
    match a with
    | ⟨0, _⟩ => exact Subsingleton.elim (α := Fin 1) _ _
    | ⟨1, _⟩ => exact Fin.ext (by show 0 + 1 * r.val = r.val; omega)
    | ⟨2, _⟩ => exact Fin.ext (by show 0 + 1 * e.val = e.val; omega))).symm
  exact vs_blk m c t r e

end Cert.ProjIdeal.Hand

end
-- ==== Proof.ProjFinal.lean ====
/- The input projections: their output arrays after the run are what the reference computes. -/
module

public import proofs.«01_k».proof.Proof.ProjOut

@[expose] public section

set_option maxRecDepth 16384

noncomputable section

namespace Cert.ProjIdeal.Hand

open Cert.ProjIdeal Cert.ProjIdeal.Gen Idealize.ShloMosaic Idealize.ShloMosaic.TcCoe Idealize.SL.Sem

open Cert.ProjRefIdeal.Hand (resQs resZ resKs resVs)

variable (m : (ℓ : Loc nD τ sig) → Buf (Elt Ideal) ℓ)

/-- The array of the queries after the run. -/
theorem final9 (c : Dev nD) (H : Reals m c) : (dats m 0 c).arrAt 9 (cfgs 0).N = RQ m c := by
  refine (dats m 0 c).arrAt_eq_of_covers 9 _ (by decide +kernel) fun t _ y => ?_
  blk_simp
  rw [after0_9]
  obtain ⟨r, e, rfl⟩ := ex2048 y
  refine (out9 m c H t r e).trans ?_
  generalize RQ m c = R
  blk_point [idx t]

/-- The array of the keys after the run. -/
theorem final10 (c : Dev nD) (H : Reals m c) : (dats m 0 c).arrAt 10 (cfgs 0).N = RK m c := by
  refine (dats m 0 c).arrAt_eq_of_covers 10 _ (by decide +kernel) fun t _ y => ?_
  blk_simp
  rw [after0_10]
  obtain ⟨r, e, rfl⟩ := ex2048 y
  refine (out10 m c H t r e).trans ?_
  generalize RK m c = R
  blk_point [idx t]

/-- The array of the values after the run. -/
theorem final11 (c : Dev nD) : (dats m 0 c).arrAt 11 (cfgs 0).N = RV m c := by
  refine (dats m 0 c).arrAt_eq_of_covers 11 _ (by decide +kernel) fun t _ y => ?_
  blk_simp
  rw [after0_11]
  obtain ⟨r, e, rfl⟩ := ex1024 y
  refine (out11 m c t r e).trans ?_
  generalize RV m c = R
  blk_point [idx t]

/-- The array of the other two attentions' queries after the run. -/
theorem final12 (c : Dev nD) : (dats m 0 c).arrAt 12 (cfgs 0).N = resQs (La m c) := by
  refine (dats m 0 c).arrAt_eq_of_covers 12 _ (by decide +kernel) fun t _ y => ?_
  blk_simp
  rw [after0_12]
  obtain ⟨r, e, rfl⟩ := ex1024 y
  refine (out12 m c t r e).trans ?_
  generalize resQs (La m c) = R
  blk_point [idx t]

/-- The array of the gates after the run. -/
theorem final13 (c : Dev nD) : (dats m 0 c).arrAt 13 (cfgs 0).N = resZ (La m c) := by
  refine (dats m 0 c).arrAt_eq_of_covers 13 _ (by decide +kernel) fun t _ y => ?_
  blk_simp
  rw [after0_13]
  obtain ⟨r, e, rfl⟩ := ex2048 y
  refine (out13 m c t r e).trans ?_
  generalize resZ (La m c) = R
  blk_point [idx t]

/-- The array of the local attention's keys after the run. -/
theorem final14 (c : Dev nD) : (dats m 0 c).arrAt 14 (cfgs 0).N = resKs (La m c) := by
  refine (dats m 0 c).arrAt_eq_of_covers 14 _ (by decide +kernel) fun t _ y => ?_
  blk_simp
  rw [after0_14]
  obtain ⟨r, e, rfl⟩ := ex128 y
  refine (out14 m c t r e).trans ?_
  generalize resKs (La m c) = R
  blk_point [idx t]

/-- The array of the local attention's values after the run. -/
theorem final15 (c : Dev nD) : (dats m 0 c).arrAt 15 (cfgs 0).N = resVs (La m c) := by
  refine (dats m 0 c).arrAt_eq_of_covers 15 _ (by decide +kernel) fun t _ y => ?_
  blk_simp
  rw [after0_15]
  obtain ⟨r, e, rfl⟩ := ex128 y
  refine (out15 m c t r e).trans ?_
  generalize resVs (La m c) = R
  blk_point [idx t]

end Cert.ProjIdeal.Hand

end
-- ==== Proof.ProjClaims.lean ====
/- The claims about the input projections. -/
module

public import proofs.«01_k».proof.Defs
public import proofs.«01_k».proof.Proof.ProjFinal
public import proofs.«01_k».proof.Proof.Gen.Proj.Frame
public import proofs.«01_k».proof.Proof.Gen.ProjIdeal.Frame
public import proofs.«01_k».proof.Proof.Gen.ProjIdeal.Value
public import proofs.«01_k».proof.Proof.Gen.ProjRefIdeal.Run
public import proofs.«01_k».proof.Proof.Gen.Pre_proj_finite
public import Idealize.ShloMosaic.Lib.Claim

@[expose] public section

noncomputable section

namespace Cert.Proof.ProjClaims

open Idealize.ShloMosaic Idealize.ShloMosaic.TcCoe Idealize.SL.Sem

/-- The kernel runs and leaves its arguments. -/
theorem frame_p : Cert.quiescent_Proj := fun m ρ _ => Cert.Proj.Gen.frame m ρ

/-- The idealized kernel runs and leaves its arguments. -/
theorem frame_pi : Cert.quiescent_ProjIdeal := fun m ρ _ => Cert.ProjIdeal.Gen.frame m ρ

/-- The same from finite arguments. -/
theorem frame_pi_pre : Cert.quiescent_ProjIdeal_pre_proj_finite := fun m ρ _ => Cert.ProjIdeal.Gen.frame m ρ

/-- The reference runs and leaves its arguments. -/
theorem frame_ri : Cert.quiescent_ProjRefIdeal := fun m ρ _ =>
  (θ_run Cert.ProjRefIdeal.defs _ _).mono (fun r h => ⟨fun c => (h c).2.2.2.2.2.2.2, sem_eq_zero_of_no_sems (by decide) r.2⟩)
    (Cert.ProjRefIdeal.Value.run (F := Ideal) m ρ)

/-- The same from finite arguments. -/
theorem frame_ri_pre : Cert.quiescent_ProjRefIdeal_pre_proj_finite := fun m ρ _ => frame_ri m ρ trivial

/-- The kernel's idealization replaces nothing. -/
theorem preserves : Cert.preserves_Proj_ProjIdeal := by trivial

/-- A number whose absolute value is less than infinity is real. -/
theorem real_of_lt {x : EReal} (h : (FloatOps.cmpf .olt (FloatOps.absf (F := Ideal) (φ := .f32) x) (Ideal.ofBits .f32 0x7F800000#32) : BitVec 1) = 1#1) : Cert.ProjIdeal.Hand.IsReal x := by
  induction x with
  | bot => simp [FloatOps.cmpf, FloatOps.absf, Ideal.ofBits, Ideal.ieee] at h; simp [Ideal.cmp] at h
  | top => simp [FloatOps.cmpf, FloatOps.absf, Ideal.ofBits, Ideal.ieee] at h; simp [Ideal.cmp] at h
  | coe x => exact ⟨x, rfl⟩

/-- The precondition says that the arguments it names are real. -/
theorem reals (m : (ℓ : Loc Cert.ProjIdeal.nD Cert.ProjIdeal.τ Cert.ProjIdeal.sig) → Buf (Elt Ideal) ℓ)
    (h : Cert.Pre_ProjIdeal_proj_finite m) (c : Dev Cert.ProjIdeal.nD) : Cert.ProjIdeal.Hand.Reals m c :=
  ⟨fun i => real_of_lt (congrFun (h c).1 i), fun i => real_of_lt (congrFun (h c).2.1 i), fun i => real_of_lt (congrFun (h c).2.2.1 i),
    fun i => real_of_lt (congrFun (h c).2.2.2.1 i), fun i => real_of_lt (congrFun (h c).2.2.2.2 i)⟩

set_option maxHeartbeats 4000000 in
/-- From finite arguments the kernel's results are the reference's. -/
theorem algebraic : Cert.algebraic_ProjIdeal_ProjRefIdeal_pre_proj_finite := by
  pair_intro
  · run_from Cert.ProjIdeal.Value.run_blocks m g
  · run_from Cert.ProjRefIdeal.Value.run m' g'
    · rw [Cert.ProjRefIdeal.Hand.resQ_eq, (hagree c).1, (hagree c).2.1, (hagree c).2.2.1, (hagree c).2.2.2.1, (hagree c).2.2.2.2.2.1]
      exact (Cert.ProjIdeal.Hand.final9 m c (reals m hpre c)).symm
    · rw [Cert.ProjRefIdeal.Hand.resK_eq, (hagree c).1, (hagree c).2.1, (hagree c).2.2.1, (hagree c).2.2.2.2.1, (hagree c).2.2.2.2.2.2]
      exact (Cert.ProjIdeal.Hand.final10 m c (reals m hpre c)).symm
    · rw [Cert.ProjRefIdeal.Hand.resV_eq, (hagree c).1, (hagree c).2.1, (hagree c).2.2.1, (hagree c).2.2.2.2.1, (hagree c).2.2.2.2.2.2]
      exact (Cert.ProjIdeal.Hand.final11 m c).symm
    · have e := (Cert.ProjIdeal.Hand.final12 m c).symm
      unfold Cert.ProjIdeal.Hand.La Cert.ProjRefIdeal.Hand.linA Cert.ProjRefIdeal.Hand.lin Cert.ProjRefIdeal.Hand.hid Cert.ProjRefIdeal.Hand.resQs at e
      exact e
    · have e := (Cert.ProjIdeal.Hand.final13 m c).symm
      unfold Cert.ProjIdeal.Hand.La Cert.ProjRefIdeal.Hand.linA Cert.ProjRefIdeal.Hand.lin Cert.ProjRefIdeal.Hand.hid Cert.ProjRefIdeal.Hand.resZ at e
      exact e
    · have e := (Cert.ProjIdeal.Hand.final14 m c).symm
      unfold Cert.ProjIdeal.Hand.La Cert.ProjRefIdeal.Hand.linA Cert.ProjRefIdeal.Hand.lin Cert.ProjRefIdeal.Hand.hid Cert.ProjRefIdeal.Hand.resKs at e
      exact e
    · have e := (Cert.ProjIdeal.Hand.final15 m c).symm
      unfold Cert.ProjIdeal.Hand.La Cert.ProjRefIdeal.Hand.linA Cert.ProjRefIdeal.Hand.lin Cert.ProjRefIdeal.Hand.hid Cert.ProjRefIdeal.Hand.resVs at e
      exact e

end Cert.Proof.ProjClaims

end
-- ==== Proof.MemKvBlock.lean ====
/- One block of the memory's projection, read at one element. -/
module

public import proofs.«01_k».proof.Proof.Gen.MemKvIdeal.Frame
public import Idealize.ShloMosaic.Lib.Pipeline.ValueKit
public import Idealize.ShloMosaic.Lib.Pointwise
public import Idealize.ShloMosaic.Lib.IdealHost

@[expose] public section

set_option maxRecDepth 16384

noncomputable section

namespace Cert.MemKvIdeal.Hand

open Cert.MemKvIdeal Cert.MemKvIdeal.Gen Idealize.ShloMosaic Idealize.ShloMosaic.TcCoe Idealize.SL.Sem

/-- The normed block by the weights, at one element. -/
theorem pay1_at (x : Vec Ideal S1x256x2048 .f32) (g : Vec Ideal S1x2048 .f32) (w : Vec Ideal S2048x1024 .bf16) (r : Fin 256) (n : Fin 1024) :
    k0_pay1 x g w (ix2 r n) = ∑ k : Fin 2048, x (ix3 0 r k) * Ideal.rsqrt (Ideal.div (∑ k, x (ix3 0 r k) * x (ix3 0 r k)) (Ideal.ofBits .f32 0x45000000#32) + Ideal.ofBits .f32 0x358637BD#32) * g (ix2 0 k) * w (ix2 k n) := by
  pointwise [k0_pay1]

/-- The block of keys: the first half of the columns. -/
theorem pay2_at (x : Vec Ideal S1x256x2048 .f32) (g : Vec Ideal S1x2048 .f32) (w : Vec Ideal S2048x1024 .bf16) (r : Fin 256) (e : Fin 512) :
    k0_pay2 x g w (ix3 0 r e) = k0_pay1 x g w (ix2 r ⟨e.val, by omega⟩) := by
  unfold k0_pay2
  generalize k0_pay1 x g w = y
  pointwise

/-- The block of values: the second half of the columns. -/
theorem pay3_at (x : Vec Ideal S1x256x2048 .f32) (g : Vec Ideal S1x2048 .f32) (w : Vec Ideal S2048x1024 .bf16) (r : Fin 256) (e : Fin 512) :
    k0_pay3 x g w (ix3 0 r e) = k0_pay1 x g w (ix2 r ⟨512 + e.val, by omega⟩) := by
  unfold k0_pay3
  generalize k0_pay1 x g w = y
  pointwise

end Cert.MemKvIdeal.Hand

end
-- ==== Proof.MemKvRef.lean ====
/- The reference of the memory's projection, read at one element. -/
module

public import proofs.«01_k».proof.Proof.Gen.MemKvRefIdeal.Run
public import Idealize.ShloMosaic.Lib.Pipeline.ValueKit
public import Idealize.ShloMosaic.Lib.Pointwise
public import Idealize.ShloMosaic.Lib.IdealHost

@[expose] public section

set_option maxRecDepth 16384

noncomputable section

namespace Cert.MemKvRefIdeal.Hand

open Cert.MemKvRefIdeal Cert.MemKvRefIdeal.Gen Idealize.ShloMosaic Idealize.ShloMosaic.TcCoe Idealize.SL.Sem

/-- The normed memory. -/
def hid (x : FVec Ideal S2x256x2048 .f32) (g : FVec Ideal S1x2048 .f32) : FVec Ideal S2x256x2048 .f32 :=
  mulf (mulf x (broadcastInDim S2x256x2048 ![0, 1, 2] bcast_S2x256x1_S2x256x2048_0_1_2 (Host.rsqrt (addf (Host.divf (broadcastInDim S2x256x1 ![0, 1] bcast_S2x256_S2x256x1_0_1 (Host.reduceAdd (mulf x x) (constant S_ .f32 0x00000000#32) reducesTo_S2x256x2048_S2x256_d2 h_S_)) (broadcastInDim S2x256x1 ![] bcast_S_S2x256x1 (constant S_ .f32 0x45000000#32))) (broadcastInDim S2x256x1 ![] bcast_S_S2x256x1 (constant S_ .f32 0x358637BD#32)))))) (broadcastInDim S2x256x2048 ![0, 1, 2] bcast_S1x1x2048_S2x256x2048_0_1_2 (broadcastInDim S1x1x2048 ![2] bcast_S2048_S1x1x2048_2 (shapeCast _ g shapeCasts_S1x2048_S2048)))

/-- The projection of an array by the weights. -/
def lin (x : FVec Ideal S2x256x2048 .f32) (w : FVec Ideal S1x2048x1024 .f32) : FVec Ideal S2x256x1024 .f32 :=
  Host.dotGeneral dot_S2x256x2048_S2048x1024_S2x256x1024_2_0_01_1_n_n none x (shapeCast _ w shapeCasts_S1x2048x1024_S2048x1024)

/-- The memory's keys: the projection's first half. -/
def resK (y : FVec Ideal S2x256x1024 .f32) : FVec Ideal S2x256x512 .bf16 :=
  truncf .bf16 (extractStridedSlice S2x256x512 ![0, 0, 0] y slices_S2x256x1024_S2x256x512_0_0_0) bitsLt_bf16_f32

/-- The memory's values: the projection's second half. -/
def resV (y : FVec Ideal S2x256x1024 .f32) : FVec Ideal S2x256x512 .bf16 :=
  truncf .bf16 (extractStridedSlice S2x256x512 ![0, 0, 512] y slices_S2x256x1024_S2x256x512_0_0_512) bitsLt_bf16_f32

/-- The normed memory at one element. -/
theorem hid_at (x : FVec Ideal S2x256x2048 .f32) (g : FVec Ideal S1x2048 .f32) (b : Fin 2) (r : Fin 256) (k : Fin 2048) :
    hid x g (ix3 b r k) = x (ix3 b r k) * Ideal.rsqrt (Ideal.div (∑ k, x (ix3 b r k) * x (ix3 b r k)) (Ideal.ofBits .f32 0x45000000#32) + Ideal.ofBits .f32 0x358637BD#32) * g (ix2 0 k) := by
  pointwise [hid]

/-- The projection at one element. -/
theorem lin_at (x : FVec Ideal S2x256x2048 .f32) (w : FVec Ideal S1x2048x1024 .f32) (b : Fin 2) (r : Fin 256) (n : Fin 1024) :
    lin x w (ix3 b r n) = ∑ k, x (ix3 b r k) * w (ix3 0 k n) := by
  pointwise [lin]

/-- The keys at one element. -/
theorem resK_at (y : FVec Ideal S2x256x1024 .f32) (b : Fin 2) (r : Fin 256) (e : Fin 512) :
    resK y (ix3 b r e) = y (ix3 b r ⟨e.val, by omega⟩) := by
  pointwise [resK]

/-- The values at one element. -/
theorem resV_at (y : FVec Ideal S2x256x1024 .f32) (b : Fin 2) (r : Fin 256) (e : Fin 512) :
    resV y (ix3 b r e) = y (ix3 b r ⟨512 + e.val, by omega⟩) := by
  pointwise [resV]

end Cert.MemKvRefIdeal.Hand

end
-- ==== Proof.MemKvFinal.lean ====
/- The memory's projection: its output arrays after the run are what the reference computes. -/
module

public import proofs.«01_k».proof.Proof.MemKvBlock
public import proofs.«01_k».proof.Proof.MemKvRef
public import proofs.«01_k».proof.Proof.Gen.MemKvIdeal.Value
public import Idealize.ShloMosaic.Lib.StableHlo.RunRead
public import Idealize.ShloMosaic.Lib.Claim
public import Idealize.ShloMosaic.Lib.Pipeline.ValueKit
public import Idealize.ShloMosaic.Lib.Pointwise
public import Idealize.ShloMosaic.Lib.IdealHost

@[expose] public section

set_option maxRecDepth 16384

noncomputable section

namespace Cert.MemKvIdeal.Hand

open Cert.MemKvIdeal Cert.MemKvIdeal.Gen Idealize.ShloMosaic Idealize.ShloMosaic.TcCoe Idealize.SL.Sem

open Cert.MemKvRefIdeal.Hand (hid lin resK resV hid_at lin_at resK_at resV_at)

/-- Where point `t` of the grid lies: the blocks of its windows. -/
theorem idx : ∀ t : Fin cfg0.N, win0_0.index t = ![t.val, 0, 0] ∧ win0_1.index t = ![0, 0] ∧ win0_2.index t = ![0, 0]
    ∧ win0_3.index t = ![t.val, 0, 0] ∧ win0_4.index t = ![t.val, 0, 0] :=
  (by decide +kernel : ∀ t : Fin grid0.N, _)

variable (m : (ℓ : Loc nD τ sig) → Buf (Elt Ideal) ℓ)

/-- The memory. -/
abbrev X (c : Dev nD) : FVec Ideal S2x256x2048 .f32 := m ((c : Thread nD τ).loc main_arg0)
/-- The norm's gains. -/
abbrev Gm (c : Dev nD) : FVec Ideal S1x2048 .f32 := m ((c : Thread nD τ).loc main_arg1)
/-- The weights. -/
abbrev Wm (c : Dev nD) : FVec Ideal S1x2048x1024 .f32 := m ((c : Thread nD τ).loc main_arg2)

/-- The batch of point `t`. -/
abbrev bt (t : Fin cfg0.N) : Fin 2 := ⟨t.val, t.isLt⟩

/-- The weights as the region finds them. -/
theorem w_entry (c : Dev nD) (k : Fin 2048) (n : Fin 1024) : (V m c main_v1 : Vec Ideal S2048x1024 .bf16) (ix2 k n) = Wm m c (ix3 0 k n) := by
  entry_read
  pointwise

/-- The memory's block. -/
theorem x_blk (c : Dev nD) (t : Fin cfg0.N) (r : Fin 256) (k : Fin 2048) :
    (iblk m c 0 t : Vec Ideal S1x256x2048 .f32) (ix3 0 r k) = X m c (ix3 (bt t) r k) := by
  blk_point [iblk, V, X, idx t]

/-- The gains' block: all of them. -/
theorem g_blk (c : Dev nD) (t : Fin cfg0.N) (k : Fin 2048) :
    (iblk m c 1 t : Vec Ideal S1x2048 .f32) (ix2 0 k) = Gm m c (ix2 0 k) := by
  blk_point [iblk, V, Gm, idx t]

/-- The weights' block: the whole matrix. -/
theorem w_blk (c : Dev nD) (t : Fin cfg0.N) (k : Fin 2048) (n : Fin 1024) :
    (iblk m c 2 t : Vec Ideal S2048x1024 .bf16) (ix2 k n) = Wm m c (ix3 0 k n) := by
  refine Eq.trans (b := (V m c main_v1 : Vec Ideal S2048x1024 .bf16) (ix2 k n)) ?_ (w_entry m c k n)
  generalize hA : (V m c main_v1 : Vec Ideal S2048x1024 .bf16) = A
  have h : (iblk m c 2 t : Vec Ideal S2048x1024 .bf16) = ((cfg0.win 2).blk t).view.read (Elt Ideal) A := by subst hA; rfl
  rw [h]
  blk_point [idx t]

/-- The projection of the normed memory. -/
abbrev Lm (c : Dev nD) : FVec Ideal Cert.MemKvRefIdeal.S2x256x1024 .f32 := lin (hid (X m c) (Gm m c)) (Wm m c)

/-- A block of the projection. -/
theorem lin_blk (c : Dev nD) (t : Fin cfg0.N) (r : Fin 256) (n : Fin 1024) :
    k0_pay1 (iblk m c 0 t) (iblk m c 1 t) (iblk m c 2 t) (ix2 r n) = Lm m c (ix3 (bt t) r n) := by
  unfold Lm
  rw [pay1_at, lin_at]
  simp only [hid_at, x_blk, g_blk, w_blk]

/-- What point `t` leaves in the window of keys. -/
theorem point3 (c : Dev nD) (t : Fin cfg0.N) (r : Fin 256) (e : Fin 512) :
    out0_3 (iblk m c 0 t) (iblk m c 1 t) (iblk m c 2 t) (ix3 0 r e) = resK (Lm m c) (ix3 (bt t) r e) := by
  rw [resK_at, ← lin_blk]
  refine Eq.trans ?_ (pay2_at _ _ _ r e)
  unfold out0_3
  frame_out

/-- What point `t` leaves in the window of values. -/
theorem point4 (c : Dev nD) (t : Fin cfg0.N) (r : Fin 256) (e : Fin 512) :
    out0_4 (iblk m c 0 t) (iblk m c 1 t) (iblk m c 2 t) (ix3 0 r e) = resV (Lm m c) (ix3 (bt t) r e) := by
  rw [resV_at, ← lin_blk]
  refine Eq.trans ?_ (pay3_at _ _ _ r e)
  unfold out0_4
  frame_out

/-- An index of a block, by its row and column. -/
theorem ex512 (x : S1x256x512.Idx) : ∃ (r : Fin 256) (e : Fin 512), x = ix3 0 r e :=
  ⟨x 1, x 2, by
    funext a
    match a with
    | ⟨0, _⟩ => exact Subsingleton.elim (α := Fin 1) _ _
    | ⟨1, _⟩ => rfl
    | ⟨2, _⟩ => rfl⟩

/-- THE KEYS after the run. -/
theorem final3 (c : Dev nD) : (dats m 0 c).arrAt 3 (cfgs 0).N = resK (Lm m c) := by
  refine (dats m 0 c).arrAt_eq_of_covers 3 _ (by decide +kernel) fun t _ y => ?_
  blk_simp
  rw [after0_3]
  obtain ⟨r, e, rfl⟩ := ex512 y
  refine (point3 m c t r e).trans ?_
  generalize resK (Lm m c) = R
  blk_point [idx t]

/-- THE VALUES after the run. -/
theorem final4 (c : Dev nD) : (dats m 0 c).arrAt 4 (cfgs 0).N = resV (Lm m c) := by
  refine (dats m 0 c).arrAt_eq_of_covers 4 _ (by decide +kernel) fun t _ y => ?_
  blk_simp
  rw [after0_4]
  obtain ⟨r, e, rfl⟩ := ex512 y
  refine (point4 m c t r e).trans ?_
  generalize resV (Lm m c) = R
  blk_point [idx t]

end Cert.MemKvIdeal.Hand

end
-- ==== Proof.MemKvClaims.lean ====
/- The claims about the memory's projection. -/
module

public import proofs.«01_k».proof.Defs
public import proofs.«01_k».proof.Proof.MemKvFinal
public import proofs.«01_k».proof.Proof.Gen.MemKv.Frame
public import proofs.«01_k».proof.Proof.Gen.MemKvIdeal.Frame
public import proofs.«01_k».proof.Proof.Gen.MemKvIdeal.Value
public import proofs.«01_k».proof.Proof.Gen.MemKvRefIdeal.Run
public import Idealize.ShloMosaic.Lib.Claim

@[expose] public section

noncomputable section

namespace Cert.Proof.MemKvClaims

open Idealize.ShloMosaic Idealize.ShloMosaic.TcCoe Idealize.SL.Sem

/-- The kernel runs and leaves its arguments. -/
theorem frame_p : Cert.quiescent_MemKv := fun m ρ _ => Cert.MemKv.Gen.frame m ρ

/-- The idealized kernel runs and leaves its arguments. -/
theorem frame_pi : Cert.quiescent_MemKvIdeal := fun m ρ _ => Cert.MemKvIdeal.Gen.frame m ρ

/-- The reference runs and leaves its arguments. -/
theorem frame_ri : Cert.quiescent_MemKvRefIdeal := fun m ρ _ =>
  (θ_run Cert.MemKvRefIdeal.defs _ _).mono (fun r h => ⟨fun c => (h c).2.2, sem_eq_zero_of_no_sems (by decide) r.2⟩)
    (Cert.MemKvRefIdeal.Value.run (F := Ideal) m ρ)

/-- Nothing was rewritten. -/
theorem preserves : Cert.preserves_MemKv_MemKvIdeal := by
  trivial

/-- The kernel's results are the reference's. -/
theorem algebraic : Cert.algebraic_MemKvIdeal_MemKvRefIdeal := by
  pair_intro
  · run_from Cert.MemKvIdeal.Value.run_blocks m g
  · run_from Cert.MemKvRefIdeal.Value.run m' g'
    · have e := (Cert.MemKvIdeal.Hand.final3 m c).symm
      unfold Cert.MemKvIdeal.Hand.Lm Cert.MemKvRefIdeal.Hand.lin Cert.MemKvRefIdeal.Hand.hid Cert.MemKvRefIdeal.Hand.resK at e
      exact e
    · have e := (Cert.MemKvIdeal.Hand.final4 m c).symm
      unfold Cert.MemKvIdeal.Hand.Lm Cert.MemKvRefIdeal.Hand.lin Cert.MemKvRefIdeal.Hand.hid Cert.MemKvRefIdeal.Hand.resV at e
      exact e

end Cert.Proof.MemKvClaims

end
-- ==== Proof.MemAttnBlock.lean ====
/- One head of a block of the attention over the memory, read at one element. -/
module

public import proofs.«01_k».proof.Proof.Gen.MemAttnIdeal.Frame
public import proofs.«01_k».proof.Proof.MlaRef
public import Idealize.ShloMosaic.Lib.Pipeline.ValueKit
public import Idealize.ShloMosaic.Lib.Pointwise
public import Idealize.ShloMosaic.Lib.IdealHost

@[expose] public section

set_option maxRecDepth 16384

noncomputable section

namespace Cert.MemAttnIdeal.Hand

open Cert.MemAttnIdeal Cert.MemAttnIdeal.Gen Idealize.ShloMosaic Idealize.ShloMosaic.TcCoe Idealize.SL.Sem

open Cert.MlaRefIdeal.Hand (ninf fold_max)

/-- The score of key `j` for row `r` of a block. -/
def sc (q : Vec Ideal S1x512x128 .bf16) (k : Vec Ideal S1x256x128 .bf16) (r : Fin 512) (j : Fin 256) : EReal :=
  (∑ d : Fin 128, q (ix3 0 r d) * k (ix3 0 j d)) * Ideal.ofBits .f32 0x3DB504F3#32

/-- One head's result: the values weighted by the exponentials, each multiplied by the inverse of their sum. -/
def headB (q : Vec Ideal S1x512x128 .bf16) (k : Vec Ideal S1x256x128 .bf16) (v : Vec Ideal S1x256x128 .bf16) (r : Fin 512) (e : Fin 128) : EReal :=
  ∑ j : Fin 256, Ideal.exp (sc q k r j - Finset.univ.sup (sc q k r)) *
    Ideal.div 1 (∑ j : Fin 256, Ideal.exp (sc q k r j - Finset.univ.sup (sc q k r))) * v (ix3 0 j e)

/-- What is stored for the first head, at one element. -/
theorem head0_at (q : Vec Ideal S1x512x128 .bf16) (k : Vec Ideal S1x256x128 .bf16) (v : Vec Ideal S1x256x128 .bf16) (r : Fin 512) (e : Fin 128) :
    k0_pay2 q k v (ix3 0 r e) = headB q k v r e := by
  unfold headB sc
  pointwise [k0_pay2]
  simp only [ninf, fold_max]

/-- What is stored for the second head, at one element. -/
theorem head1_at (q : Vec Ideal S1x512x128 .bf16) (k : Vec Ideal S1x256x128 .bf16) (v : Vec Ideal S1x256x128 .bf16) (r : Fin 512) (e : Fin 128) :
    k0_pay4 (k0_pay3 q k) (Scalar.ofBits .f32 0x3DB504F3#32) v (ix3 0 r e) = headB q k v r e := by
  unfold headB sc
  pointwise [k0_pay3, k0_pay4]
  simp only [ninf, fold_max]

/-- What is stored for the third head, at one element. -/
theorem head2_at (q : Vec Ideal S1x512x128 .bf16) (k : Vec Ideal S1x256x128 .bf16) (v : Vec Ideal S1x256x128 .bf16) (r : Fin 512) (e : Fin 128) :
    k0_pay7 (k0_pay5 q k) (k0_pay6 q k) v (ix3 0 r e) = headB q k v r e := by
  unfold headB sc
  pointwise [k0_pay5, k0_pay6, k0_pay7]
  simp only [ninf, fold_max]

/-- What is stored for the fourth head, at one element. -/
theorem head3_at (q : Vec Ideal S1x512x128 .bf16) (k : Vec Ideal S1x256x128 .bf16) (v : Vec Ideal S1x256x128 .bf16) (r : Fin 512) (e : Fin 128) :
    k0_pay1 (k0_pay8 q k v) (ix3 0 r e) = headB q k v r e := by
  unfold headB sc
  pointwise [k0_pay1, k0_pay8]
  simp only [ninf, fold_max]

end Cert.MemAttnIdeal.Hand

end
-- ==== Proof.MemAttnRef.lean ====
/- The reference of the attention over the memory, read at one element: the softmax attention of one query over the
   memory's keys. -/
module

public import proofs.«01_k».proof.Proof.Gen.MemAttnRefIdeal.Run
public import proofs.«01_k».proof.Proof.MlaRef
public import Idealize.ShloMosaic.Lib.Pipeline.ValueKit
public import Idealize.ShloMosaic.Lib.Pointwise
public import Idealize.ShloMosaic.Lib.IdealHost

@[expose] public section

set_option maxRecDepth 16384

noncomputable section

namespace Cert.MemAttnRefIdeal.Hand

open Cert.MemAttnRefIdeal Cert.MemAttnRefIdeal.Gen Idealize.ShloMosaic Idealize.ShloMosaic.TcCoe Idealize.SL.Sem

open Cert.MlaRefIdeal.Hand (ninf)

/-- The scores. -/
def scores (q : FVec Ideal S2x4096x1024 .bf16) (k : FVec Ideal S2x256x512 .bf16) : FVec Ideal S2x4x4096x256 .f32 :=
  mulf (Host.dotGeneral dot_S2x4096x4x128_S2x256x4x128_S2x4x4096x256_3_3_1_1_02_02 none (shapeCast _ (extf .f32 (extractStridedSlice S2x4096x512 ![0, 0, 512] q slices_S2x4096x1024_S2x4096x512_0_0_512) bitsLt_bf16_f32) shapeCasts_S2x4096x512_S2x4096x4x128) (shapeCast _ (extf .f32 k bitsLt_bf16_f32) shapeCasts_S2x256x512_S2x256x4x128)) (broadcastInDim S2x4x4096x256 ![] bcast_S_S2x4x4096x256 (constant S_ .f32 0x3DB504F3#32))

/-- The largest score of each query. -/
def top (s : FVec Ideal S2x4x4096x256 .f32) : FVec Ideal S2x4x4096 .f32 :=
  maximumf (broadcastInDim S2x4x4096 ![] bcast_S_S2x4x4096 (constant S_ .f32 0xFF800000#32)) (Host.reduce FloatOps.maximumf s (constant S_ .f32 0xFF800000#32) reducesTo_S2x4x4096x256_S2x4x4096_d3 h_S_)

/-- The exponentials of the scores relative to the largest. -/
def pexp (s : FVec Ideal S2x4x4096x256 .f32) : FVec Ideal S2x4x4096x256 .f32 :=
  Host.exp (subf s (broadcastInDim S2x4x4096x256 ![0, 1, 2, 3] bcast_S2x4x4096x1_S2x4x4096x256_0_1_2_3 (broadcastInDim S2x4x4096x1 ![0, 1, 2] bcast_S2x4x4096_S2x4x4096x1_0_1_2 (top s))))

/-- The exponentials over their sum. -/
def prob (p : FVec Ideal S2x4x4096x256 .f32) : FVec Ideal S2x4x4096x256 .f32 :=
  Host.divf p (broadcastInDim S2x4x4096x256 ![0, 1, 2, 3] bcast_S2x4x4096x1_S2x4x4096x256_0_1_2_3 (broadcastInDim S2x4x4096x1 ![0, 1, 2] bcast_S2x4x4096_S2x4x4096x1_0_1_2 (Host.reduceAdd p (constant S_ .f32 0x00000000#32) reducesTo_S2x4x4096x256_S2x4x4096_d3 h_S_)))

/-- The values weighted. -/
def mix (p : FVec Ideal S2x4x4096x256 .f32) (v : FVec Ideal S2x256x512 .bf16) : FVec Ideal S2x4096x512 .bf16 :=
  truncf .bf16 (shapeCast _ (transpose S2x4096x4x128 [0, 3, 1, 2] (Host.dotGeneral dot_S2x256x4x128_S2x4x4096x256_S2x4x128x4096_1_3_3_2_02_01 none (shapeCast _ (extf .f32 v bitsLt_bf16_f32) shapeCasts_S2x256x512_S2x256x4x128) p) transposes_S2x4x128x4096_S2x4096x4x128_0_3_1_2) shapeCasts_S2x4096x4x128_S2x4096x512) bitsLt_bf16_f32

/-- The whole attention. -/
def attn (q : FVec Ideal S2x4096x1024 .bf16) (k : FVec Ideal S2x256x512 .bf16) (v : FVec Ideal S2x256x512 .bf16) : FVec Ideal S2x4096x512 .bf16 := mix (prob (pexp (scores q k))) v

/-- The score of key `j` for query `r`. -/
def score (q : FVec Ideal S2x4096x1024 .bf16) (k : FVec Ideal S2x256x512 .bf16) (b : Fin 2) (h : Fin 4) (r : Fin 4096) (j : Fin 256) : EReal :=
  (∑ d : Fin 128, q (ix3 b r ⟨512 + (h.val * 128 + d.val), by omega⟩) * k (ix3 b j ⟨h.val * 128 + d.val, by omega⟩)) * Ideal.ofBits .f32 0x3DB504F3#32

/-- The score of one query and one key of a head. -/
theorem scores_at (q : FVec Ideal S2x4096x1024 .bf16) (k : FVec Ideal S2x256x512 .bf16) (b : Fin 2) (h : Fin 4) (r : Fin 4096) (j : Fin 256) :
    scores q k (ix4 b h r j) = score q k b h r j := by
  unfold score
  pointwise [scores]

/-- A maximum with a constant that is minus infinity changes nothing. -/
theorem low (y : FVec Ideal S2x4x4096 .f32) (c : FVec Ideal S_ .f32) (hc : c ix0 = (⊥ : EReal)) (b : Fin 2) (h : Fin 4) (r : Fin 4096) :
    maximumf (broadcastInDim S2x4x4096 ![] bcast_S_S2x4x4096 c) y (ix3 b h r) = y (ix3 b h r) := by
  have : maximumf (broadcastInDim S2x4x4096 ![] bcast_S_S2x4x4096 c) y (ix3 b h r) = max (c ix0) (y (ix3 b h r)) := by
    pointwise []
  rw [this, hc]
  exact max_eq_right bot_le

/-- A maximum over the last of four axes, from minus infinity, is the supremum along that axis. -/
theorem reduce_max (s : FVec Ideal S2x4x4096x256 .f32) (init : FVec Ideal S_ .f32) (hi : init (Shape.Idx.first h_S_) = (⊥ : EReal)) (b : Fin 2) (h : Fin 4) (r : Fin 4096) :
    Host.reduce FloatOps.maximumf s init reducesTo_S2x4x4096x256_S2x4x4096_d3 h_S_ (ix3 b h r) = Finset.univ.sup fun l : Fin 256 => (s (ix4 b h r l) : EReal) := by
  rw [Host.reduce_eq_fold, reducesTo_S2x4x4096x256_S2x4x4096_d3.fold_fiber_r4_a3, hi]
  rfl

/-- The largest score of a query. -/
theorem top_at (s : FVec Ideal S2x4x4096x256 .f32) (b : Fin 2) (h : Fin 4) (r : Fin 4096) :
    top s (ix3 b h r) = Finset.univ.sup fun j => s (ix4 b h r j) := by
  unfold top
  exact (low _ _ ninf b h r).trans (reduce_max s _ ninf b h r)

/-- The exponential of one score less the maximum of its row. -/
theorem pexp_at (s : FVec Ideal S2x4x4096x256 .f32) (b : Fin 2) (h : Fin 4) (r : Fin 4096) (j : Fin 256) :
    pexp s (ix4 b h r j) = Ideal.exp (s (ix4 b h r j) - top s (ix3 b h r)) := by
  pointwise [pexp]

/-- The probability of one key: its exponential over the sum of its row. -/
theorem prob_at (p : FVec Ideal S2x4x4096x256 .f32) (b : Fin 2) (h : Fin 4) (r : Fin 4096) (j : Fin 256) :
    prob p (ix4 b h r j) = Ideal.div (p (ix4 b h r j)) (∑ j, p (ix4 b h r j)) := by
  pointwise [prob]

/-- One element of the result: the sum of the values weighted by the probabilities. -/
theorem mix_at (p : FVec Ideal S2x4x4096x256 .f32) (v : FVec Ideal S2x256x512 .bf16) (b : Fin 2) (h : Fin 4) (r : Fin 4096) (e : Fin 128) :
    mix p v (ix3 b r ⟨128 * h.val + e.val, by omega⟩) = ∑ j, v (ix3 b j ⟨h.val * 128 + e.val, by omega⟩) * p (ix4 b h r j) := by
  pointwise [mix]

/-- The attention at one element: the values weighted by the softmax of the scores. -/
theorem attn_at (q : FVec Ideal S2x4096x1024 .bf16) (k : FVec Ideal S2x256x512 .bf16) (v : FVec Ideal S2x256x512 .bf16) (b : Fin 2) (h : Fin 4) (r : Fin 4096) (e : Fin 128) :
    attn q k v (ix3 b r ⟨128 * h.val + e.val, by omega⟩) =
      ∑ j, v (ix3 b j ⟨h.val * 128 + e.val, by omega⟩) *
        Ideal.div (Ideal.exp (score q k b h r j - Finset.univ.sup (score q k b h r)))
          (∑ j, Ideal.exp (score q k b h r j - Finset.univ.sup (score q k b h r))) := by
  unfold attn
  rw [mix_at]
  simp only [prob_at, pexp_at, top_at, scores_at]

end Cert.MemAttnRefIdeal.Hand

end
-- ==== Proof.MemAttnFinal.lean ====
/- The attention over the memory: its output array after the run is the reference's result, from finite queries and keys. -/
module

public import proofs.«01_k».proof.Proof.MemAttnBlock
public import proofs.«01_k».proof.Proof.MemAttnRef
public import proofs.«01_k».proof.Proof.Softmax
public import proofs.«01_k».proof.Proof.Gen.MemAttnIdeal.Value
public import Idealize.ShloMosaic.Lib.Pipeline.ValueKit
public import Idealize.ShloMosaic.Lib.Pointwise
public import Idealize.ShloMosaic.Lib.IdealHost

@[expose] public section

set_option maxRecDepth 16384

noncomputable section

namespace Cert.MemAttnIdeal.Hand

open Cert.MemAttnIdeal Cert.MemAttnIdeal.Gen Idealize.ShloMosaic Idealize.ShloMosaic.TcCoe Idealize.SL.Sem

open Cert.MemAttnRefIdeal.Hand (attn score attn_at)

/-- Where point `t` of the grid lies: the blocks of its windows. -/
theorem idx : ∀ t : Fin cfg0.N, win0_0.index t = ![t.val / 8, t.val % 8, 1] ∧ win0_1.index t = ![t.val / 8, 0, 0]
    ∧ win0_2.index t = ![t.val / 8, 0, 0] ∧ win0_3.index t = ![t.val / 8, t.val % 8, 0] :=
  (by decide +kernel : ∀ t : Fin grid0.N, _)

variable (m : (ℓ : Loc nD τ sig) → Buf (Elt Ideal) ℓ)

/-- The queries, those of the local attention before them. -/
abbrev Q (c : Dev nD) : FVec Ideal S2x4096x1024 .bf16 := m ((c : Thread nD τ).loc main_arg0)
/-- The memory's keys. -/
abbrev K (c : Dev nD) : FVec Ideal S2x256x512 .bf16 := m ((c : Thread nD τ).loc main_arg1)
/-- The memory's values. -/
abbrev W (c : Dev nD) : FVec Ideal S2x256x512 .bf16 := m ((c : Thread nD τ).loc main_arg2)

/-- The batch of point `t`. -/
abbrev bt (t : Fin cfg0.N) : Fin 2 := ⟨t.val / 8, by have : t.val < 16 := t.isLt; omega⟩
/-- The query of row `r` of point `t`'s tile. -/
abbrev row (t : Fin cfg0.N) (r : Fin 512) : Fin 4096 := ⟨512 * (t.val % 8) + r.val, by omega⟩

/-- The block of queries. -/
theorem q_blk (c : Dev nD) (t : Fin cfg0.N) (r n : Fin 512) :
    (iblk m c 0 t : Vec Ideal S1x512x512 .bf16) (ix3 0 r n) = Q m c (ix3 (bt t) (row t r) ⟨512 + n.val, by omega⟩) := by
  blk_point [iblk, V, Q, idx t]

/-- The block of keys: all of one batch. -/
theorem k_blk (c : Dev nD) (t : Fin cfg0.N) (j : Fin 256) (n : Fin 512) :
    (iblk m c 1 t : Vec Ideal S1x256x512 .bf16) (ix3 0 j n) = K m c (ix3 (bt t) j n) := by
  blk_point [iblk, V, K, idx t]

/-- The block of values: all of one batch. -/
theorem v_blk (c : Dev nD) (t : Fin cfg0.N) (j : Fin 256) (n : Fin 512) :
    (iblk m c 2 t : Vec Ideal S1x256x512 .bf16) (ix3 0 j n) = W m c (ix3 (bt t) j n) := by
  blk_point [iblk, V, W, idx t]

/-- The first head's columns of a block of queries. -/
theorem ldq0 (x : Vec Ideal S1x512x512 .bf16) (r : Fin 512) (d : Fin 128) :
    (View.ld x r0_0 : Vec Ideal S1x512x128 .bf16) (ix3 0 r d) = x (ix3 0 r ⟨0 * 128 + d.val, by omega⟩) := by
  unfold r0_0
  rw [View.ld_unit]
  pointwise

/-- The first head's columns of a block of keys or values. -/
theorem ldk0 (x : Vec Ideal S1x256x512 .bf16) (r : Fin 256) (d : Fin 128) :
    (View.ld x r0_1 : Vec Ideal S1x256x128 .bf16) (ix3 0 r d) = x (ix3 0 r ⟨0 * 128 + d.val, by omega⟩) := by
  unfold r0_1
  rw [View.ld_unit]
  pointwise

/-- Where the store of the first head puts an element. -/
theorem emb0 (r : Fin 512) (e : Fin 128) : r0_0.emb (ix3 0 r e) = (ix3 0 r ⟨128 * 0 + e.val, by omega⟩ : S1x512x512.Idx) := by
  funext a
  match a with
  | ⟨0, _⟩ => exact Subsingleton.elim (α := Fin 1) _ _
  | ⟨1, _⟩ => exact Fin.ext (by show 0 + 1 * r.val = r.val; omega)
  | ⟨2, _⟩ => exact Fin.ext (by show 0 + 1 * e.val = 128 * 0 + e.val; omega)

/-- The second head's columns of a block of queries. -/
theorem ldq1 (x : Vec Ideal S1x512x512 .bf16) (r : Fin 512) (d : Fin 128) :
    (View.ld x r0_2 : Vec Ideal S1x512x128 .bf16) (ix3 0 r d) = x (ix3 0 r ⟨1 * 128 + d.val, by omega⟩) := by
  unfold r0_2
  rw [View.ld_unit]
  pointwise

/-- The second head's columns of a block of keys or values. -/
theorem ldk1 (x : Vec Ideal S1x256x512 .bf16) (r : Fin 256) (d : Fin 128) :
    (View.ld x r0_3 : Vec Ideal S1x256x128 .bf16) (ix3 0 r d) = x (ix3 0 r ⟨1 * 128 + d.val, by omega⟩) := by
  unfold r0_3
  rw [View.ld_unit]
  pointwise

/-- Where the store of the second head puts an element. -/
theorem emb1 (r : Fin 512) (e : Fin 128) : r0_2.emb (ix3 0 r e) = (ix3 0 r ⟨128 * 1 + e.val, by omega⟩ : S1x512x512.Idx) := by
  funext a
  match a with
  | ⟨0, _⟩ => exact Subsingleton.elim (α := Fin 1) _ _
  | ⟨1, _⟩ => exact Fin.ext (by show 0 + 1 * r.val = r.val; omega)
  | ⟨2, _⟩ => exact Fin.ext (by show 128 + 1 * e.val = 128 * 1 + e.val; omega)

/-- The third head's columns of a block of queries. -/
theorem ldq2 (x : Vec Ideal S1x512x512 .bf16) (r : Fin 512) (d : Fin 128) :
    (View.ld x r0_4 : Vec Ideal S1x512x128 .bf16) (ix3 0 r d) = x (ix3 0 r ⟨2 * 128 + d.val, by omega⟩) := by
  unfold r0_4
  rw [View.ld_unit]
  pointwise

/-- The third head's columns of a block of keys or values. -/
theorem ldk2 (x : Vec Ideal S1x256x512 .bf16) (r : Fin 256) (d : Fin 128) :
    (View.ld x r0_5 : Vec Ideal S1x256x128 .bf16) (ix3 0 r d) = x (ix3 0 r ⟨2 * 128 + d.val, by omega⟩) := by
  unfold r0_5
  rw [View.ld_unit]
  pointwise

/-- Where the store of the third head puts an element. -/
theorem emb2 (r : Fin 512) (e : Fin 128) : r0_4.emb (ix3 0 r e) = (ix3 0 r ⟨128 * 2 + e.val, by omega⟩ : S1x512x512.Idx) := by
  funext a
  match a with
  | ⟨0, _⟩ => exact Subsingleton.elim (α := Fin 1) _ _
  | ⟨1, _⟩ => exact Fin.ext (by show 0 + 1 * r.val = r.val; omega)
  | ⟨2, _⟩ => exact Fin.ext (by show 256 + 1 * e.val = 128 * 2 + e.val; omega)

/-- The fourth head's columns of a block of queries. -/
theorem ldq3 (x : Vec Ideal S1x512x512 .bf16) (r : Fin 512) (d : Fin 128) :
    (View.ld x r0_6 : Vec Ideal S1x512x128 .bf16) (ix3 0 r d) = x (ix3 0 r ⟨3 * 128 + d.val, by omega⟩) := by
  unfold r0_6
  rw [View.ld_unit]
  pointwise

/-- The fourth head's columns of a block of keys or values. -/
theorem ldk3 (x : Vec Ideal S1x256x512 .bf16) (r : Fin 256) (d : Fin 128) :
    (View.ld x r0_7 : Vec Ideal S1x256x128 .bf16) (ix3 0 r d) = x (ix3 0 r ⟨3 * 128 + d.val, by omega⟩) := by
  unfold r0_7
  rw [View.ld_unit]
  pointwise

/-- Where the store of the fourth head puts an element. -/
theorem emb3 (r : Fin 512) (e : Fin 128) : r0_6.emb (ix3 0 r e) = (ix3 0 r ⟨128 * 3 + e.val, by omega⟩ : S1x512x512.Idx) := by
  funext a
  match a with
  | ⟨0, _⟩ => exact Subsingleton.elim (α := Fin 1) _ _
  | ⟨1, _⟩ => exact Fin.ext (by show 0 + 1 * r.val = r.val; omega)
  | ⟨2, _⟩ => exact Fin.ext (by show 384 + 1 * e.val = 128 * 3 + e.val; omega)

/-- The scale of the scores is a real. -/
theorem scale_real : ∃ s : ℝ, Ideal.ofBits .f32 0x3DB504F3#32 = (s : EReal) := by
  simp only [Ideal.ofBits, Ideal.ieee]
  norm_num
  exact ⟨_, rfl⟩

/-- The scores of finite queries and keys are reals. -/
theorem score_real (q : FVec Ideal S2x4096x1024 .bf16) (k : FVec Ideal S2x256x512 .bf16) (hq : ∀ i, ∃ r : ℝ, q i = (r : EReal)) (hk : ∀ i, ∃ r : ℝ, k i = (r : EReal))
    (b : Fin 2) (h : Fin 4) (r : Fin 4096) (j : Fin 256) : ∃ x : ℝ, score q k b h r j = (x : EReal) := by
  choose q' hq using hq
  choose k' hk using hk
  obtain ⟨s, hs⟩ := scale_real
  unfold score
  rw [hs]
  simp only [hq, hk, ← EReal.coe_mul, Cert.Online.sum_coe]
  exact ⟨_, rfl⟩

/-- The sum of the exponentials of finite queries and keys is not zero. -/
theorem den_ne (q : FVec Ideal S2x4096x1024 .bf16) (k : FVec Ideal S2x256x512 .bf16) (hq : ∀ i, ∃ r : ℝ, q i = (r : EReal)) (hk : ∀ i, ∃ r : ℝ, k i = (r : EReal)) (b : Fin 2) (h : Fin 4) (r : Fin 4096) :
    ∑ j, Ideal.exp (score q k b h r j - Finset.univ.sup (score q k b h r)) ≠ 0 := by
  have ht : ∀ j, score q k b h r j ≠ ⊤ := fun j => by
    obtain ⟨x, hx⟩ := score_real q k hq hk b h r j
    rw [hx]; exact EReal.coe_ne_top x
  have hb : score q k b h r 0 ≠ ⊥ := by
    obtain ⟨x, hx⟩ := score_real q k hq hk b h r 0
    rw [hx]; exact EReal.coe_ne_bot x
  obtain ⟨M, hM⟩ := Cert.Online.sup_real (score q k b h r) ht 0 hb
  obtain ⟨p, _, _, hl, hs⟩ := Cert.Online.exps_real (score q k b h r) ht 0 hb M
  rw [hM, hs]
  exact_mod_cast hl.ne'

/-- One head of a block whose queries, keys and values are those of head `h` is the reference's head. -/
theorem head_eq (q : FVec Ideal S2x4096x1024 .bf16) (k : FVec Ideal S2x256x512 .bf16) (v : FVec Ideal S2x256x512 .bf16) (hq : ∀ i, ∃ r : ℝ, q i = (r : EReal)) (hk : ∀ i, ∃ r : ℝ, k i = (r : EReal)) (b : Fin 2) (h : Fin 4) (r : Fin 4096)
    (qb : Vec Ideal S1x512x128 .bf16) (kb vb : Vec Ideal S1x256x128 .bf16) (i : Fin 512) (e : Fin 128)
    (h0 : ∀ d : Fin 128, qb (ix3 0 i d) = q (ix3 b r ⟨512 + (h.val * 128 + d.val), by omega⟩))
    (h1 : ∀ (j : Fin 256) (d : Fin 128), kb (ix3 0 j d) = k (ix3 b j ⟨h.val * 128 + d.val, by omega⟩))
    (h2 : ∀ (j : Fin 256) (d : Fin 128), vb (ix3 0 j d) = v (ix3 b j ⟨h.val * 128 + d.val, by omega⟩)) :
    headB qb kb vb i e = attn q k v (ix3 b r ⟨128 * h.val + e.val, by omega⟩) := by
  rw [attn_at]
  have hs : sc qb kb i = score q k b h r := by
    funext j
    unfold sc score
    simp only [h0, h1]
  unfold headB
  rw [hs]
  refine Finset.sum_congr rfl fun j _ => ?_
  rw [Ideal.mul_one_div (den_ne q k hq hk b h r), h2, mul_comm]

/-- The queries and the keys are reals. -/
abbrev Reals (c : Dev nD) : Prop := (∀ i, ∃ r : ℝ, Q m c i = (r : EReal)) ∧ (∀ i, ∃ r : ℝ, K m c i = (r : EReal))

/-- What the reference computes from the arguments. -/
abbrev R (c : Dev nD) : FVec Ideal S2x4096x512 .bf16 := attn (Q m c) (K m c) (W m c)

/-- An index of 512 rows of a head, by its row and column. -/
theorem ex128 (x : S1x512x128.Idx) : ∃ (r : Fin 512) (e : Fin 128), x = ix3 0 r e :=
  ⟨x 1, x 2, by
    funext a
    match a with
    | ⟨0, _⟩ => exact Subsingleton.elim (α := Fin 1) _ _
    | ⟨1, _⟩ => rfl
    | ⟨2, _⟩ => rfl⟩

/-- An index of a block, by its row and column. -/
theorem ex512 (x : S1x512x512.Idx) : ∃ (r : Fin 512) (e : Fin 512), x = ix3 0 r e :=
  ⟨x 1, x 2, by
    funext a
    match a with
    | ⟨0, _⟩ => exact Subsingleton.elim (α := Fin 1) _ _
    | ⟨1, _⟩ => rfl
    | ⟨2, _⟩ => rfl⟩

/-- The first head of point `t`'s block is the reference's. -/
theorem blk0 (c : Dev nD) (H : Reals m c) (t : Fin cfg0.N) (r : Fin 512) (e : Fin 128) :
    headB (View.ld (iblk m c 0 t) r0_0) (View.ld (iblk m c 1 t) r0_1) (View.ld (iblk m c 2 t) r0_1) r e
      = R m c (ix3 (bt t) (row t r) ⟨128 * 0 + e.val, by omega⟩) :=
  head_eq (Q m c) (K m c) (W m c) H.1 H.2 (bt t) 0 (row t r) _ _ _ r e
    (fun d => (ldq0 _ r d).trans (q_blk m c t r ⟨0 * 128 + d.val, by omega⟩))
    (fun j d => (ldk0 _ j d).trans (k_blk m c t j ⟨0 * 128 + d.val, by omega⟩))
    (fun j d => (ldk0 _ j d).trans (v_blk m c t j ⟨0 * 128 + d.val, by omega⟩))

/-- The second head of point `t`'s block is the reference's. -/
theorem blk1 (c : Dev nD) (H : Reals m c) (t : Fin cfg0.N) (r : Fin 512) (e : Fin 128) :
    headB (View.ld (iblk m c 0 t) r0_2) (View.ld (iblk m c 1 t) r0_3) (View.ld (iblk m c 2 t) r0_3) r e
      = R m c (ix3 (bt t) (row t r) ⟨128 * 1 + e.val, by omega⟩) :=
  head_eq (Q m c) (K m c) (W m c) H.1 H.2 (bt t) 1 (row t r) _ _ _ r e
    (fun d => (ldq1 _ r d).trans (q_blk m c t r ⟨1 * 128 + d.val, by omega⟩))
    (fun j d => (ldk1 _ j d).trans (k_blk m c t j ⟨1 * 128 + d.val, by omega⟩))
    (fun j d => (ldk1 _ j d).trans (v_blk m c t j ⟨1 * 128 + d.val, by omega⟩))

/-- The third head of point `t`'s block is the reference's. -/
theorem blk2 (c : Dev nD) (H : Reals m c) (t : Fin cfg0.N) (r : Fin 512) (e : Fin 128) :
    headB (View.ld (iblk m c 0 t) r0_4) (View.ld (iblk m c 1 t) r0_5) (View.ld (iblk m c 2 t) r0_5) r e
      = R m c (ix3 (bt t) (row t r) ⟨128 * 2 + e.val, by omega⟩) :=
  head_eq (Q m c) (K m c) (W m c) H.1 H.2 (bt t) 2 (row t r) _ _ _ r e
    (fun d => (ldq2 _ r d).trans (q_blk m c t r ⟨2 * 128 + d.val, by omega⟩))
    (fun j d => (ldk2 _ j d).trans (k_blk m c t j ⟨2 * 128 + d.val, by omega⟩))
    (fun j d => (ldk2 _ j d).trans (v_blk m c t j ⟨2 * 128 + d.val, by omega⟩))

/-- The fourth head of point `t`'s block is the reference's. -/
theorem blk3 (c : Dev nD) (H : Reals m c) (t : Fin cfg0.N) (r : Fin 512) (e : Fin 128) :
    headB (View.ld (iblk m c 0 t) r0_6) (View.ld (iblk m c 1 t) r0_7) (View.ld (iblk m c 2 t) r0_7) r e
      = R m c (ix3 (bt t) (row t r) ⟨128 * 3 + e.val, by omega⟩) :=
  head_eq (Q m c) (K m c) (W m c) H.1 H.2 (bt t) 3 (row t r) _ _ _ r e
    (fun d => (ldq3 _ r d).trans (q_blk m c t r ⟨3 * 128 + d.val, by omega⟩))
    (fun j d => (ldk3 _ j d).trans (k_blk m c t j ⟨3 * 128 + d.val, by omega⟩))
    (fun j d => (ldk3 _ j d).trans (v_blk m c t j ⟨3 * 128 + d.val, by omega⟩))

set_option maxHeartbeats 2000000 in
/-- What point `t` leaves in the output window is the reference's block. -/
theorem point (c : Dev nD) (H : Reals m c) (t : Fin cfg0.N) (r e : Fin 512) :
    out0_3 (iblk m c 0 t) (iblk m c 1 t) (iblk m c 2 t) (ix3 0 r e) = R m c (ix3 (bt t) (row t r) e) := by
  unfold out0_3
  refine View.canon_apply_of_pieces (Val := Elt Ideal) (fun y : S1x512x512.Idx => R m c (ix3 (bt t) (row t (y 1)) (y 2))) _ ?_ (ix3 0 r e) (cover0_3 _ _ _ _ (ix3 0 r e))
  refine List.forall_mem_cons.2 ⟨?_, ?_⟩
  · intro x
    obtain ⟨r, e, rfl⟩ := ex128 x
    refine Eq.trans ?_ (congrArg (fun y : S1x512x512.Idx => R m c (ix3 (bt t) (row t (y 1)) (y 2))) (emb3 r e)).symm
    exact (head3_at _ _ _ r e).trans (blk3 m c H t r e)
  refine List.forall_mem_cons.2 ⟨?_, ?_⟩
  · intro x
    obtain ⟨r, e, rfl⟩ := ex128 x
    refine Eq.trans ?_ (congrArg (fun y : S1x512x512.Idx => R m c (ix3 (bt t) (row t (y 1)) (y 2))) (emb2 r e)).symm
    exact (head2_at _ _ _ r e).trans (blk2 m c H t r e)
  refine List.forall_mem_cons.2 ⟨?_, ?_⟩
  · intro x
    obtain ⟨r, e, rfl⟩ := ex128 x
    refine Eq.trans ?_ (congrArg (fun y : S1x512x512.Idx => R m c (ix3 (bt t) (row t (y 1)) (y 2))) (emb1 r e)).symm
    exact (head1_at _ _ _ r e).trans (blk1 m c H t r e)
  refine List.forall_mem_cons.2 ⟨?_, ?_⟩
  · intro x
    obtain ⟨r, e, rfl⟩ := ex128 x
    refine Eq.trans ?_ (congrArg (fun y : S1x512x512.Idx => R m c (ix3 (bt t) (row t (y 1)) (y 2))) (emb0 r e)).symm
    exact (head0_at _ _ _ r e).trans (blk0 m c H t r e)
  exact fun p hp => nomatch hp

/-- THE OUTPUT ARRAY after the run. -/
theorem final (c : Dev nD) (H : Reals m c) : (dats m 0 c).arrAt 3 (cfgs 0).N = R m c := by
  refine (dats m 0 c).arrAt_eq_of_covers 3 _ (by decide +kernel) fun t _ y => ?_
  blk_simp
  rw [after0_3]
  obtain ⟨r, e, rfl⟩ := ex512 y
  refine (point m c H t r e).trans ?_
  generalize R m c = A
  blk_point [idx t]

end Cert.MemAttnIdeal.Hand

end
-- ==== Proof.MemAttnClaims.lean ====
/- The claims about the attention over the memory. -/
module

public import proofs.«01_k».proof.Defs
public import proofs.«01_k».proof.Proof.MemAttnFinal
public import proofs.«01_k».proof.Proof.MlaFinal
public import proofs.«01_k».proof.Proof.Gen.MemAttn.Frame
public import proofs.«01_k».proof.Proof.Gen.MemAttnIdeal.Frame
public import proofs.«01_k».proof.Proof.Gen.MemAttnIdeal.Value
public import proofs.«01_k».proof.Proof.Gen.MemAttnRefIdeal.Run
public import proofs.«01_k».proof.Proof.Gen.Pre_mem_finite
public import Idealize.ShloMosaic.Lib.Claim

@[expose] public section

noncomputable section

namespace Cert.Proof.MemAttnClaims

open Idealize.ShloMosaic Idealize.ShloMosaic.TcCoe Idealize.SL.Sem

/-- The kernel runs and leaves its arguments. -/
theorem frame_p : Cert.quiescent_MemAttn := fun m ρ _ => Cert.MemAttn.Gen.frame m ρ

/-- The idealized kernel runs and leaves its arguments. -/
theorem frame_pi : Cert.quiescent_MemAttnIdeal := fun m ρ _ => Cert.MemAttnIdeal.Gen.frame m ρ

/-- The same from finite queries and keys. -/
theorem frame_pi_pre : Cert.quiescent_MemAttnIdeal_pre_mem_finite := fun m ρ _ => Cert.MemAttnIdeal.Gen.frame m ρ

/-- The reference runs and leaves its arguments. -/
theorem frame_ri : Cert.quiescent_MemAttnRefIdeal := fun m ρ _ =>
  (θ_run Cert.MemAttnRefIdeal.defs _ _).mono (fun r h => ⟨fun c => (h c).2, sem_eq_zero_of_no_sems (by decide) r.2⟩)
    (Cert.MemAttnRefIdeal.Value.run (F := Ideal) m ρ)

/-- The same from finite queries and keys. -/
theorem frame_ri_pre : Cert.quiescent_MemAttnRefIdeal_pre_mem_finite := fun m ρ _ => frame_ri m ρ trivial

/-- Nothing was rewritten. -/
theorem preserves : Cert.preserves_MemAttn_MemAttnIdeal := by
  trivial

/-- The precondition says that the queries and the keys are reals. -/
theorem reals (m : (ℓ : Loc Cert.MemAttnIdeal.nD Cert.MemAttnIdeal.τ Cert.MemAttnIdeal.sig) → Buf (Elt Ideal) ℓ)
    (h : Cert.Pre_MemAttnIdeal_mem_finite m) (c : Dev Cert.MemAttnIdeal.nD) : Cert.MemAttnIdeal.Hand.Reals m c :=
  ⟨fun i => Cert.MlaIdeal.Hand.real_of_lt (congrFun (h c).1 i), fun i => Cert.MlaIdeal.Hand.real_of_lt (congrFun (h c).2 i)⟩

set_option maxHeartbeats 2000000 in
/-- From finite queries and keys the kernel's result is the reference's. -/
theorem algebraic : Cert.algebraic_MemAttnIdeal_MemAttnRefIdeal_pre_mem_finite := by
  pair_intro
  · run_from Cert.MemAttnIdeal.Value.run_blocks m g
  · run_from Cert.MemAttnRefIdeal.Value.run m' g'
    have e := (Cert.MemAttnIdeal.Hand.final m c (reals m hpre c)).symm
    unfold Cert.MemAttnIdeal.Hand.R Cert.MemAttnRefIdeal.Hand.attn Cert.MemAttnRefIdeal.Hand.mix Cert.MemAttnRefIdeal.Hand.prob Cert.MemAttnRefIdeal.Hand.pexp Cert.MemAttnRefIdeal.Hand.top Cert.MemAttnRefIdeal.Hand.scores at e
    exact e

end Cert.Proof.MemAttnClaims

end
-- ==== Proof.lean ====
/- The proof of the certificate's claim: the claims of each call, assembled. -/
module

public import proofs.«01_k».proof.Defs
public import proofs.«01_k».proof.Proof.MlaClaims
public import proofs.«01_k».proof.Proof.OutClaims
public import proofs.«01_k».proof.Proof.ProjClaims
public import proofs.«01_k».proof.Proof.MemKvClaims
public import proofs.«01_k».proof.Proof.MemAttnClaims

@[expose] public section

noncomputable section

namespace Cert.Proof

open Idealize.ShloMosaic Idealize.SL.Sem

/-- Everything the certificate claims. -/
theorem claim : Cert.Claim :=
  ⟨Cert.Mla.Gen.facts, Cert.MlaIdeal.Gen.facts, Cert.MlaRefIdeal.Gen.facts, Cert.Out.Gen.facts, Cert.OutIdeal.Gen.facts, Cert.OutRefIdeal.Gen.facts, Cert.Proj.Gen.facts, Cert.ProjIdeal.Gen.facts, Cert.ProjRefIdeal.Gen.facts, Cert.MemKv.Gen.facts, Cert.MemKvIdeal.Gen.facts, Cert.MemKvRefIdeal.Gen.facts, Cert.MemAttn.Gen.facts, Cert.MemAttnIdeal.Gen.facts, Cert.MemAttnRefIdeal.Gen.facts,
    Cert.Pre_mla_finite.Gen.facts, Cert.Pre_proj_finite.Gen.facts, Cert.Pre_mem_finite.Gen.facts,
    MlaClaims.frame_p, MlaClaims.frame_pi, MlaClaims.frame_pi_pre, MlaClaims.frame_ri, MlaClaims.frame_ri_pre,
    OutClaims.frame_p, OutClaims.frame_pi, OutClaims.frame_ri,
    ProjClaims.frame_p, ProjClaims.frame_pi, ProjClaims.frame_pi_pre, ProjClaims.frame_ri, ProjClaims.frame_ri_pre,
    MemKvClaims.frame_p, MemKvClaims.frame_pi, MemKvClaims.frame_ri,
    MemAttnClaims.frame_p, MemAttnClaims.frame_pi, MemAttnClaims.frame_pi_pre, MemAttnClaims.frame_ri, MemAttnClaims.frame_ri_pre,
    MlaClaims.preserves, MlaClaims.algebraic,
    OutClaims.preserves, OutClaims.algebraic,
    ProjClaims.preserves, ProjClaims.algebraic,
    MemKvClaims.preserves, MemKvClaims.algebraic,
    MemAttnClaims.preserves, MemAttnClaims.algebraic⟩

end Cert.Proof

end
